-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_absmax_not_infinite [hPre_absmax_not_infinite : Cert.Pre_absmax_not_infinite.Facts] (m : (ℓ : Loc Cert.KernelIdeal.nD Cert.KernelIdeal.τ Cert.KernelIdeal.sig) → Buf (Elt Ideal) ℓ) : Prop :=
  ∀ c : Dev Cert.KernelIdeal.nD,
    (Cert.Pre_absmax_not_infinite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_absmax_not_infinite [hPre_absmax_not_infinite : Cert.Pre_absmax_not_infinite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_absmax_not_infinite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_absmax_not_infinite [hKernelIdeal : Cert.KernelIdeal.Facts] [hPre_absmax_not_infinite : Cert.Pre_absmax_not_infinite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_absmax_not_infinite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_absmax_not_infinite [hReferenceIdeal : Cert.ReferenceIdeal.Facts] [hPre_absmax_not_infinite : Cert.Pre_absmax_not_infinite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_absmax_not_infinite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_absmax_not_infinite [hKernelIdeal : Cert.KernelIdeal.Facts] [hReferenceIdeal : Cert.ReferenceIdeal.Facts] [hPre_absmax_not_infinite : Cert.Pre_absmax_not_infinite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_absmax_not_infinite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126_2) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v126_1) = v2 c
          ∧ r.2.mem ((c.tc : Thread Cert.ReferenceIdeal.nD Cert.ReferenceIdeal.τ).loc Cert.ReferenceIdeal.main_v123) = v3 c
          ∧ r.2.mem ((c.tc : Thread Cert.ReferenceIdeal.nD Cert.ReferenceIdeal.τ).loc Cert.ReferenceIdeal.main_v126_0) = v4 c
          ∧ r.2.mem ((c.tc : Thread Cert.ReferenceIdeal.nD Cert.ReferenceIdeal.τ).loc Cert.ReferenceIdeal.main_v125) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_absmax_not_infinite : Cert.Pre_absmax_not_infinite.Facts),
    quiescent_Kernel (hKernel := hKernel)
    ∧ quiescent_KernelIdeal (hKernelIdeal := hKernelIdeal)
    ∧ quiescent_KernelIdeal_pre_absmax_not_infinite (hKernelIdeal := hKernelIdeal) (hPre_absmax_not_infinite := hPre_absmax_not_infinite)
    ∧ quiescent_ReferenceIdeal (hReferenceIdeal := hReferenceIdeal)
    ∧ quiescent_ReferenceIdeal_pre_absmax_not_infinite (hReferenceIdeal := hReferenceIdeal) (hPre_absmax_not_infinite := hPre_absmax_not_infinite)
    ∧ preserves_Kernel_KernelIdeal
    ∧ algebraic_KernelIdeal_ReferenceIdeal_pre_absmax_not_infinite (hKernelIdeal := hKernelIdeal) (hReferenceIdeal := hReferenceIdeal) (hPre_absmax_not_infinite := hPre_absmax_not_infinite)
-- ==== Pre_absmax_not_infinite.lean ====
abbrev S4x256x3072 : Shape := ⟨3, ![4, 256, 3072]⟩
abbrev S3072x8192 : Shape := ⟨2, ![3072, 8192]⟩
abbrev S3072 : Shape := ⟨1, ![3072]⟩
abbrev S_ : Shape := ⟨0, ![]⟩

class Facts : Prop where
  bcast_S_S3072 : S_.BroadcastsInDim S3072 (![] : Fin 0 → Fin S3072.rank)

variable [Facts]

def fn {F : FTy → Type} [FloatOps F] (main_arg0 : FVec F S4x256x3072 .bf16) (main_arg1 : FVec F S3072x8192 .bf16) (main_arg2 : FVec F S3072 .f32) : IVec S3072 1 :=
  let main_cst : FVec F S_ .f32 := constant S_ .f32 0x7F800000#32
  let main_v0 : FVec F S3072 .f32 := broadcastInDim S3072 ![] bcast_S_S3072 main_cst
  let main_v1 : IVec S3072 1 := cmpf .olt main_arg2 main_v0
  main_v1
-- ==== Kernel.lean ====
abbrev S4x256x3072 : Shape := ⟨3, ![4, 256, 3072]⟩
abbrev S3072x8192 : Shape := ⟨2, ![3072, 8192]⟩
abbrev S3072 : Shape := ⟨1, ![3072]⟩
abbrev S1024x3072 : Shape := ⟨2, ![1024, 3072]⟩
abbrev S1x3072 : Shape := ⟨2, ![1, 3072]⟩
abbrev S1024x8192 : Shape := ⟨2, ![1024, 8192]⟩
abbrev S1x8192 : Shape := ⟨2, ![1, 8192]⟩
abbrev S4x256 : Shape := ⟨2, ![4, 256]⟩
abbrev S4x3072x512 : Shape := ⟨3, ![4, 3072, 512]⟩
abbrev S3072x512 : Shape := ⟨2, ![3072, 512]⟩
abbrev S3x3072x512 : Shape := ⟨3, ![3, 3072, 512]⟩
abbrev S3x1024x512 : Shape := ⟨3, ![3, 1024, 512]⟩
abbrev S3072x128 : Shape := ⟨2, ![3072, 128]⟩
abbrev S1024x128 : Shape := ⟨2, ![1024, 128]⟩
abbrev S3x512 : Shape := ⟨2, ![3, 512]⟩
abbrev S_ : Shape := ⟨0, ![]⟩
abbrev S4 : Shape := ⟨1, ![4]⟩
abbrev S3 : Shape := ⟨1, ![3]⟩
abbrev S1 : Shape := ⟨1, ![1]⟩
abbrev S1x3072x512 : Shape := ⟨3, ![1, 3072, 512]⟩
abbrev S16x128 : Shape := ⟨2, ![16, 128]⟩
abbrev S128 : Shape := ⟨1, ![128]⟩
abbrev S1x128 : Shape := ⟨2, ![1, 128]⟩
abbrev S128x128 : Shape := ⟨2, ![128, 128]⟩
abbrev S32x3072 : Shape := ⟨2, ![32, 3072]⟩
abbrev S32 : Shape := ⟨1, ![32]⟩
abbrev S32x1 : Shape := ⟨2, ![32, 1]⟩
abbrev S32x128 : Shape := ⟨2, ![32, 128]⟩
abbrev S1x16x512 : Shape := ⟨3, ![1, 16, 512]⟩
abbrev S16x512 : Shape := ⟨2, ![16, 512]⟩
abbrev S8x512 : Shape := ⟨2, ![8, 512]⟩
abbrev S512 : Shape := ⟨1, ![512]⟩
abbrev S1x512 : Shape := ⟨2, ![1, 512]⟩
abbrev S32x512 : Shape := ⟨2, ![32, 512]⟩
abbrev S1x32x512 : Shape := ⟨3, ![1, 32, 512]⟩
abbrev S1024x512 : Shape := ⟨2, ![1024, 512]⟩
abbrev S1x1024x512 : Shape := ⟨3, ![1, 1024, 512]⟩
abbrev S512x3072 : Shape := ⟨2, ![512, 3072]⟩
abbrev S512x512 : Shape := ⟨2, ![512, 512]⟩
abbrev S512x128 : Shape := ⟨2, ![512, 128]⟩
abbrev S1x512x512 : Shape := ⟨3, ![1, 512, 512]⟩

abbrev nBuf : Space → Nat
  | .hbm => 11
  | .vmem => 13
  | .smem => 0
  | _ => 0

abbrev bufTy : (tb : Table) → Fin (tcTables nBuf tb) → BufTy
  | .hbm, ⟨0, _⟩ => ⟨S4x256x3072, .bf16⟩
  | .hbm, ⟨1, _⟩ => ⟨S3072x8192, .bf16⟩
  | .hbm, ⟨2, _⟩ => ⟨S3072, .f32⟩
  | .hbm, ⟨3, _⟩ => ⟨S1024x3072, .bf16⟩
  | .hbm, ⟨4, _⟩ => ⟨S1x3072, .f32⟩
  | .hbm, ⟨5, _⟩ => ⟨S1024x8192, .bf16⟩
  | .hbm, ⟨6, _⟩ => ⟨S1x3072, .f32⟩
  | .hbm, ⟨7, _⟩ => ⟨S3072x8192, .fp8e4m3⟩
  | .hbm, ⟨8, _⟩ => ⟨S1x8192, .f32⟩
  | .hbm, ⟨9, _⟩ => ⟨S1024x3072, .fp8e4m3⟩
  | .hbm, ⟨10, _⟩ => ⟨S4x256, .f32⟩
  | .local _ .vmem, ⟨0, _⟩ => ⟨S1x3072, .f32⟩
  | .local _ .vmem, ⟨1, _⟩ => ⟨S1x3072, .f32⟩
  | .local _ .vmem, ⟨2, _⟩ => ⟨S1x8192, .f32⟩
  | .local _ .vmem, ⟨3, _⟩ => ⟨S4x256, .f32⟩
  | .local _ .vmem, ⟨4, _⟩ => ⟨S1024x3072, .bf16⟩
  | .local _ .vmem, ⟨5, _⟩ => ⟨S1024x3072, .fp8e4m3⟩
  | .local _ .vmem, ⟨6, _⟩ => ⟨S4x3072x512, .bf16⟩
  | .local _ .vmem, ⟨7, _⟩ => ⟨S3072x512, .f32⟩
  | .local _ .vmem, ⟨8, _⟩ => ⟨S3x3072x512, .fp8e4m3⟩
  | .local _ .vmem, ⟨9, _⟩ => ⟨S3x1024x512, .bf16⟩
  | .local _ .vmem, ⟨10, _⟩ => ⟨S3072x128, .f32⟩
  | .local _ .vmem, ⟨11, _⟩ => ⟨S1024x128, .f32⟩
  | .local _ .vmem, ⟨12, _⟩ => ⟨S3x512, .f32⟩
  | _, _ => ⟨S4x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
@[reducible] def k0_t1_loop : Scf.Loop 32 :=
  let c0_i32_3227 : BitVec 32 := 0#32
  let c32_i32 : BitVec 32 := 32#32
  let v5068 : BitVec 32 := Scalar.addi c0_i32_3227 c32_i32
  let c1_i32_3228 : BitVec 32 := 1#32
  ⟨c0_i32_3227, v5068, c1_i32_3228⟩
def k0_mult5 (k0_t1 : Fin k0_t1_loop.trips) : BitVec 32 :=
  let c0_i32_5308 : BitVec 32 := 0#32
  let c0_i32_3227 : BitVec 32 := 0#32
  let c1_i32_3228 : BitVec 32 := 1#32
  let arg23 : BitVec 32 := Scf.iv c0_i32_3227 c1_i32_3228 k0_t1
  let c1_i32_5307 : BitVec 32 := 1#32
  let v9273 : BitVec 32 := Scalar.muli arg23 c1_i32_5307
  let v9274 : BitVec 32 := Scalar.addi c0_i32_5308 v9273
  let c32_i32_5309 : BitVec 32 := 32#32
  let v9275 : BitVec 32 := Scalar.muli v9274 c32_i32_5309
  v9275
def k0_off1 (k0_t1 : Fin k0_t1_loop.trips) : Fin 2 → Nat :=
  let c0_i32_5308 : BitVec 32 := 0#32
  let c0_i32_3227 : BitVec 32 := 0#32
  let c1_i32_3228 : BitVec 32 := 1#32
  let arg23 : BitVec 32 := Scf.iv c0_i32_3227 c1_i32_3228 k0_t1
  let c1_i32_5307 : BitVec 32 := 1#32
  let v9273 : BitVec 32 := Scalar.muli arg23 c1_i32_5307
  let v9274 : BitVec 32 := Scalar.addi c0_i32_5308 v9273
  let c32_i32_5309 : BitVec 32 := 32#32
  let v9275 : BitVec 32 := Scalar.muli v9274 c32_i32_5309
  let v9276 : BitVec 32 := v9275
  let v9277 : Index := Scalar.indexCast v9276
  let c0_5310 : Index := 0#32
  ![v9277.toNat, 0]
def k0_off2 (k0_t1 : Fin k0_t1_loop.trips) : Fin 2 → Nat :=
  let c0_i32_5308 : BitVec 32 := 0#32
  let c0_i32_3227 : BitVec 32 := 0#32
  let c1_i32_3228 : BitVec 32 := 1#32
  let arg23 : BitVec 32 := Scf.iv c0_i32_3227 c1_i32_3228 k0_t1
  let c1_i32_5307 : BitVec 32 := 1#32
  let v9273 : BitVec 32 := Scalar.muli arg23 c1_i32_5307
  let v9274 : BitVec 32 := Scalar.addi c0_i32_5308 v9273
  let c32_i32_5309 : BitVec 32 := 32#32
  let v9275 : BitVec 32 := Scalar.muli v9274 c32_i32_5309
  let v9276 : BitVec 32 := v9275
  let v9414 : Index := Scalar.indexCast v9276
  let c0_5360 : Index := 0#32
  ![v9414.toNat, 0]
def k0_mult6 : BitVec 32 :=
  let c0_i32_3275 : BitVec 32 := 0#32
  c0_i32_3275
def k0_mult7 : BitVec 32 :=
  let c0_i32_4549 : BitVec 32 := 0#32
  c0_i32_4549
def k0_mult8 : BitVec 32 :=
  let c0_i32_5225 : BitVec 32 := 0#32
  c0_i32_5225
def k0_mult9 : BitVec 32 :=
  let c2048_i32 : BitVec 32 := 2048#32
  c2048_i32
@[reducible] def k0_t2_loop : Scf.Loop 32 :=
  let c0_i32_5236 : BitVec 32 := 0#32
  let c15_i32 : BitVec 32 := 15#32
  let v9197 : BitVec 32 := Scalar.addi c0_i32_5236 c15_i32
  let c1_i32_5237 : BitVec 32 := 1#32
  ⟨c0_i32_5236, v9197, c1_i32_5237⟩
def k0_mult10 (k0_t2 : Fin k0_t2_loop.trips) : BitVec 32 :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c512_i32_5313 : BitVec 32 := 512#32
  let v9279 : BitVec 32 := Scalar.muli v9274 c512_i32_5313
  v9279
def k0_off3 (k0_t2 : Fin k0_t2_loop.trips) : Fin 1 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  ![v9275.toNat]
def k0_off4 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let c0_i32_5314 : BitVec 32 := 0#32
  let c0_i32_5315 : BitVec 32 := 0#32
  ![v9275.toNat, 0, 0]
def k0_off5 (k0_t2 : Fin k0_t2_loop.trips) : Fin 2 → Nat :=
  let c0_i32_5316 : BitVec 32 := 0#32
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c512_i32_5313 : BitVec 32 := 512#32
  let v9279 : BitVec 32 := Scalar.muli v9274 c512_i32_5313
  let v9280 : BitVec 32 := v9279
  ![0, v9280.toNat]
def k0_cond1 (k0_t2 : Fin k0_t2_loop.trips) : BitVec 1 :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5317 : BitVec 32 := 3#32
  let v9286 : BitVec 1 := Scalar.cmpi .sge v9274 c3_i32_5317
  let v9287 : BitVec 32 := Scalar.extui v9286
  let c0_i32_5318 : BitVec 32 := 0#32
  let v9288 : BitVec 1 := Scalar.cmpi .ne v9287 c0_i32_5318
  v9288

def k0_mult11 (k0_t2 : Fin k0_t2_loop.trips) : BitVec 32 :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_7129 : BitVec 32 := 3#32
  let v13692 : BitVec 32 := Scalar.subi v9274 c3_i32_7129
  let c512_i32_7130 : BitVec 32 := 512#32
  let v13693 : BitVec 32 := Scalar.muli v13692 c512_i32_7130
  v13693
def k0_off6 (k0_t2 : Fin k0_t2_loop.trips) : Fin 1 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  ![v9276.toNat]
def k0_off7 (k0_t2 : Fin k0_t2_loop.trips) : Fin 2 → Nat :=
  let c0_i32_7131 : BitVec 32 := 0#32
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_7129 : BitVec 32 := 3#32
  let v13692 : BitVec 32 := Scalar.subi v9274 c3_i32_7129
  let c512_i32_7130 : BitVec 32 := 512#32
  let v13693 : BitVec 32 := Scalar.muli v13692 c512_i32_7130
  let v13694 : BitVec 32 := v13693
  ![0, v13694.toNat]
def k0_off8 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let c0_i32_7132 : BitVec 32 := 0#32
  let c0_i32_7133 : BitVec 32 := 0#32
  ![v9276.toNat, 0, 0]
def k0_cond2 (k0_t2 : Fin k0_t2_loop.trips) : BitVec 1 :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5319 : BitVec 32 := 4#32
  let v9289 : BitVec 1 := Scalar.cmpi .sge v9274 c4_i32_5319
  let v9290 : BitVec 32 := Scalar.extui v9289
  let c0_i32_5320 : BitVec 32 := 0#32
  let v9291 : BitVec 1 := Scalar.cmpi .ne v9290 c0_i32_5320
  v9291

def k0_mult12 (k0_t2 : Fin k0_t2_loop.trips) : BitVec 32 :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_7129 : BitVec 32 := 1#32
  let v13692 : BitVec 32 := Scalar.subi v9274 c1_i32_7129
  let c3_i32_7130 : BitVec 32 := 3#32
  let v13693 : BitVec 32 := Scalar.subi v13692 c3_i32_7130
  let c512_i32_7131 : BitVec 32 := 512#32
  let v13694 : BitVec 32 := Scalar.muli v13693 c512_i32_7131
  v13694
def k0_off9 (k0_t2 : Fin k0_t2_loop.trips) : Fin 1 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_5311 : BitVec 32 := 1#32
  let v9277 : BitVec 32 := Scalar.subi v9274 c1_i32_5311
  let c3_i32_5312 : BitVec 32 := 3#32
  let v9278 : BitVec 32 := Scalar.remsi v9277 c3_i32_5312
  ![v9278.toNat]
def k0_off10 (k0_t2 : Fin k0_t2_loop.trips) : Fin 2 → Nat :=
  let c0_i32_7132 : BitVec 32 := 0#32
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_7129 : BitVec 32 := 1#32
  let v13692 : BitVec 32 := Scalar.subi v9274 c1_i32_7129
  let c3_i32_7130 : BitVec 32 := 3#32
  let v13693 : BitVec 32 := Scalar.subi v13692 c3_i32_7130
  let c512_i32_7131 : BitVec 32 := 512#32
  let v13694 : BitVec 32 := Scalar.muli v13693 c512_i32_7131
  let v13695 : BitVec 32 := v13694
  ![0, v13695.toNat]
def k0_off11 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_5311 : BitVec 32 := 1#32
  let v9277 : BitVec 32 := Scalar.subi v9274 c1_i32_5311
  let c3_i32_5312 : BitVec 32 := 3#32
  let v9278 : BitVec 32 := Scalar.remsi v9277 c3_i32_5312
  let c0_i32_7133 : BitVec 32 := 0#32
  let c0_i32_7134 : BitVec 32 := 0#32
  ![v9278.toNat, 0, 0]
def k0_off12 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9292 : Index := Scalar.indexCast v9275
  let c0_5321 : Index := 0#32
  let c0_5322 : Index := 0#32
  ![v9292.toNat, 0, 0]
def k0_off13 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9307 : Index := Scalar.indexCast v9275
  let c16_5327 : Index := 16#32
  let c0_5328 : Index := 0#32
  ![v9307.toNat, 16, 0]
def k0_off14 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9323 : Index := Scalar.indexCast v9275
  let c32_5333 : Index := 32#32
  let c0_5334 : Index := 0#32
  ![v9323.toNat, 32, 0]
def k0_off15 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9339 : Index := Scalar.indexCast v9275
  let c48_5339 : Index := 48#32
  let c0_5340 : Index := 0#32
  ![v9339.toNat, 48, 0]
def k0_off16 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9355 : Index := Scalar.indexCast v9275
  let c64_5345 : Index := 64#32
  let c0_5346 : Index := 0#32
  ![v9355.toNat, 64, 0]
def k0_off17 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9371 : Index := Scalar.indexCast v9275
  let c80_5351 : Index := 80#32
  let c0_5352 : Index := 0#32
  ![v9371.toNat, 80, 0]
def k0_off18 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9387 : Index := Scalar.indexCast v9275
  let c96_5357 : Index := 96#32
  let c0_5358 : Index := 0#32
  ![v9387.toNat, 96, 0]
def k0_off19 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9403 : Index := Scalar.indexCast v9275
  let c112_5363 : Index := 112#32
  let c0_5364 : Index := 0#32
  ![v9403.toNat, 112, 0]
def k0_off20 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9419 : Index := Scalar.indexCast v9275
  let c128_5369 : Index := 128#32
  let c0_5370 : Index := 0#32
  ![v9419.toNat, 128, 0]
def k0_off21 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9435 : Index := Scalar.indexCast v9275
  let c144_5375 : Index := 144#32
  let c0_5376 : Index := 0#32
  ![v9435.toNat, 144, 0]
def k0_off22 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9451 : Index := Scalar.indexCast v9275
  let c160_5381 : Index := 160#32
  let c0_5382 : Index := 0#32
  ![v9451.toNat, 160, 0]
def k0_off23 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9467 : Index := Scalar.indexCast v9275
  let c176_5387 : Index := 176#32
  let c0_5388 : Index := 0#32
  ![v9467.toNat, 176, 0]
def k0_off24 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9483 : Index := Scalar.indexCast v9275
  let c192_5393 : Index := 192#32
  let c0_5394 : Index := 0#32
  ![v9483.toNat, 192, 0]
def k0_off25 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9499 : Index := Scalar.indexCast v9275
  let c208_5399 : Index := 208#32
  let c0_5400 : Index := 0#32
  ![v9499.toNat, 208, 0]
def k0_off26 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9515 : Index := Scalar.indexCast v9275
  let c224_5405 : Index := 224#32
  let c0_5406 : Index := 0#32
  ![v9515.toNat, 224, 0]
def k0_off27 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9531 : Index := Scalar.indexCast v9275
  let c240_5411 : Index := 240#32
  let c0_5412 : Index := 0#32
  ![v9531.toNat, 240, 0]
def k0_off28 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9547 : Index := Scalar.indexCast v9275
  let c256_5417 : Index := 256#32
  let c0_5418 : Index := 0#32
  ![v9547.toNat, 256, 0]
def k0_off29 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9563 : Index := Scalar.indexCast v9275
  let c272_5423 : Index := 272#32
  let c0_5424 : Index := 0#32
  ![v9563.toNat, 272, 0]
def k0_off30 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9579 : Index := Scalar.indexCast v9275
  let c288_5429 : Index := 288#32
  let c0_5430 : Index := 0#32
  ![v9579.toNat, 288, 0]
def k0_off31 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9595 : Index := Scalar.indexCast v9275
  let c304_5435 : Index := 304#32
  let c0_5436 : Index := 0#32
  ![v9595.toNat, 304, 0]
def k0_off32 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9611 : Index := Scalar.indexCast v9275
  let c320_5441 : Index := 320#32
  let c0_5442 : Index := 0#32
  ![v9611.toNat, 320, 0]
def k0_off33 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9627 : Index := Scalar.indexCast v9275
  let c336_5447 : Index := 336#32
  let c0_5448 : Index := 0#32
  ![v9627.toNat, 336, 0]
def k0_off34 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9643 : Index := Scalar.indexCast v9275
  let c352_5453 : Index := 352#32
  let c0_5454 : Index := 0#32
  ![v9643.toNat, 352, 0]
def k0_off35 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9659 : Index := Scalar.indexCast v9275
  let c368_5459 : Index := 368#32
  let c0_5460 : Index := 0#32
  ![v9659.toNat, 368, 0]
def k0_off36 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9675 : Index := Scalar.indexCast v9275
  let c384_5465 : Index := 384#32
  let c0_5466 : Index := 0#32
  ![v9675.toNat, 384, 0]
def k0_off37 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9691 : Index := Scalar.indexCast v9275
  let c400_5471 : Index := 400#32
  let c0_5472 : Index := 0#32
  ![v9691.toNat, 400, 0]
def k0_off38 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9707 : Index := Scalar.indexCast v9275
  let c416_5477 : Index := 416#32
  let c0_5478 : Index := 0#32
  ![v9707.toNat, 416, 0]
def k0_off39 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9723 : Index := Scalar.indexCast v9275
  let c432_5483 : Index := 432#32
  let c0_5484 : Index := 0#32
  ![v9723.toNat, 432, 0]
def k0_off40 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9739 : Index := Scalar.indexCast v9275
  let c448_5489 : Index := 448#32
  let c0_5490 : Index := 0#32
  ![v9739.toNat, 448, 0]
def k0_off41 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9755 : Index := Scalar.indexCast v9275
  let c464_5495 : Index := 464#32
  let c0_5496 : Index := 0#32
  ![v9755.toNat, 464, 0]
def k0_off42 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9771 : Index := Scalar.indexCast v9275
  let c480_5501 : Index := 480#32
  let c0_5502 : Index := 0#32
  ![v9771.toNat, 480, 0]
def k0_off43 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9787 : Index := Scalar.indexCast v9275
  let c496_5507 : Index := 496#32
  let c0_5508 : Index := 0#32
  ![v9787.toNat, 496, 0]
def k0_off44 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9803 : Index := Scalar.indexCast v9275
  let c512_5513 : Index := 512#32
  let c0_5514 : Index := 0#32
  ![v9803.toNat, 512, 0]
def k0_off45 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9819 : Index := Scalar.indexCast v9275
  let c528_5519 : Index := 528#32
  let c0_5520 : Index := 0#32
  ![v9819.toNat, 528, 0]
def k0_off46 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9835 : Index := Scalar.indexCast v9275
  let c544_5525 : Index := 544#32
  let c0_5526 : Index := 0#32
  ![v9835.toNat, 544, 0]
def k0_off47 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9851 : Index := Scalar.indexCast v9275
  let c560_5531 : Index := 560#32
  let c0_5532 : Index := 0#32
  ![v9851.toNat, 560, 0]
def k0_off48 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9867 : Index := Scalar.indexCast v9275
  let c576_5537 : Index := 576#32
  let c0_5538 : Index := 0#32
  ![v9867.toNat, 576, 0]
def k0_off49 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9883 : Index := Scalar.indexCast v9275
  let c592_5543 : Index := 592#32
  let c0_5544 : Index := 0#32
  ![v9883.toNat, 592, 0]
def k0_off50 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9899 : Index := Scalar.indexCast v9275
  let c608_5549 : Index := 608#32
  let c0_5550 : Index := 0#32
  ![v9899.toNat, 608, 0]
def k0_off51 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9915 : Index := Scalar.indexCast v9275
  let c624_5555 : Index := 624#32
  let c0_5556 : Index := 0#32
  ![v9915.toNat, 624, 0]
def k0_off52 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9931 : Index := Scalar.indexCast v9275
  let c640_5561 : Index := 640#32
  let c0_5562 : Index := 0#32
  ![v9931.toNat, 640, 0]
def k0_off53 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9947 : Index := Scalar.indexCast v9275
  let c656_5567 : Index := 656#32
  let c0_5568 : Index := 0#32
  ![v9947.toNat, 656, 0]
def k0_off54 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9963 : Index := Scalar.indexCast v9275
  let c672_5573 : Index := 672#32
  let c0_5574 : Index := 0#32
  ![v9963.toNat, 672, 0]
def k0_off55 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9979 : Index := Scalar.indexCast v9275
  let c688_5579 : Index := 688#32
  let c0_5580 : Index := 0#32
  ![v9979.toNat, 688, 0]
def k0_off56 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v9995 : Index := Scalar.indexCast v9275
  let c704_5585 : Index := 704#32
  let c0_5586 : Index := 0#32
  ![v9995.toNat, 704, 0]
def k0_off57 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10011 : Index := Scalar.indexCast v9275
  let c720_5591 : Index := 720#32
  let c0_5592 : Index := 0#32
  ![v10011.toNat, 720, 0]
def k0_off58 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10027 : Index := Scalar.indexCast v9275
  let c736_5597 : Index := 736#32
  let c0_5598 : Index := 0#32
  ![v10027.toNat, 736, 0]
def k0_off59 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10043 : Index := Scalar.indexCast v9275
  let c752_5603 : Index := 752#32
  let c0_5604 : Index := 0#32
  ![v10043.toNat, 752, 0]
def k0_off60 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10059 : Index := Scalar.indexCast v9275
  let c768_5609 : Index := 768#32
  let c0_5610 : Index := 0#32
  ![v10059.toNat, 768, 0]
def k0_off61 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10075 : Index := Scalar.indexCast v9275
  let c784_5615 : Index := 784#32
  let c0_5616 : Index := 0#32
  ![v10075.toNat, 784, 0]
def k0_off62 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10091 : Index := Scalar.indexCast v9275
  let c800_5621 : Index := 800#32
  let c0_5622 : Index := 0#32
  ![v10091.toNat, 800, 0]
def k0_off63 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10107 : Index := Scalar.indexCast v9275
  let c816_5627 : Index := 816#32
  let c0_5628 : Index := 0#32
  ![v10107.toNat, 816, 0]
def k0_off64 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10123 : Index := Scalar.indexCast v9275
  let c832_5633 : Index := 832#32
  let c0_5634 : Index := 0#32
  ![v10123.toNat, 832, 0]
def k0_off65 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10139 : Index := Scalar.indexCast v9275
  let c848_5639 : Index := 848#32
  let c0_5640 : Index := 0#32
  ![v10139.toNat, 848, 0]
def k0_off66 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10155 : Index := Scalar.indexCast v9275
  let c864_5645 : Index := 864#32
  let c0_5646 : Index := 0#32
  ![v10155.toNat, 864, 0]
def k0_off67 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10171 : Index := Scalar.indexCast v9275
  let c880_5651 : Index := 880#32
  let c0_5652 : Index := 0#32
  ![v10171.toNat, 880, 0]
def k0_off68 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10187 : Index := Scalar.indexCast v9275
  let c896_5657 : Index := 896#32
  let c0_5658 : Index := 0#32
  ![v10187.toNat, 896, 0]
def k0_off69 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10203 : Index := Scalar.indexCast v9275
  let c912_5663 : Index := 912#32
  let c0_5664 : Index := 0#32
  ![v10203.toNat, 912, 0]
def k0_off70 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10219 : Index := Scalar.indexCast v9275
  let c928_5669 : Index := 928#32
  let c0_5670 : Index := 0#32
  ![v10219.toNat, 928, 0]
def k0_off71 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10235 : Index := Scalar.indexCast v9275
  let c944_5675 : Index := 944#32
  let c0_5676 : Index := 0#32
  ![v10235.toNat, 944, 0]
def k0_off72 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10251 : Index := Scalar.indexCast v9275
  let c960_5681 : Index := 960#32
  let c0_5682 : Index := 0#32
  ![v10251.toNat, 960, 0]
def k0_off73 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10267 : Index := Scalar.indexCast v9275
  let c976_5687 : Index := 976#32
  let c0_5688 : Index := 0#32
  ![v10267.toNat, 976, 0]
def k0_off74 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10283 : Index := Scalar.indexCast v9275
  let c992_5693 : Index := 992#32
  let c0_5694 : Index := 0#32
  ![v10283.toNat, 992, 0]
def k0_off75 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10299 : Index := Scalar.indexCast v9275
  let c1008_5699 : Index := 1008#32
  let c0_5700 : Index := 0#32
  ![v10299.toNat, 1008, 0]
def k0_off76 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10315 : Index := Scalar.indexCast v9275
  let c1024_5705 : Index := 1024#32
  let c0_5706 : Index := 0#32
  ![v10315.toNat, 1024, 0]
def k0_off77 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10331 : Index := Scalar.indexCast v9275
  let c1040_5711 : Index := 1040#32
  let c0_5712 : Index := 0#32
  ![v10331.toNat, 1040, 0]
def k0_off78 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10347 : Index := Scalar.indexCast v9275
  let c1056_5717 : Index := 1056#32
  let c0_5718 : Index := 0#32
  ![v10347.toNat, 1056, 0]
def k0_off79 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10363 : Index := Scalar.indexCast v9275
  let c1072_5723 : Index := 1072#32
  let c0_5724 : Index := 0#32
  ![v10363.toNat, 1072, 0]
def k0_off80 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10379 : Index := Scalar.indexCast v9275
  let c1088_5729 : Index := 1088#32
  let c0_5730 : Index := 0#32
  ![v10379.toNat, 1088, 0]
def k0_off81 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10395 : Index := Scalar.indexCast v9275
  let c1104_5735 : Index := 1104#32
  let c0_5736 : Index := 0#32
  ![v10395.toNat, 1104, 0]
def k0_off82 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10411 : Index := Scalar.indexCast v9275
  let c1120_5741 : Index := 1120#32
  let c0_5742 : Index := 0#32
  ![v10411.toNat, 1120, 0]
def k0_off83 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10427 : Index := Scalar.indexCast v9275
  let c1136_5747 : Index := 1136#32
  let c0_5748 : Index := 0#32
  ![v10427.toNat, 1136, 0]
def k0_off84 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10443 : Index := Scalar.indexCast v9275
  let c1152_5753 : Index := 1152#32
  let c0_5754 : Index := 0#32
  ![v10443.toNat, 1152, 0]
def k0_off85 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10459 : Index := Scalar.indexCast v9275
  let c1168_5759 : Index := 1168#32
  let c0_5760 : Index := 0#32
  ![v10459.toNat, 1168, 0]
def k0_off86 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10475 : Index := Scalar.indexCast v9275
  let c1184_5765 : Index := 1184#32
  let c0_5766 : Index := 0#32
  ![v10475.toNat, 1184, 0]
def k0_off87 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10491 : Index := Scalar.indexCast v9275
  let c1200_5771 : Index := 1200#32
  let c0_5772 : Index := 0#32
  ![v10491.toNat, 1200, 0]
def k0_off88 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10507 : Index := Scalar.indexCast v9275
  let c1216_5777 : Index := 1216#32
  let c0_5778 : Index := 0#32
  ![v10507.toNat, 1216, 0]
def k0_off89 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10523 : Index := Scalar.indexCast v9275
  let c1232_5783 : Index := 1232#32
  let c0_5784 : Index := 0#32
  ![v10523.toNat, 1232, 0]
def k0_off90 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10539 : Index := Scalar.indexCast v9275
  let c1248_5789 : Index := 1248#32
  let c0_5790 : Index := 0#32
  ![v10539.toNat, 1248, 0]
def k0_off91 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10555 : Index := Scalar.indexCast v9275
  let c1264_5795 : Index := 1264#32
  let c0_5796 : Index := 0#32
  ![v10555.toNat, 1264, 0]
def k0_off92 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10571 : Index := Scalar.indexCast v9275
  let c1280_5801 : Index := 1280#32
  let c0_5802 : Index := 0#32
  ![v10571.toNat, 1280, 0]
def k0_off93 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10587 : Index := Scalar.indexCast v9275
  let c1296_5807 : Index := 1296#32
  let c0_5808 : Index := 0#32
  ![v10587.toNat, 1296, 0]
def k0_off94 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10603 : Index := Scalar.indexCast v9275
  let c1312_5813 : Index := 1312#32
  let c0_5814 : Index := 0#32
  ![v10603.toNat, 1312, 0]
def k0_off95 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10619 : Index := Scalar.indexCast v9275
  let c1328_5819 : Index := 1328#32
  let c0_5820 : Index := 0#32
  ![v10619.toNat, 1328, 0]
def k0_off96 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10635 : Index := Scalar.indexCast v9275
  let c1344_5825 : Index := 1344#32
  let c0_5826 : Index := 0#32
  ![v10635.toNat, 1344, 0]
def k0_off97 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10651 : Index := Scalar.indexCast v9275
  let c1360_5831 : Index := 1360#32
  let c0_5832 : Index := 0#32
  ![v10651.toNat, 1360, 0]
def k0_off98 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10667 : Index := Scalar.indexCast v9275
  let c1376_5837 : Index := 1376#32
  let c0_5838 : Index := 0#32
  ![v10667.toNat, 1376, 0]
def k0_off99 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10683 : Index := Scalar.indexCast v9275
  let c1392_5843 : Index := 1392#32
  let c0_5844 : Index := 0#32
  ![v10683.toNat, 1392, 0]
def k0_off100 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10699 : Index := Scalar.indexCast v9275
  let c1408_5849 : Index := 1408#32
  let c0_5850 : Index := 0#32
  ![v10699.toNat, 1408, 0]
def k0_off101 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10715 : Index := Scalar.indexCast v9275
  let c1424_5855 : Index := 1424#32
  let c0_5856 : Index := 0#32
  ![v10715.toNat, 1424, 0]
def k0_off102 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10731 : Index := Scalar.indexCast v9275
  let c1440_5861 : Index := 1440#32
  let c0_5862 : Index := 0#32
  ![v10731.toNat, 1440, 0]
def k0_off103 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10747 : Index := Scalar.indexCast v9275
  let c1456_5867 : Index := 1456#32
  let c0_5868 : Index := 0#32
  ![v10747.toNat, 1456, 0]
def k0_off104 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10763 : Index := Scalar.indexCast v9275
  let c1472_5873 : Index := 1472#32
  let c0_5874 : Index := 0#32
  ![v10763.toNat, 1472, 0]
def k0_off105 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10779 : Index := Scalar.indexCast v9275
  let c1488_5879 : Index := 1488#32
  let c0_5880 : Index := 0#32
  ![v10779.toNat, 1488, 0]
def k0_off106 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10795 : Index := Scalar.indexCast v9275
  let c1504_5885 : Index := 1504#32
  let c0_5886 : Index := 0#32
  ![v10795.toNat, 1504, 0]
def k0_off107 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10811 : Index := Scalar.indexCast v9275
  let c1520_5891 : Index := 1520#32
  let c0_5892 : Index := 0#32
  ![v10811.toNat, 1520, 0]
def k0_off108 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10827 : Index := Scalar.indexCast v9275
  let c1536_5897 : Index := 1536#32
  let c0_5898 : Index := 0#32
  ![v10827.toNat, 1536, 0]
def k0_off109 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10843 : Index := Scalar.indexCast v9275
  let c1552_5903 : Index := 1552#32
  let c0_5904 : Index := 0#32
  ![v10843.toNat, 1552, 0]
def k0_off110 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10859 : Index := Scalar.indexCast v9275
  let c1568_5909 : Index := 1568#32
  let c0_5910 : Index := 0#32
  ![v10859.toNat, 1568, 0]
def k0_off111 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10875 : Index := Scalar.indexCast v9275
  let c1584_5915 : Index := 1584#32
  let c0_5916 : Index := 0#32
  ![v10875.toNat, 1584, 0]
def k0_off112 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10891 : Index := Scalar.indexCast v9275
  let c1600_5921 : Index := 1600#32
  let c0_5922 : Index := 0#32
  ![v10891.toNat, 1600, 0]
def k0_off113 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10907 : Index := Scalar.indexCast v9275
  let c1616_5927 : Index := 1616#32
  let c0_5928 : Index := 0#32
  ![v10907.toNat, 1616, 0]
def k0_off114 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10923 : Index := Scalar.indexCast v9275
  let c1632_5933 : Index := 1632#32
  let c0_5934 : Index := 0#32
  ![v10923.toNat, 1632, 0]
def k0_off115 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10939 : Index := Scalar.indexCast v9275
  let c1648_5939 : Index := 1648#32
  let c0_5940 : Index := 0#32
  ![v10939.toNat, 1648, 0]
def k0_off116 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10955 : Index := Scalar.indexCast v9275
  let c1664_5945 : Index := 1664#32
  let c0_5946 : Index := 0#32
  ![v10955.toNat, 1664, 0]
def k0_off117 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10971 : Index := Scalar.indexCast v9275
  let c1680_5951 : Index := 1680#32
  let c0_5952 : Index := 0#32
  ![v10971.toNat, 1680, 0]
def k0_off118 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v10987 : Index := Scalar.indexCast v9275
  let c1696_5957 : Index := 1696#32
  let c0_5958 : Index := 0#32
  ![v10987.toNat, 1696, 0]
def k0_off119 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11003 : Index := Scalar.indexCast v9275
  let c1712_5963 : Index := 1712#32
  let c0_5964 : Index := 0#32
  ![v11003.toNat, 1712, 0]
def k0_off120 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11019 : Index := Scalar.indexCast v9275
  let c1728_5969 : Index := 1728#32
  let c0_5970 : Index := 0#32
  ![v11019.toNat, 1728, 0]
def k0_off121 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11035 : Index := Scalar.indexCast v9275
  let c1744_5975 : Index := 1744#32
  let c0_5976 : Index := 0#32
  ![v11035.toNat, 1744, 0]
def k0_off122 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11051 : Index := Scalar.indexCast v9275
  let c1760_5981 : Index := 1760#32
  let c0_5982 : Index := 0#32
  ![v11051.toNat, 1760, 0]
def k0_off123 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11067 : Index := Scalar.indexCast v9275
  let c1776_5987 : Index := 1776#32
  let c0_5988 : Index := 0#32
  ![v11067.toNat, 1776, 0]
def k0_off124 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11083 : Index := Scalar.indexCast v9275
  let c1792_5993 : Index := 1792#32
  let c0_5994 : Index := 0#32
  ![v11083.toNat, 1792, 0]
def k0_off125 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11099 : Index := Scalar.indexCast v9275
  let c1808_5999 : Index := 1808#32
  let c0_6000 : Index := 0#32
  ![v11099.toNat, 1808, 0]
def k0_off126 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11115 : Index := Scalar.indexCast v9275
  let c1824_6005 : Index := 1824#32
  let c0_6006 : Index := 0#32
  ![v11115.toNat, 1824, 0]
def k0_off127 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11131 : Index := Scalar.indexCast v9275
  let c1840_6011 : Index := 1840#32
  let c0_6012 : Index := 0#32
  ![v11131.toNat, 1840, 0]
def k0_off128 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11147 : Index := Scalar.indexCast v9275
  let c1856_6017 : Index := 1856#32
  let c0_6018 : Index := 0#32
  ![v11147.toNat, 1856, 0]
def k0_off129 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11163 : Index := Scalar.indexCast v9275
  let c1872_6023 : Index := 1872#32
  let c0_6024 : Index := 0#32
  ![v11163.toNat, 1872, 0]
def k0_off130 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11179 : Index := Scalar.indexCast v9275
  let c1888_6029 : Index := 1888#32
  let c0_6030 : Index := 0#32
  ![v11179.toNat, 1888, 0]
def k0_off131 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11195 : Index := Scalar.indexCast v9275
  let c1904_6035 : Index := 1904#32
  let c0_6036 : Index := 0#32
  ![v11195.toNat, 1904, 0]
def k0_off132 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11211 : Index := Scalar.indexCast v9275
  let c1920_6041 : Index := 1920#32
  let c0_6042 : Index := 0#32
  ![v11211.toNat, 1920, 0]
def k0_off133 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11227 : Index := Scalar.indexCast v9275
  let c1936_6047 : Index := 1936#32
  let c0_6048 : Index := 0#32
  ![v11227.toNat, 1936, 0]
def k0_off134 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11243 : Index := Scalar.indexCast v9275
  let c1952_6053 : Index := 1952#32
  let c0_6054 : Index := 0#32
  ![v11243.toNat, 1952, 0]
def k0_off135 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11259 : Index := Scalar.indexCast v9275
  let c1968_6059 : Index := 1968#32
  let c0_6060 : Index := 0#32
  ![v11259.toNat, 1968, 0]
def k0_off136 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11275 : Index := Scalar.indexCast v9275
  let c1984_6065 : Index := 1984#32
  let c0_6066 : Index := 0#32
  ![v11275.toNat, 1984, 0]
def k0_off137 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11291 : Index := Scalar.indexCast v9275
  let c2000_6071 : Index := 2000#32
  let c0_6072 : Index := 0#32
  ![v11291.toNat, 2000, 0]
def k0_off138 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11307 : Index := Scalar.indexCast v9275
  let c2016_6077 : Index := 2016#32
  let c0_6078 : Index := 0#32
  ![v11307.toNat, 2016, 0]
def k0_off139 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11323 : Index := Scalar.indexCast v9275
  let c2032_6083 : Index := 2032#32
  let c0_6084 : Index := 0#32
  ![v11323.toNat, 2032, 0]
def k0_off140 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11339 : Index := Scalar.indexCast v9275
  let c2048_6089 : Index := 2048#32
  let c0_6090 : Index := 0#32
  ![v11339.toNat, 2048, 0]
def k0_off141 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11355 : Index := Scalar.indexCast v9275
  let c2064_6095 : Index := 2064#32
  let c0_6096 : Index := 0#32
  ![v11355.toNat, 2064, 0]
def k0_off142 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11371 : Index := Scalar.indexCast v9275
  let c2080_6101 : Index := 2080#32
  let c0_6102 : Index := 0#32
  ![v11371.toNat, 2080, 0]
def k0_off143 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11387 : Index := Scalar.indexCast v9275
  let c2096_6107 : Index := 2096#32
  let c0_6108 : Index := 0#32
  ![v11387.toNat, 2096, 0]
def k0_off144 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11403 : Index := Scalar.indexCast v9275
  let c2112_6113 : Index := 2112#32
  let c0_6114 : Index := 0#32
  ![v11403.toNat, 2112, 0]
def k0_off145 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11419 : Index := Scalar.indexCast v9275
  let c2128_6119 : Index := 2128#32
  let c0_6120 : Index := 0#32
  ![v11419.toNat, 2128, 0]
def k0_off146 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11435 : Index := Scalar.indexCast v9275
  let c2144_6125 : Index := 2144#32
  let c0_6126 : Index := 0#32
  ![v11435.toNat, 2144, 0]
def k0_off147 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11451 : Index := Scalar.indexCast v9275
  let c2160_6131 : Index := 2160#32
  let c0_6132 : Index := 0#32
  ![v11451.toNat, 2160, 0]
def k0_off148 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11467 : Index := Scalar.indexCast v9275
  let c2176_6137 : Index := 2176#32
  let c0_6138 : Index := 0#32
  ![v11467.toNat, 2176, 0]
def k0_off149 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11483 : Index := Scalar.indexCast v9275
  let c2192_6143 : Index := 2192#32
  let c0_6144 : Index := 0#32
  ![v11483.toNat, 2192, 0]
def k0_off150 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11499 : Index := Scalar.indexCast v9275
  let c2208_6149 : Index := 2208#32
  let c0_6150 : Index := 0#32
  ![v11499.toNat, 2208, 0]
def k0_off151 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11515 : Index := Scalar.indexCast v9275
  let c2224_6155 : Index := 2224#32
  let c0_6156 : Index := 0#32
  ![v11515.toNat, 2224, 0]
def k0_off152 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11531 : Index := Scalar.indexCast v9275
  let c2240_6161 : Index := 2240#32
  let c0_6162 : Index := 0#32
  ![v11531.toNat, 2240, 0]
def k0_off153 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11547 : Index := Scalar.indexCast v9275
  let c2256_6167 : Index := 2256#32
  let c0_6168 : Index := 0#32
  ![v11547.toNat, 2256, 0]
def k0_off154 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11563 : Index := Scalar.indexCast v9275
  let c2272_6173 : Index := 2272#32
  let c0_6174 : Index := 0#32
  ![v11563.toNat, 2272, 0]
def k0_off155 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11579 : Index := Scalar.indexCast v9275
  let c2288_6179 : Index := 2288#32
  let c0_6180 : Index := 0#32
  ![v11579.toNat, 2288, 0]
def k0_off156 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11595 : Index := Scalar.indexCast v9275
  let c2304_6185 : Index := 2304#32
  let c0_6186 : Index := 0#32
  ![v11595.toNat, 2304, 0]
def k0_off157 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11611 : Index := Scalar.indexCast v9275
  let c2320_6191 : Index := 2320#32
  let c0_6192 : Index := 0#32
  ![v11611.toNat, 2320, 0]
def k0_off158 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11627 : Index := Scalar.indexCast v9275
  let c2336_6197 : Index := 2336#32
  let c0_6198 : Index := 0#32
  ![v11627.toNat, 2336, 0]
def k0_off159 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11643 : Index := Scalar.indexCast v9275
  let c2352_6203 : Index := 2352#32
  let c0_6204 : Index := 0#32
  ![v11643.toNat, 2352, 0]
def k0_off160 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11659 : Index := Scalar.indexCast v9275
  let c2368_6209 : Index := 2368#32
  let c0_6210 : Index := 0#32
  ![v11659.toNat, 2368, 0]
def k0_off161 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11675 : Index := Scalar.indexCast v9275
  let c2384_6215 : Index := 2384#32
  let c0_6216 : Index := 0#32
  ![v11675.toNat, 2384, 0]
def k0_off162 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11691 : Index := Scalar.indexCast v9275
  let c2400_6221 : Index := 2400#32
  let c0_6222 : Index := 0#32
  ![v11691.toNat, 2400, 0]
def k0_off163 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11707 : Index := Scalar.indexCast v9275
  let c2416_6227 : Index := 2416#32
  let c0_6228 : Index := 0#32
  ![v11707.toNat, 2416, 0]
def k0_off164 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11723 : Index := Scalar.indexCast v9275
  let c2432_6233 : Index := 2432#32
  let c0_6234 : Index := 0#32
  ![v11723.toNat, 2432, 0]
def k0_off165 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11739 : Index := Scalar.indexCast v9275
  let c2448_6239 : Index := 2448#32
  let c0_6240 : Index := 0#32
  ![v11739.toNat, 2448, 0]
def k0_off166 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11755 : Index := Scalar.indexCast v9275
  let c2464_6245 : Index := 2464#32
  let c0_6246 : Index := 0#32
  ![v11755.toNat, 2464, 0]
def k0_off167 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11771 : Index := Scalar.indexCast v9275
  let c2480_6251 : Index := 2480#32
  let c0_6252 : Index := 0#32
  ![v11771.toNat, 2480, 0]
def k0_off168 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11787 : Index := Scalar.indexCast v9275
  let c2496_6257 : Index := 2496#32
  let c0_6258 : Index := 0#32
  ![v11787.toNat, 2496, 0]
def k0_off169 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11803 : Index := Scalar.indexCast v9275
  let c2512_6263 : Index := 2512#32
  let c0_6264 : Index := 0#32
  ![v11803.toNat, 2512, 0]
def k0_off170 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11819 : Index := Scalar.indexCast v9275
  let c2528_6269 : Index := 2528#32
  let c0_6270 : Index := 0#32
  ![v11819.toNat, 2528, 0]
def k0_off171 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11835 : Index := Scalar.indexCast v9275
  let c2544_6275 : Index := 2544#32
  let c0_6276 : Index := 0#32
  ![v11835.toNat, 2544, 0]
def k0_off172 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11851 : Index := Scalar.indexCast v9275
  let c2560_6281 : Index := 2560#32
  let c0_6282 : Index := 0#32
  ![v11851.toNat, 2560, 0]
def k0_off173 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11867 : Index := Scalar.indexCast v9275
  let c2576_6287 : Index := 2576#32
  let c0_6288 : Index := 0#32
  ![v11867.toNat, 2576, 0]
def k0_off174 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11883 : Index := Scalar.indexCast v9275
  let c2592_6293 : Index := 2592#32
  let c0_6294 : Index := 0#32
  ![v11883.toNat, 2592, 0]
def k0_off175 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11899 : Index := Scalar.indexCast v9275
  let c2608_6299 : Index := 2608#32
  let c0_6300 : Index := 0#32
  ![v11899.toNat, 2608, 0]
def k0_off176 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11915 : Index := Scalar.indexCast v9275
  let c2624_6305 : Index := 2624#32
  let c0_6306 : Index := 0#32
  ![v11915.toNat, 2624, 0]
def k0_off177 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11931 : Index := Scalar.indexCast v9275
  let c2640_6311 : Index := 2640#32
  let c0_6312 : Index := 0#32
  ![v11931.toNat, 2640, 0]
def k0_off178 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11947 : Index := Scalar.indexCast v9275
  let c2656_6317 : Index := 2656#32
  let c0_6318 : Index := 0#32
  ![v11947.toNat, 2656, 0]
def k0_off179 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11963 : Index := Scalar.indexCast v9275
  let c2672_6323 : Index := 2672#32
  let c0_6324 : Index := 0#32
  ![v11963.toNat, 2672, 0]
def k0_off180 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11979 : Index := Scalar.indexCast v9275
  let c2688_6329 : Index := 2688#32
  let c0_6330 : Index := 0#32
  ![v11979.toNat, 2688, 0]
def k0_off181 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v11995 : Index := Scalar.indexCast v9275
  let c2704_6335 : Index := 2704#32
  let c0_6336 : Index := 0#32
  ![v11995.toNat, 2704, 0]
def k0_off182 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12011 : Index := Scalar.indexCast v9275
  let c2720_6341 : Index := 2720#32
  let c0_6342 : Index := 0#32
  ![v12011.toNat, 2720, 0]
def k0_off183 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12027 : Index := Scalar.indexCast v9275
  let c2736_6347 : Index := 2736#32
  let c0_6348 : Index := 0#32
  ![v12027.toNat, 2736, 0]
def k0_off184 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12043 : Index := Scalar.indexCast v9275
  let c2752_6353 : Index := 2752#32
  let c0_6354 : Index := 0#32
  ![v12043.toNat, 2752, 0]
def k0_off185 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12059 : Index := Scalar.indexCast v9275
  let c2768_6359 : Index := 2768#32
  let c0_6360 : Index := 0#32
  ![v12059.toNat, 2768, 0]
def k0_off186 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12075 : Index := Scalar.indexCast v9275
  let c2784_6365 : Index := 2784#32
  let c0_6366 : Index := 0#32
  ![v12075.toNat, 2784, 0]
def k0_off187 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12091 : Index := Scalar.indexCast v9275
  let c2800_6371 : Index := 2800#32
  let c0_6372 : Index := 0#32
  ![v12091.toNat, 2800, 0]
def k0_off188 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12107 : Index := Scalar.indexCast v9275
  let c2816_6377 : Index := 2816#32
  let c0_6378 : Index := 0#32
  ![v12107.toNat, 2816, 0]
def k0_off189 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12123 : Index := Scalar.indexCast v9275
  let c2832_6383 : Index := 2832#32
  let c0_6384 : Index := 0#32
  ![v12123.toNat, 2832, 0]
def k0_off190 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12139 : Index := Scalar.indexCast v9275
  let c2848_6389 : Index := 2848#32
  let c0_6390 : Index := 0#32
  ![v12139.toNat, 2848, 0]
def k0_off191 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12155 : Index := Scalar.indexCast v9275
  let c2864_6395 : Index := 2864#32
  let c0_6396 : Index := 0#32
  ![v12155.toNat, 2864, 0]
def k0_off192 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12171 : Index := Scalar.indexCast v9275
  let c2880_6401 : Index := 2880#32
  let c0_6402 : Index := 0#32
  ![v12171.toNat, 2880, 0]
def k0_off193 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12187 : Index := Scalar.indexCast v9275
  let c2896_6407 : Index := 2896#32
  let c0_6408 : Index := 0#32
  ![v12187.toNat, 2896, 0]
def k0_off194 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12203 : Index := Scalar.indexCast v9275
  let c2912_6413 : Index := 2912#32
  let c0_6414 : Index := 0#32
  ![v12203.toNat, 2912, 0]
def k0_off195 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12219 : Index := Scalar.indexCast v9275
  let c2928_6419 : Index := 2928#32
  let c0_6420 : Index := 0#32
  ![v12219.toNat, 2928, 0]
def k0_off196 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12235 : Index := Scalar.indexCast v9275
  let c2944_6425 : Index := 2944#32
  let c0_6426 : Index := 0#32
  ![v12235.toNat, 2944, 0]
def k0_off197 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12251 : Index := Scalar.indexCast v9275
  let c2960_6431 : Index := 2960#32
  let c0_6432 : Index := 0#32
  ![v12251.toNat, 2960, 0]
def k0_off198 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12267 : Index := Scalar.indexCast v9275
  let c2976_6437 : Index := 2976#32
  let c0_6438 : Index := 0#32
  ![v12267.toNat, 2976, 0]
def k0_off199 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12283 : Index := Scalar.indexCast v9275
  let c2992_6443 : Index := 2992#32
  let c0_6444 : Index := 0#32
  ![v12283.toNat, 2992, 0]
def k0_off200 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12299 : Index := Scalar.indexCast v9275
  let c3008_6449 : Index := 3008#32
  let c0_6450 : Index := 0#32
  ![v12299.toNat, 3008, 0]
def k0_off201 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12315 : Index := Scalar.indexCast v9275
  let c3024_6455 : Index := 3024#32
  let c0_6456 : Index := 0#32
  ![v12315.toNat, 3024, 0]
def k0_off202 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12331 : Index := Scalar.indexCast v9275
  let c3040_6461 : Index := 3040#32
  let c0_6462 : Index := 0#32
  ![v12331.toNat, 3040, 0]
def k0_off203 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let v12347 : Index := Scalar.indexCast v9275
  let c3056_6467 : Index := 3056#32
  let c0_6468 : Index := 0#32
  ![v12347.toNat, 3056, 0]
def k0_off204 (k0_t2 : Fin k0_t2_loop.trips) : Fin 2 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_5311 : BitVec 32 := 1#32
  let v9277 : BitVec 32 := Scalar.subi v9274 c1_i32_5311
  let c3_i32_5312 : BitVec 32 := 3#32
  let v9278 : BitVec 32 := Scalar.remsi v9277 c3_i32_5312
  let v12365 : Index := Scalar.indexCast v9278
  let c0_6474 : Index := 0#32
  ![v12365.toNat, 0]
def k0_off205 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_5311 : BitVec 32 := 1#32
  let v9277 : BitVec 32 := Scalar.subi v9274 c1_i32_5311
  let c3_i32_5312 : BitVec 32 := 3#32
  let v9278 : BitVec 32 := Scalar.remsi v9277 c3_i32_5312
  let v12368 : Index := Scalar.indexCast v9278
  let c0_6477 : Index := 0#32
  let c0_6478 : Index := 0#32
  ![v12368.toNat, 0, 0]
def k0_off206 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_5311 : BitVec 32 := 1#32
  let v9277 : BitVec 32 := Scalar.subi v9274 c1_i32_5311
  let c3_i32_5312 : BitVec 32 := 3#32
  let v9278 : BitVec 32 := Scalar.remsi v9277 c3_i32_5312
  let v12378 : Index := Scalar.indexCast v9278
  let c0_6482 : Index := 0#32
  let c0_6483 : Index := 0#32
  ![v12378.toNat, 0, 0]
def k0_off207 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_5311 : BitVec 32 := 1#32
  let v9277 : BitVec 32 := Scalar.subi v9274 c1_i32_5311
  let c3_i32_5312 : BitVec 32 := 3#32
  let v9278 : BitVec 32 := Scalar.remsi v9277 c3_i32_5312
  let v12393 : Index := Scalar.indexCast v9278
  let c512_6491 : Index := 512#32
  let c0_6492 : Index := 0#32
  ![v12393.toNat, 512, 0]
def k0_mult13 (k0_t2 : Fin k0_t2_loop.trips) : BitVec 32 :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c512_i32_6538 : BitVec 32 := 512#32
  let v12513 : BitVec 32 := Scalar.muli v9274 c512_i32_6538
  v12513
def k0_off208 (k0_t2 : Fin k0_t2_loop.trips) : Fin 2 → Nat :=
  let c0_6539 : Index := 0#32
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c512_i32_6538 : BitVec 32 := 512#32
  let v12513 : BitVec 32 := Scalar.muli v9274 c512_i32_6538
  let v12514 : BitVec 32 := v12513
  let v12515 : Index := Scalar.indexCast v12514
  ![0, v12515.toNat]
def k0_off209 (k0_t2 : Fin k0_t2_loop.trips) : Fin 2 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12517 : Index := Scalar.indexCast v9276
  let c0_6540 : Index := 0#32
  ![v12517.toNat, 0]
def k0_off210 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12529 : Index := Scalar.indexCast v9276
  let c0_6545 : Index := 0#32
  let c0_6546 : Index := 0#32
  ![v12529.toNat, 0, 0]
def k0_off211 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12541 : Index := Scalar.indexCast v9276
  let c32_6551 : Index := 32#32
  let c0_6552 : Index := 0#32
  ![v12541.toNat, 32, 0]
def k0_off212 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12553 : Index := Scalar.indexCast v9276
  let c64_6557 : Index := 64#32
  let c0_6558 : Index := 0#32
  ![v12553.toNat, 64, 0]
def k0_off213 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12565 : Index := Scalar.indexCast v9276
  let c96_6563 : Index := 96#32
  let c0_6564 : Index := 0#32
  ![v12565.toNat, 96, 0]
def k0_off214 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12577 : Index := Scalar.indexCast v9276
  let c128_6569 : Index := 128#32
  let c0_6570 : Index := 0#32
  ![v12577.toNat, 128, 0]
def k0_off215 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12589 : Index := Scalar.indexCast v9276
  let c160_6575 : Index := 160#32
  let c0_6576 : Index := 0#32
  ![v12589.toNat, 160, 0]
def k0_off216 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12601 : Index := Scalar.indexCast v9276
  let c192_6581 : Index := 192#32
  let c0_6582 : Index := 0#32
  ![v12601.toNat, 192, 0]
def k0_off217 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12613 : Index := Scalar.indexCast v9276
  let c224_6587 : Index := 224#32
  let c0_6588 : Index := 0#32
  ![v12613.toNat, 224, 0]
def k0_off218 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12625 : Index := Scalar.indexCast v9276
  let c256_6593 : Index := 256#32
  let c0_6594 : Index := 0#32
  ![v12625.toNat, 256, 0]
def k0_off219 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12637 : Index := Scalar.indexCast v9276
  let c288_6599 : Index := 288#32
  let c0_6600 : Index := 0#32
  ![v12637.toNat, 288, 0]
def k0_off220 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12649 : Index := Scalar.indexCast v9276
  let c320_6605 : Index := 320#32
  let c0_6606 : Index := 0#32
  ![v12649.toNat, 320, 0]
def k0_off221 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12661 : Index := Scalar.indexCast v9276
  let c352_6611 : Index := 352#32
  let c0_6612 : Index := 0#32
  ![v12661.toNat, 352, 0]
def k0_off222 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12673 : Index := Scalar.indexCast v9276
  let c384_6617 : Index := 384#32
  let c0_6618 : Index := 0#32
  ![v12673.toNat, 384, 0]
def k0_off223 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12685 : Index := Scalar.indexCast v9276
  let c416_6623 : Index := 416#32
  let c0_6624 : Index := 0#32
  ![v12685.toNat, 416, 0]
def k0_off224 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12697 : Index := Scalar.indexCast v9276
  let c448_6629 : Index := 448#32
  let c0_6630 : Index := 0#32
  ![v12697.toNat, 448, 0]
def k0_off225 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12709 : Index := Scalar.indexCast v9276
  let c480_6635 : Index := 480#32
  let c0_6636 : Index := 0#32
  ![v12709.toNat, 480, 0]
def k0_off226 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12721 : Index := Scalar.indexCast v9276
  let c512_6641 : Index := 512#32
  let c0_6642 : Index := 0#32
  ![v12721.toNat, 512, 0]
def k0_off227 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12733 : Index := Scalar.indexCast v9276
  let c544_6647 : Index := 544#32
  let c0_6648 : Index := 0#32
  ![v12733.toNat, 544, 0]
def k0_off228 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12745 : Index := Scalar.indexCast v9276
  let c576_6653 : Index := 576#32
  let c0_6654 : Index := 0#32
  ![v12745.toNat, 576, 0]
def k0_off229 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12757 : Index := Scalar.indexCast v9276
  let c608_6659 : Index := 608#32
  let c0_6660 : Index := 0#32
  ![v12757.toNat, 608, 0]
def k0_off230 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12769 : Index := Scalar.indexCast v9276
  let c640_6665 : Index := 640#32
  let c0_6666 : Index := 0#32
  ![v12769.toNat, 640, 0]
def k0_off231 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12781 : Index := Scalar.indexCast v9276
  let c672_6671 : Index := 672#32
  let c0_6672 : Index := 0#32
  ![v12781.toNat, 672, 0]
def k0_off232 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12793 : Index := Scalar.indexCast v9276
  let c704_6677 : Index := 704#32
  let c0_6678 : Index := 0#32
  ![v12793.toNat, 704, 0]
def k0_off233 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12805 : Index := Scalar.indexCast v9276
  let c736_6683 : Index := 736#32
  let c0_6684 : Index := 0#32
  ![v12805.toNat, 736, 0]
def k0_off234 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12817 : Index := Scalar.indexCast v9276
  let c768_6689 : Index := 768#32
  let c0_6690 : Index := 0#32
  ![v12817.toNat, 768, 0]
def k0_off235 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12829 : Index := Scalar.indexCast v9276
  let c800_6695 : Index := 800#32
  let c0_6696 : Index := 0#32
  ![v12829.toNat, 800, 0]
def k0_off236 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12841 : Index := Scalar.indexCast v9276
  let c832_6701 : Index := 832#32
  let c0_6702 : Index := 0#32
  ![v12841.toNat, 832, 0]
def k0_off237 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12853 : Index := Scalar.indexCast v9276
  let c864_6707 : Index := 864#32
  let c0_6708 : Index := 0#32
  ![v12853.toNat, 864, 0]
def k0_off238 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12865 : Index := Scalar.indexCast v9276
  let c896_6713 : Index := 896#32
  let c0_6714 : Index := 0#32
  ![v12865.toNat, 896, 0]
def k0_off239 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12877 : Index := Scalar.indexCast v9276
  let c928_6719 : Index := 928#32
  let c0_6720 : Index := 0#32
  ![v12877.toNat, 928, 0]
def k0_off240 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12889 : Index := Scalar.indexCast v9276
  let c960_6725 : Index := 960#32
  let c0_6726 : Index := 0#32
  ![v12889.toNat, 960, 0]
def k0_off241 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12901 : Index := Scalar.indexCast v9276
  let c992_6731 : Index := 992#32
  let c0_6732 : Index := 0#32
  ![v12901.toNat, 992, 0]
def k0_off242 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12913 : Index := Scalar.indexCast v9276
  let c1024_6737 : Index := 1024#32
  let c0_6738 : Index := 0#32
  ![v12913.toNat, 1024, 0]
def k0_off243 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12925 : Index := Scalar.indexCast v9276
  let c1056_6743 : Index := 1056#32
  let c0_6744 : Index := 0#32
  ![v12925.toNat, 1056, 0]
def k0_off244 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12937 : Index := Scalar.indexCast v9276
  let c1088_6749 : Index := 1088#32
  let c0_6750 : Index := 0#32
  ![v12937.toNat, 1088, 0]
def k0_off245 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12949 : Index := Scalar.indexCast v9276
  let c1120_6755 : Index := 1120#32
  let c0_6756 : Index := 0#32
  ![v12949.toNat, 1120, 0]
def k0_off246 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12961 : Index := Scalar.indexCast v9276
  let c1152_6761 : Index := 1152#32
  let c0_6762 : Index := 0#32
  ![v12961.toNat, 1152, 0]
def k0_off247 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12973 : Index := Scalar.indexCast v9276
  let c1184_6767 : Index := 1184#32
  let c0_6768 : Index := 0#32
  ![v12973.toNat, 1184, 0]
def k0_off248 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12985 : Index := Scalar.indexCast v9276
  let c1216_6773 : Index := 1216#32
  let c0_6774 : Index := 0#32
  ![v12985.toNat, 1216, 0]
def k0_off249 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v12997 : Index := Scalar.indexCast v9276
  let c1248_6779 : Index := 1248#32
  let c0_6780 : Index := 0#32
  ![v12997.toNat, 1248, 0]
def k0_off250 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13009 : Index := Scalar.indexCast v9276
  let c1280_6785 : Index := 1280#32
  let c0_6786 : Index := 0#32
  ![v13009.toNat, 1280, 0]
def k0_off251 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13021 : Index := Scalar.indexCast v9276
  let c1312_6791 : Index := 1312#32
  let c0_6792 : Index := 0#32
  ![v13021.toNat, 1312, 0]
def k0_off252 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13033 : Index := Scalar.indexCast v9276
  let c1344_6797 : Index := 1344#32
  let c0_6798 : Index := 0#32
  ![v13033.toNat, 1344, 0]
def k0_off253 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13045 : Index := Scalar.indexCast v9276
  let c1376_6803 : Index := 1376#32
  let c0_6804 : Index := 0#32
  ![v13045.toNat, 1376, 0]
def k0_off254 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13057 : Index := Scalar.indexCast v9276
  let c1408_6809 : Index := 1408#32
  let c0_6810 : Index := 0#32
  ![v13057.toNat, 1408, 0]
def k0_off255 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13069 : Index := Scalar.indexCast v9276
  let c1440_6815 : Index := 1440#32
  let c0_6816 : Index := 0#32
  ![v13069.toNat, 1440, 0]
def k0_off256 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13081 : Index := Scalar.indexCast v9276
  let c1472_6821 : Index := 1472#32
  let c0_6822 : Index := 0#32
  ![v13081.toNat, 1472, 0]
def k0_off257 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13093 : Index := Scalar.indexCast v9276
  let c1504_6827 : Index := 1504#32
  let c0_6828 : Index := 0#32
  ![v13093.toNat, 1504, 0]
def k0_off258 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13105 : Index := Scalar.indexCast v9276
  let c1536_6833 : Index := 1536#32
  let c0_6834 : Index := 0#32
  ![v13105.toNat, 1536, 0]
def k0_off259 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13117 : Index := Scalar.indexCast v9276
  let c1568_6839 : Index := 1568#32
  let c0_6840 : Index := 0#32
  ![v13117.toNat, 1568, 0]
def k0_off260 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13129 : Index := Scalar.indexCast v9276
  let c1600_6845 : Index := 1600#32
  let c0_6846 : Index := 0#32
  ![v13129.toNat, 1600, 0]
def k0_off261 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13141 : Index := Scalar.indexCast v9276
  let c1632_6851 : Index := 1632#32
  let c0_6852 : Index := 0#32
  ![v13141.toNat, 1632, 0]
def k0_off262 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13153 : Index := Scalar.indexCast v9276
  let c1664_6857 : Index := 1664#32
  let c0_6858 : Index := 0#32
  ![v13153.toNat, 1664, 0]
def k0_off263 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13165 : Index := Scalar.indexCast v9276
  let c1696_6863 : Index := 1696#32
  let c0_6864 : Index := 0#32
  ![v13165.toNat, 1696, 0]
def k0_off264 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13177 : Index := Scalar.indexCast v9276
  let c1728_6869 : Index := 1728#32
  let c0_6870 : Index := 0#32
  ![v13177.toNat, 1728, 0]
def k0_off265 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13189 : Index := Scalar.indexCast v9276
  let c1760_6875 : Index := 1760#32
  let c0_6876 : Index := 0#32
  ![v13189.toNat, 1760, 0]
def k0_off266 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13201 : Index := Scalar.indexCast v9276
  let c1792_6881 : Index := 1792#32
  let c0_6882 : Index := 0#32
  ![v13201.toNat, 1792, 0]
def k0_off267 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13213 : Index := Scalar.indexCast v9276
  let c1824_6887 : Index := 1824#32
  let c0_6888 : Index := 0#32
  ![v13213.toNat, 1824, 0]
def k0_off268 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13225 : Index := Scalar.indexCast v9276
  let c1856_6893 : Index := 1856#32
  let c0_6894 : Index := 0#32
  ![v13225.toNat, 1856, 0]
def k0_off269 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13237 : Index := Scalar.indexCast v9276
  let c1888_6899 : Index := 1888#32
  let c0_6900 : Index := 0#32
  ![v13237.toNat, 1888, 0]
def k0_off270 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13249 : Index := Scalar.indexCast v9276
  let c1920_6905 : Index := 1920#32
  let c0_6906 : Index := 0#32
  ![v13249.toNat, 1920, 0]
def k0_off271 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13261 : Index := Scalar.indexCast v9276
  let c1952_6911 : Index := 1952#32
  let c0_6912 : Index := 0#32
  ![v13261.toNat, 1952, 0]
def k0_off272 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13273 : Index := Scalar.indexCast v9276
  let c1984_6917 : Index := 1984#32
  let c0_6918 : Index := 0#32
  ![v13273.toNat, 1984, 0]
def k0_off273 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13285 : Index := Scalar.indexCast v9276
  let c2016_6923 : Index := 2016#32
  let c0_6924 : Index := 0#32
  ![v13285.toNat, 2016, 0]
def k0_off274 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13297 : Index := Scalar.indexCast v9276
  let c2048_6929 : Index := 2048#32
  let c0_6930 : Index := 0#32
  ![v13297.toNat, 2048, 0]
def k0_off275 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13309 : Index := Scalar.indexCast v9276
  let c2080_6935 : Index := 2080#32
  let c0_6936 : Index := 0#32
  ![v13309.toNat, 2080, 0]
def k0_off276 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13321 : Index := Scalar.indexCast v9276
  let c2112_6941 : Index := 2112#32
  let c0_6942 : Index := 0#32
  ![v13321.toNat, 2112, 0]
def k0_off277 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13333 : Index := Scalar.indexCast v9276
  let c2144_6947 : Index := 2144#32
  let c0_6948 : Index := 0#32
  ![v13333.toNat, 2144, 0]
def k0_off278 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13345 : Index := Scalar.indexCast v9276
  let c2176_6953 : Index := 2176#32
  let c0_6954 : Index := 0#32
  ![v13345.toNat, 2176, 0]
def k0_off279 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13357 : Index := Scalar.indexCast v9276
  let c2208_6959 : Index := 2208#32
  let c0_6960 : Index := 0#32
  ![v13357.toNat, 2208, 0]
def k0_off280 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13369 : Index := Scalar.indexCast v9276
  let c2240_6965 : Index := 2240#32
  let c0_6966 : Index := 0#32
  ![v13369.toNat, 2240, 0]
def k0_off281 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13381 : Index := Scalar.indexCast v9276
  let c2272_6971 : Index := 2272#32
  let c0_6972 : Index := 0#32
  ![v13381.toNat, 2272, 0]
def k0_off282 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13393 : Index := Scalar.indexCast v9276
  let c2304_6977 : Index := 2304#32
  let c0_6978 : Index := 0#32
  ![v13393.toNat, 2304, 0]
def k0_off283 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13405 : Index := Scalar.indexCast v9276
  let c2336_6983 : Index := 2336#32
  let c0_6984 : Index := 0#32
  ![v13405.toNat, 2336, 0]
def k0_off284 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13417 : Index := Scalar.indexCast v9276
  let c2368_6989 : Index := 2368#32
  let c0_6990 : Index := 0#32
  ![v13417.toNat, 2368, 0]
def k0_off285 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13429 : Index := Scalar.indexCast v9276
  let c2400_6995 : Index := 2400#32
  let c0_6996 : Index := 0#32
  ![v13429.toNat, 2400, 0]
def k0_off286 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13441 : Index := Scalar.indexCast v9276
  let c2432_7001 : Index := 2432#32
  let c0_7002 : Index := 0#32
  ![v13441.toNat, 2432, 0]
def k0_off287 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13453 : Index := Scalar.indexCast v9276
  let c2464_7007 : Index := 2464#32
  let c0_7008 : Index := 0#32
  ![v13453.toNat, 2464, 0]
def k0_off288 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13465 : Index := Scalar.indexCast v9276
  let c2496_7013 : Index := 2496#32
  let c0_7014 : Index := 0#32
  ![v13465.toNat, 2496, 0]
def k0_off289 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13477 : Index := Scalar.indexCast v9276
  let c2528_7019 : Index := 2528#32
  let c0_7020 : Index := 0#32
  ![v13477.toNat, 2528, 0]
def k0_off290 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13489 : Index := Scalar.indexCast v9276
  let c2560_7025 : Index := 2560#32
  let c0_7026 : Index := 0#32
  ![v13489.toNat, 2560, 0]
def k0_off291 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13501 : Index := Scalar.indexCast v9276
  let c2592_7031 : Index := 2592#32
  let c0_7032 : Index := 0#32
  ![v13501.toNat, 2592, 0]
def k0_off292 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13513 : Index := Scalar.indexCast v9276
  let c2624_7037 : Index := 2624#32
  let c0_7038 : Index := 0#32
  ![v13513.toNat, 2624, 0]
def k0_off293 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13525 : Index := Scalar.indexCast v9276
  let c2656_7043 : Index := 2656#32
  let c0_7044 : Index := 0#32
  ![v13525.toNat, 2656, 0]
def k0_off294 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13537 : Index := Scalar.indexCast v9276
  let c2688_7049 : Index := 2688#32
  let c0_7050 : Index := 0#32
  ![v13537.toNat, 2688, 0]
def k0_off295 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13549 : Index := Scalar.indexCast v9276
  let c2720_7055 : Index := 2720#32
  let c0_7056 : Index := 0#32
  ![v13549.toNat, 2720, 0]
def k0_off296 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13561 : Index := Scalar.indexCast v9276
  let c2752_7061 : Index := 2752#32
  let c0_7062 : Index := 0#32
  ![v13561.toNat, 2752, 0]
def k0_off297 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13573 : Index := Scalar.indexCast v9276
  let c2784_7067 : Index := 2784#32
  let c0_7068 : Index := 0#32
  ![v13573.toNat, 2784, 0]
def k0_off298 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13585 : Index := Scalar.indexCast v9276
  let c2816_7073 : Index := 2816#32
  let c0_7074 : Index := 0#32
  ![v13585.toNat, 2816, 0]
def k0_off299 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13597 : Index := Scalar.indexCast v9276
  let c2848_7079 : Index := 2848#32
  let c0_7080 : Index := 0#32
  ![v13597.toNat, 2848, 0]
def k0_off300 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13609 : Index := Scalar.indexCast v9276
  let c2880_7085 : Index := 2880#32
  let c0_7086 : Index := 0#32
  ![v13609.toNat, 2880, 0]
def k0_off301 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13621 : Index := Scalar.indexCast v9276
  let c2912_7091 : Index := 2912#32
  let c0_7092 : Index := 0#32
  ![v13621.toNat, 2912, 0]
def k0_off302 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13633 : Index := Scalar.indexCast v9276
  let c2944_7097 : Index := 2944#32
  let c0_7098 : Index := 0#32
  ![v13633.toNat, 2944, 0]
def k0_off303 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13645 : Index := Scalar.indexCast v9276
  let c2976_7103 : Index := 2976#32
  let c0_7104 : Index := 0#32
  ![v13645.toNat, 2976, 0]
def k0_off304 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13657 : Index := Scalar.indexCast v9276
  let c3008_7109 : Index := 3008#32
  let c0_7110 : Index := 0#32
  ![v13657.toNat, 3008, 0]
def k0_off305 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let v13669 : Index := Scalar.indexCast v9276
  let c3040_7115 : Index := 3040#32
  let c0_7116 : Index := 0#32
  ![v13669.toNat, 3040, 0]
def k0_mult14 (k0_t2 : Fin k0_t2_loop.trips) : BitVec 32 :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c512_i32_7117 : BitVec 32 := 512#32
  let v13673 : BitVec 32 := Scalar.muli v9274 c512_i32_7117
  v13673
def k0_off306 (k0_t2 : Fin k0_t2_loop.trips) : Fin 1 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  ![v9276.toNat]
def k0_off307 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c3_i32_5310 : BitVec 32 := 3#32
  let v9276 : BitVec 32 := Scalar.remsi v9274 c3_i32_5310
  let c0_i32_7119 : BitVec 32 := 0#32
  let c0_i32_7120 : BitVec 32 := 0#32
  ![v9276.toNat, 0, 0]
def k0_mult15 (k0_t2 : Fin k0_t2_loop.trips) : BitVec 32 :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_7121 : BitVec 32 := 1#32
  let v13680 : BitVec 32 := Scalar.subi v9274 c1_i32_7121
  let c512_i32_7122 : BitVec 32 := 512#32
  let v13681 : BitVec 32 := Scalar.muli v13680 c512_i32_7122
  v13681
def k0_off308 (k0_t2 : Fin k0_t2_loop.trips) : Fin 1 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_5311 : BitVec 32 := 1#32
  let v9277 : BitVec 32 := Scalar.subi v9274 c1_i32_5311
  let c3_i32_5312 : BitVec 32 := 3#32
  let v9278 : BitVec 32 := Scalar.remsi v9277 c3_i32_5312
  ![v9278.toNat]
def k0_off309 (k0_t2 : Fin k0_t2_loop.trips) : Fin 2 → Nat :=
  let c0_i32_7123 : BitVec 32 := 0#32
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_7121 : BitVec 32 := 1#32
  let v13680 : BitVec 32 := Scalar.subi v9274 c1_i32_7121
  let c512_i32_7122 : BitVec 32 := 512#32
  let v13681 : BitVec 32 := Scalar.muli v13680 c512_i32_7122
  let v13682 : BitVec 32 := v13681
  ![0, v13682.toNat]
def k0_off310 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c1_i32_5311 : BitVec 32 := 1#32
  let v9277 : BitVec 32 := Scalar.subi v9274 c1_i32_5311
  let c3_i32_5312 : BitVec 32 := 3#32
  let v9278 : BitVec 32 := Scalar.remsi v9277 c3_i32_5312
  let c0_i32_7124 : BitVec 32 := 0#32
  let c0_i32_7125 : BitVec 32 := 0#32
  ![v9278.toNat, 0, 0]
def k0_cond3 (k0_t2 : Fin k0_t2_loop.trips) : BitVec 1 :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_7126 : BitVec 32 := 4#32
  let v13688 : BitVec 32 := Scalar.addi v9274 c4_i32_7126
  let c16_i32_7127 : BitVec 32 := 16#32
  let v13689 : BitVec 1 := Scalar.cmpi .slt v13688 c16_i32_7127
  let v13690 : BitVec 32 := Scalar.extui v13689
  let c0_i32_7128 : BitVec 32 := 0#32
  let v13691 : BitVec 1 := Scalar.cmpi .ne v13690 c0_i32_7128
  v13691

def k0_mult16 (k0_t2 : Fin k0_t2_loop.trips) : BitVec 32 :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_7129 : BitVec 32 := 4#32
  let v13692 : BitVec 32 := Scalar.addi v9274 c4_i32_7129
  let c512_i32_7130 : BitVec 32 := 512#32
  let v13693 : BitVec 32 := Scalar.muli v13692 c512_i32_7130
  v13693
def k0_off311 (k0_t2 : Fin k0_t2_loop.trips) : Fin 1 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  ![v9275.toNat]
def k0_off312 (k0_t2 : Fin k0_t2_loop.trips) : Fin 3 → Nat :=
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_5309 : BitVec 32 := 4#32
  let v9275 : BitVec 32 := Scalar.remsi v9274 c4_i32_5309
  let c0_i32_7131 : BitVec 32 := 0#32
  let c0_i32_7132 : BitVec 32 := 0#32
  ![v9275.toNat, 0, 0]
def k0_off313 (k0_t2 : Fin k0_t2_loop.trips) : Fin 2 → Nat :=
  let c0_i32_7133 : BitVec 32 := 0#32
  let c1_i32_5308 : BitVec 32 := 1#32
  let c0_i32_5236 : BitVec 32 := 0#32
  let c1_i32_5237 : BitVec 32 := 1#32
  let arg23 : BitVec 32 := Scf.iv c0_i32_5236 c1_i32_5237 k0_t2
  let c1_i32_5307 : BitVec 32 := 1#32
  let v9273 : BitVec 32 := Scalar.muli arg23 c1_i32_5307
  let v9274 : BitVec 32 := Scalar.addi c1_i32_5308 v9273
  let c4_i32_7129 : BitVec 32 := 4#32
  let v13692 : BitVec 32 := Scalar.addi v9274 c4_i32_7129
  let c512_i32_7130 : BitVec 32 := 512#32
  let v13693 : BitVec 32 := Scalar.muli v13692 c512_i32_7130
  let v13694 : BitVec 32 := v13693
  ![0, v13694.toNat]
def k0_mult17 : BitVec 32 :=
  let c6144_i32 : BitVec 32 := 6144#32
  c6144_i32
def k0_mult18 : BitVec 32 :=
  let c7680_i32 : BitVec 32 := 7680#32
  c7680_i32
def k0_mult19 : BitVec 32 :=
  let c6656_i32 : BitVec 32 := 6656#32
  c6656_i32
def k0_mult20 : BitVec 32 :=
  let c6656_i32_5278 : BitVec 32 := 6656#32
  c6656_i32_5278
def k0_mult21 : BitVec 32 :=
  let c7168_i32 : BitVec 32 := 7168#32
  c7168_i32
def k0_mult22 : BitVec 32 :=
  let c7168_i32_5289 : BitVec 32 := 7168#32
  c7168_i32_5289
def k0_mult23 : BitVec 32 :=
  let c7680_i32_5295 : BitVec 32 := 7680#32
  c7680_i32_5295
def k0_mult24 : BitVec 32 :=
  let c7680_i32_5301 : BitVec 32 := 7680#32
  c7680_i32_5301
abbrev stage0_0 : Fin 1 → Memref sig .tc .vmem S1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x256x3072 : Shape := ⟨3, ![4, 256, 3072]⟩
abbrev S3072x8192 : Shape := ⟨2, ![3072, 8192]⟩
abbrev S3072 : Shape := ⟨1, ![3072]⟩
abbrev S1024x3072 : Shape := ⟨2, ![1024, 3072]⟩
abbrev S_ : Shape := ⟨0, ![]⟩
abbrev S3072x1 : Shape := ⟨2, ![3072, 1]⟩
abbrev S8192 : Shape := ⟨1, ![8192]⟩
abbrev S254 : Shape := ⟨1, ![254]⟩
abbrev S8192x1 : Shape := ⟨2, ![8192, 1]⟩
abbrev S1x254 : Shape := ⟨2, ![1, 254]⟩
abbrev S8192x254 : Shape := ⟨2, ![8192, 254]⟩
abbrev S1x8192 : Shape := ⟨2, ![1, 8192]⟩
abbrev S1x3072 : Shape := ⟨2, ![1, 3072]⟩
abbrev S1024 : Shape := ⟨1, ![1024]⟩
abbrev S1024x1 : Shape := ⟨2, ![1024, 1]⟩
abbrev S1024x254 : Shape := ⟨2, ![1024, 254]⟩
abbrev S4x256 : Shape := ⟨2, ![4, 256]⟩
abbrev S1024x8192 : Shape := ⟨2, ![1024, 8192]⟩

abbrev nBuf : Space → Nat
  | .hbm => 217
  | .vmem => 7
  | .smem => 0
  | _ => 0

abbrev hbmTy0_0 (i : Nat) : BufTy := match i % 128 with
  | 0 => ⟨S4x256x3072, .bf16⟩
  | 1 => ⟨S3072x8192, .bf16⟩
  | 2 => ⟨S3072, .f32⟩
  | 3 => ⟨S4x256x3072, .f32⟩
  | 4 => ⟨S1024x3072, .f32⟩
  | 5 => ⟨S1024x3072, .f32⟩
  | 6 => ⟨S_, .f32⟩
  | 7 => ⟨S3072, .f32⟩
  | 8 => ⟨S_, .f32⟩
  | 9 => ⟨S3072, .f32⟩
  | 10 => ⟨S3072, .f32⟩
  | 11 => ⟨S_, .f32⟩
  | 12 => ⟨S3072, .f32⟩
  | 13 => ⟨S3072, .f32⟩
  | 14 => ⟨S_, .f32⟩
  | 15 => ⟨S3072, .f32⟩
  | 16 => ⟨S3072, .f32⟩
  | 17 => ⟨S_, .f32⟩
  | 18 => ⟨S3072, .f32⟩
  | 19 => ⟨S3072, .f32⟩
  | 20 => ⟨S3072, .f32⟩
  | 21 => ⟨S3072x8192, .f32⟩
  | 22 => ⟨S3072x1, .f32⟩
  | 23 => ⟨S3072x8192, .f32⟩
  | 24 => ⟨S3072x8192, .f32⟩
  | 25 => ⟨S3072x8192, .f32⟩
  | 26 => ⟨S_, .f32⟩
  | 27 => ⟨S8192, .f32⟩
  | 28 => ⟨S_, .f32⟩
  | 29 => ⟨S8192, .f32⟩
  | 30 => ⟨S8192, .f32⟩
  | 31 => ⟨S254, .i32⟩
  | 32 => ⟨S_, .i32⟩
  | 33 => ⟨S254, .i32⟩
  | 34 => ⟨S254, .i32⟩
  | 35 => ⟨S254, .f32⟩
  | 36 => ⟨S_, .f32⟩
  | 37 => ⟨S254, .f32⟩
  | 38 => ⟨S254, .f32⟩
  | 39 => ⟨S8192x1, .f32⟩
  | 40 => ⟨S1x254, .f32⟩
  | 41 => ⟨S8192x254, .f32⟩
  | 42 => ⟨S8192x254, .f32⟩
  | 43 => ⟨S8192x254, .i1⟩
  | 44 => ⟨S8192x254, .i32⟩
  | 45 => ⟨S_, .i32⟩
  | 46 => ⟨S8192, .i32⟩
  | 47 => ⟨S_, .i32⟩
  | 48 => ⟨S8192, .i32⟩
  | 49 => ⟨S8192, .i1⟩
  | 50 => ⟨S_, .f32⟩
  | 51 => ⟨S8192, .f32⟩
  | 52 => ⟨S8192, .i1⟩
  | 53 => ⟨S8192, .i1⟩
  | 54 => ⟨S_, .i32⟩
  | 55 => ⟨S8192, .i32⟩
  | 56 => ⟨S8192, .i32⟩
  | 57 => ⟨S_, .i32⟩
  | 58 => ⟨S_, .i32⟩
  | 59 => ⟨S8192, .i32⟩
  | 60 => ⟨S8192, .i32⟩
  | 61 => ⟨S_, .f32⟩
  | 62 => ⟨S8192, .f32⟩
  | 63 => ⟨S8192, .i1⟩
  | 64 => ⟨S_, .i32⟩
  | 65 => ⟨S_, .i32⟩
  | 66 => ⟨S8192, .i32⟩
  | 67 => ⟨S8192, .i32⟩
  | 68 => ⟨S8192, .i32⟩
  | 69 => ⟨S_, .i32⟩
  | 70 => ⟨S8192, .i32⟩
  | 71 => ⟨S8192, .i1⟩
  | 72 => ⟨S_, .i32⟩
  | 73 => ⟨S8192, .i32⟩
  | 74 => ⟨S8192, .i1⟩
  | 75 => ⟨S8192, .f32⟩
  | 76 => ⟨S_, .f32⟩
  | 77 => ⟨S8192, .f32⟩
  | 78 => ⟨S8192, .f32⟩
  | 79 => ⟨S_, .f32⟩
  | 80 => ⟨S_, .f32⟩
  | 81 => ⟨S8192, .f32⟩
  | 82 => ⟨S8192, .f32⟩
  | 83 => ⟨S_, .f32⟩
  | 84 => ⟨S_, .f32⟩
  | 85 => ⟨S8192, .f32⟩
  | 86 => ⟨S8192, .f32⟩
  | 87 => ⟨S1x8192, .f32⟩
  | 88 => ⟨S3072x8192, .f32⟩
  | 89 => ⟨S3072x8192, .f32⟩
  | 90 => ⟨S_, .f32⟩
  | 91 => ⟨S_, .f32⟩
  | 92 => ⟨S_, .f32⟩
  | 93 => ⟨S3072x8192, .f32⟩
  | 94 => ⟨S3072x8192, .f32⟩
  | 95 => ⟨S_, .f32⟩
  | 96 => ⟨S3072x8192, .f32⟩
  | 97 => ⟨S3072x8192, .f32⟩
  | 98 => ⟨S_, .i32⟩
  | 99 => ⟨S8192, .i32⟩
  | 100 => ⟨S8192, .i1⟩
  | 101 => ⟨S_, .i32⟩
  | 102 => ⟨S8192, .i32⟩
  | 103 => ⟨S8192, .i1⟩
  | 104 => ⟨S8192, .f32⟩
  | 105 => ⟨S_, .f32⟩
  | 106 => ⟨S8192, .f32⟩
  | 107 => ⟨S8192, .f32⟩
  | 108 => ⟨S_, .f32⟩
  | 109 => ⟨S_, .f32⟩
  | 110 => ⟨S8192, .f32⟩
  | 111 => ⟨S8192, .f32⟩
  | 112 => ⟨S_, .f32⟩
  | 113 => ⟨S_, .f32⟩
  | 114 => ⟨S8192, .f32⟩
  | 115 => ⟨S8192, .f32⟩
  | 116 => ⟨S1x3072, .f32⟩
  | 117 => ⟨S1024x3072, .f32⟩
  | 118 => ⟨S1024x3072, .f32⟩
  | 119 => ⟨S1024x3072, .f32⟩
  | 120 => ⟨S_, .f32⟩
  | 121 => ⟨S1024, .f32⟩
  | 122 => ⟨S_, .f32⟩
  | 123 => ⟨S1024, .f32⟩
  | 124 => ⟨S1024, .f32⟩
  | 125 => ⟨S254, .i32⟩
  | 126 => ⟨S_, .i32⟩
  | 127 => ⟨S254, .i32⟩
  | _ => ⟨S4x256x3072, .bf16⟩

abbrev hbmTy0_1 (i : Nat) : BufTy := match i % 128 with
  | 0 => ⟨S254, .i32⟩
  | 1 => ⟨S254, .f32⟩
  | 2 => ⟨S_, .f32⟩
  | 3 => ⟨S254, .f32⟩
  | 4 => ⟨S254, .f32⟩
  | 5 => ⟨S1024x1, .f32⟩
  | 6 => ⟨S1x254, .f32⟩
  | 7 => ⟨S1024x254, .f32⟩
  | 8 => ⟨S1024x254, .f32⟩
  | 9 => ⟨S1024x254, .i1⟩
  | 10 => ⟨S1024x254, .i32⟩
  | 11 => ⟨S_, .i32⟩
  | 12 => ⟨S1024, .i32⟩
  | 13 => ⟨S_, .i32⟩
  | 14 => ⟨S1024, .i32⟩
  | 15 => ⟨S1024, .i1⟩
  | 16 => ⟨S_, .f32⟩
  | 17 => ⟨S1024, .f32⟩
  | 18 => ⟨S1024, .i1⟩
  | 19 => ⟨S1024, .i1⟩
  | 20 => ⟨S_, .i32⟩
  | 21 => ⟨S1024, .i32⟩
  | 22 => ⟨S1024, .i32⟩
  | 23 => ⟨S_, .i32⟩
  | 24 => ⟨S_, .i32⟩
  | 25 => ⟨S1024, .i32⟩
  | 26 => ⟨S1024, .i32⟩
  | 27 => ⟨S_, .f32⟩
  | 28 => ⟨S1024, .f32⟩
  | 29 => ⟨S1024, .i1⟩
  | 30 => ⟨S_, .i32⟩
  | 31 => ⟨S_, .i32⟩
  | 32 => ⟨S1024, .i32⟩
  | 33 => ⟨S1024, .i32⟩
  | 34 => ⟨S1024, .i32⟩
  | 35 => ⟨S_, .i32⟩
  | 36 => ⟨S1024, .i32⟩
  | 37 => ⟨S1024, .i1⟩
  | 38 => ⟨S_, .i32⟩
  | 39 => ⟨S1024, .i32⟩
  | 40 => ⟨S1024, .i1⟩
  | 41 => ⟨S1024, .f32⟩
  | 42 => ⟨S_, .f32⟩
  | 43 => ⟨S1024, .f32⟩
  | 44 => ⟨S1024, .f32⟩
  | 45 => ⟨S_, .f32⟩
  | 46 => ⟨S_, .f32⟩
  | 47 => ⟨S1024, .f32⟩
  | 48 => ⟨S1024, .f32⟩
  | 49 => ⟨S_, .f32⟩
  | 50 => ⟨S_, .f32⟩
  | 51 => ⟨S1024, .f32⟩
  | 52 => ⟨S1024, .f32⟩
  | 53 => ⟨S1024x1, .f32⟩
  | 54 => ⟨S1024x3072, .f32⟩
  | 55 => ⟨S1024x3072, .f32⟩
  | 56 => ⟨S_, .f32⟩
  | 57 => ⟨S_, .f32⟩
  | 58 => ⟨S_, .f32⟩
  | 59 => ⟨S1024x3072, .f32⟩
  | 60 => ⟨S1024x3072, .f32⟩
  | 61 => ⟨S_, .f32⟩
  | 62 => ⟨S1024x3072, .f32⟩
  | 63 => ⟨S1024x3072, .f32⟩
  | 64 => ⟨S_, .i32⟩
  | 65 => ⟨S1024, .i32⟩
  | 66 => ⟨S1024, .i1⟩
  | 67 => ⟨S_, .i32⟩
  | 68 => ⟨S1024, .i32⟩
  | 69 => ⟨S1024, .i1⟩
  | 70 => ⟨S1024, .f32⟩
  | 71 => ⟨S_, .f32⟩
  | 72 => ⟨S1024, .f32⟩
  | 73 => ⟨S1024, .f32⟩
  | 74 => ⟨S_, .f32⟩
  | 75 => ⟨S_, .f32⟩
  | 76 => ⟨S1024, .f32⟩
  | 77 => ⟨S1024, .f32⟩
  | 78 => ⟨S_, .f32⟩
  | 79 => ⟨S_, .f32⟩
  | 80 => ⟨S1024, .f32⟩
  | 81 => ⟨S1024, .f32⟩
  | 82 => ⟨S1x3072, .f32⟩
  | 83 => ⟨S1x8192, .f32⟩
  | 84 => ⟨S1024x1, .f32⟩
  | 85 => ⟨S4x256, .f32⟩
  | 86 => ⟨S1024x3072, .fp8e4m3⟩
  | 87 => ⟨S3072x8192, .fp8e4m3⟩
  | 88 => ⟨S1024x8192, .bf16⟩
  | _ => ⟨S4x256x3072, .bf16⟩

abbrev hbmTy (i : Nat) : BufTy := match i / 128 with
  | 0 => hbmTy0_0 i
  | 1 => hbmTy0_1 i
  | _ => ⟨S4x256x3072, .bf16⟩

abbrev bufTy : (tb : Table) → Fin (tcTables nBuf tb) → BufTy
  | .hbm, ⟨i, _⟩ => hbmTy i
  | .local _ .vmem, ⟨0, _⟩ => ⟨S1024x3072, .f32⟩
  | .local _ .vmem, ⟨1, _⟩ => ⟨S3072x8192, .f32⟩
  | .local _ .vmem, ⟨2, _⟩ => ⟨S1024x1, .f32⟩
  | .local _ .vmem, ⟨3, _⟩ => ⟨S1x8192, .f32⟩
  | .local _ .vmem, ⟨4, _⟩ => ⟨S1024x3072, .fp8e4m3⟩
  | .local _ .vmem, ⟨5, _⟩ => ⟨S3072x8192, .fp8e4m3⟩
  | .local _ .vmem, ⟨6, _⟩ => ⟨S1024x8192, .bf16⟩
  | _, _ => ⟨S4x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_c_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_10 : Ref sig .tc := ⟨.hbm, 54, rfl⟩
abbrev main_v39 : Ref sig .tc := ⟨.hbm, 55, rfl⟩
abbrev main_v40 : Ref sig .tc := ⟨.hbm, 56, rfl⟩
abbrev main_c_11 : Ref sig .tc := ⟨.hbm, 57, rfl⟩
abbrev main_call0_v0 : Ref sig .tc := ⟨.hbm, 58, rfl⟩
abbrev main_call0_v1 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_c_13 : Ref sig .tc := ⟨.hbm, 64, rfl⟩
abbrev main_call1_v0 : Ref sig .tc := ⟨.hbm, 65, rfl⟩
abbrev main_call1_v1 : Ref sig .tc := ⟨.hbm, 66, rfl⟩
abbrev main_v44 : Ref sig .tc := ⟨.hbm, 67, rfl⟩
abbrev main_v45 : Ref sig .tc := ⟨.hbm, 68, rfl⟩
abbrev main_c_14 : Ref sig .tc := ⟨.hbm, 69, rfl⟩
abbrev main_v46 : Ref sig .tc := ⟨.hbm, 70, rfl⟩
abbrev main_v47 : Ref sig .tc := ⟨.hbm, 71, rfl⟩
abbrev main_c_15 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_16 : Ref sig .tc := ⟨.hbm, 76, rfl⟩
abbrev main_v51 : Ref sig .tc := ⟨.hbm, 77, rfl⟩
abbrev main_v52 : Ref sig .tc := ⟨.hbm, 78, rfl⟩
abbrev main_cst_17 : Ref sig .tc := ⟨.hbm, 79, rfl⟩
abbrev main_call2_v0 : Ref sig .tc := ⟨.hbm, 80, rfl⟩
abbrev main_call2_v1 : Ref sig .tc := ⟨.hbm, 81, rfl⟩
abbrev main_v53 : Ref sig .tc := ⟨.hbm, 82, rfl⟩
abbrev main_cst_18 : Ref sig .tc := ⟨.hbm, 83, rfl⟩
abbrev main_call3_v0 : Ref sig .tc := ⟨.hbm, 84, rfl⟩
abbrev main_call3_v1 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_19 : Ref sig .tc := ⟨.hbm, 90, rfl⟩
abbrev main_cst_20 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_v58 : Ref sig .tc := ⟨.hbm, 97, rfl⟩
abbrev main_c_21 : Ref sig .tc := ⟨.hbm, 98, rfl⟩
abbrev main_v59 : Ref sig .tc := ⟨.hbm, 99, rfl⟩
abbrev main_v60 : Ref sig .tc := ⟨.hbm, 100, rfl⟩
abbrev main_c_22 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_23 : Ref sig .tc := ⟨.hbm, 105, rfl⟩
abbrev main_v64 : Ref sig .tc := ⟨.hbm, 106, rfl⟩
abbrev main_v65 : Ref sig .tc := ⟨.hbm, 107, rfl⟩
abbrev main_cst_24 : Ref sig .tc := ⟨.hbm, 108, rfl⟩
abbrev main_call5_v0 : Ref sig .tc := ⟨.hbm, 109, rfl⟩
abbrev main_call5_v1 : Ref sig .tc := ⟨.hbm, 110, rfl⟩
abbrev main_v66 : Ref sig .tc := ⟨.hbm, 111, rfl⟩
abbrev main_cst_25 : Ref sig .tc := ⟨.hbm, 112, rfl⟩
abbrev main_call6_v0 : Ref sig .tc := ⟨.hbm, 113, rfl⟩
abbrev main_call6_v1 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_cst_26 : Ref sig .tc := ⟨.hbm, 120, rfl⟩
abbrev main_v72 : Ref sig .tc := ⟨.hbm, 121, rfl⟩
abbrev main_cst_27 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_c_28 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_cst_29 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_c_30 : Ref sig .tc := ⟨.hbm, 139, rfl⟩
abbrev main_v87 : Ref sig .tc := ⟨.hbm, 140, rfl⟩
abbrev main_c_31 : Ref sig .tc := ⟨.hbm, 141, rfl⟩
abbrev main_v88 : Ref sig .tc := ⟨.hbm, 142, rfl⟩
abbrev main_v89 : Ref sig .tc := ⟨.hbm, 143, rfl⟩
abbrev main_cst_32 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_c_33 : Ref sig .tc := ⟨.hbm, 148, rfl⟩
abbrev main_v93 : Ref sig .tc := ⟨.hbm, 149, rfl⟩
abbrev main_v94 : Ref sig .tc := ⟨.hbm, 150, rfl⟩
abbrev main_c_34 : Ref sig .tc := ⟨.hbm, 151, rfl⟩
abbrev main_call7_v0 : Ref sig .tc := ⟨.hbm, 152, rfl⟩
abbrev main_call7_v1 : Ref sig .tc := ⟨.hbm, 153, rfl⟩
abbrev main_v95 : Ref sig .tc := ⟨.hbm, 154, rfl⟩
abbrev main_cst_35 : Ref sig .tc := ⟨.hbm, 155, rfl⟩
abbrev main_v96 : Ref sig .tc := ⟨.hbm, 156, rfl⟩
abbrev main_v97 : Ref sig .tc := ⟨.hbm, 157, rfl⟩
abbrev main_c_36 : Ref sig .tc := ⟨.hbm, 158, rfl⟩
abbrev main_call8_v0 : Ref sig .tc := ⟨.hbm, 159, rfl⟩
abbrev main_call8_v1 : Ref sig .tc := ⟨.hbm, 160, rfl⟩
abbrev main_v98 : Ref sig .tc := ⟨.hbm, 161, rfl⟩
abbrev main_v99 : Ref sig .tc := ⟨.hbm, 162, rfl⟩
abbrev main_c_37 : Ref sig .tc := ⟨.hbm, 163, rfl⟩
abbrev main_v100 : Ref sig .tc := ⟨.hbm, 164, rfl⟩
abbrev main_v101 : Ref sig .tc := ⟨.hbm, 165, rfl⟩
abbrev main_c_38 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_cst_39 : Ref sig .tc := ⟨.hbm, 170, rfl⟩
abbrev main_v105 : Ref sig .tc := ⟨.hbm, 171, rfl⟩
abbrev main_v106 : Ref sig .tc := ⟨.hbm, 172, rfl⟩
abbrev main_cst_40 : Ref sig .tc := ⟨.hbm, 173, rfl⟩
abbrev main_call9_v0 : Ref sig .tc := ⟨.hbm, 174, rfl⟩
abbrev main_call9_v1 : Ref sig .tc := ⟨.hbm, 175, rfl⟩
abbrev main_v107 : Ref sig .tc := ⟨.hbm, 176, rfl⟩
abbrev main_cst_41 : Ref sig .tc := ⟨.hbm, 177, rfl⟩
abbrev main_call10_v0 : Ref sig .tc := ⟨.hbm, 178, rfl⟩
abbrev main_call10_v1 : Ref sig .tc := ⟨.hbm, 179, rfl⟩
abbrev main_v108 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_cst_42 : Ref sig .tc := ⟨.hbm, 184, rfl⟩
abbrev main_cst_43 : Ref sig .tc := ⟨.hbm, 185, rfl⟩
abbrev main_call11_v0 : Ref sig .tc := ⟨.hbm, 186, rfl⟩
abbrev main_call11_v1 : Ref sig .tc := ⟨.hbm, 187, rfl⟩
abbrev main_call11_v2 : Ref sig .tc := ⟨.hbm, 188, rfl⟩
abbrev main_call11_v3 : Ref sig .tc := ⟨.hbm, 189, rfl⟩
abbrev main_call11_v4 : Ref sig .tc := ⟨.hbm, 190, rfl⟩
abbrev main_v112 : Ref sig .tc := ⟨.hbm, 191, rfl⟩
abbrev main_c_44 : Ref sig .tc := ⟨.hbm, 192, rfl⟩
abbrev main_v113 : Ref sig .tc := ⟨.hbm, 193, rfl⟩
abbrev main_v114 : Ref sig .tc := ⟨.hbm, 194, rfl⟩
abbrev main_c_45 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_cst_46 : Ref sig .tc := ⟨.hbm, 199, rfl⟩
abbrev main_v118 : Ref sig .tc := ⟨.hbm, 200, rfl⟩
abbrev main_v119 : Ref sig .tc := ⟨.hbm, 201, rfl⟩
abbrev main_cst_47 : Ref sig .tc := ⟨.hbm, 202, rfl⟩
abbrev main_call12_v0 : Ref sig .tc := ⟨.hbm, 203, rfl⟩
abbrev main_call12_v1 : Ref sig .tc := ⟨.hbm, 204, rfl⟩
abbrev main_v120 : Ref sig .tc := ⟨.hbm, 205, rfl⟩
abbrev main_cst_48 : Ref sig .tc := ⟨.hbm, 206, rfl⟩
abbrev main_call13_v0 : Ref sig .tc := ⟨.hbm, 207, rfl⟩
abbrev main_call13_v1 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126_0 : Ref sig .tc := ⟨.hbm, 214, rfl⟩
abbrev main_v126_1 : Ref sig .tc := ⟨.hbm, 215, rfl⟩
abbrev main_v126_2 : Ref sig .tc := ⟨.hbm, 216, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1024x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x3072 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x8192 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Own.lean ====
module

public import Idealize.ShloMosaic.Lib.Transfers
public import Idealize.ShloMosaic.Lib.Pipeline
public import Idealize.ShloMosaic.Lib.Scf
public import Idealize.ShloMosaic.Lib.Sig
public import Idealize.ShloMosaic.PureOps

@[expose] public section

noncomputable section

/-! Ownership of elements of a memref, by the memref's own indices: `own m d q K g` holds the elements `K` of the memref
`m` on device `d` at share `q`, and on `K` the memref reads as `g`. The rules for loads, stores and transfers follow. -/

namespace Cert.Fp8

open Idealize.ShloMosaic Idealize.ShloMosaic.TcCoe
open Idealize.SL Idealize.SL.RA Idealize.SL.Sem Idealize.SL.ProofMode
open Idealize.SL.BI (sProp Storable)
open scoped Idealize.SL.BI
open Idealize.SL.BI.BIBase Idealize.SL.BI.Laws

variable {nD : Nat} {τ : Topo} {sig : RefSig} {Ix : Type} [DecidableEq Ix] {Val : EltTy → Type}
  {Name : Type} [DecidableEq Name] {U : Type} [URA U] {Lvl : Type} {Λ : Labels}
variable {sp sp' : Space} {s s' : Shape} {e : EltTy}

local notation "𝕄" => MT nD τ sig Ix Val Name U Lvl

/-- The TensorCore of device `d`. -/
abbrev tcT (d : Dev nD) : Thread nD τ := (d, Proc.tc)

/-- The elements `K` of `m` on device `d` at share `q`, reading as `g`. -/
def own (m : Memref sig .tc sp s e) (d : Dev nD) (q : PosShare TreeShare) (K : Finset s.Idx) (g : s.Idx → Val e) : sProp 𝕄 :=
  iprop(∃ f : Buf Val (View.loc (tcT (τ := τ) d) m.view), ⌜∀ x ∈ K, m.view.read Val f x = g x⌝
    ∗ (View.loc (tcT (τ := τ) d) m.view ↦[m.view.setOn K]{q} f))

variable {m : Memref sig .tc sp s e} {d : Dev nD} {q : PosShare TreeShare} {K K' : Finset s.Idx} {g g' : s.Idx → Val e}

/-- What is owned may be described by any function equal on the elements. -/
theorem own_congr (h : ∀ x ∈ K, g x = g' x) : (own m d q K g : sProp 𝕄) ⊢ own m d q K g' := by
  unfold own
  iintro ⟨%f, %hf, H⟩
  iexists f
  isplitr
  · ipureintro; intro x hx; rw [hf x hx, h x hx]
  · iexact H

/-- Disjoint sets of elements are owned together or apart. -/
theorem own_union (h : Disjoint K K') : (own m d q (K ∪ K') g : sProp 𝕄) ⊣⊢ iprop(own m d q K g ∗ own m d q K' g) := by
  have hd : Disjoint (m.view.setOn K) (m.view.setOn K') := by
    unfold View.setOn; exact (Finset.disjoint_map _).2 h
  have hu : m.view.setOn (K ∪ K') = m.view.setOn K ∪ m.view.setOn K' := by unfold View.setOn; exact Finset.map_union _ _
  constructor
  · unfold own
    iintro ⟨%f, %hf, H⟩
    rw [hu]
    ihave H := (pointsTo_union hd).1 $$ H
    icases H with ⟨H1, H2⟩
    isplitl [H1]
    · iexists f; isplitr
      · ipureintro; intro x hx; exact hf x (Finset.mem_union_left _ hx)
      · iexact H1
    · iexists f; isplitr
      · ipureintro; intro x hx; exact hf x (Finset.mem_union_right _ hx)
      · iexact H2
  · unfold own
    iintro ⟨⟨%f, %hf, H1⟩, ⟨%f', %hf', H2⟩⟩
    iexists ((m.view.setOn K').piecewise f' f)
    isplitr
    · ipureintro
      intro x hx
      unfold View.read
      by_cases hx' : x ∈ K'
      · rw [Finset.piecewise_eq_of_mem _ _ _ (View.mem_setOn m.view |>.2 hx')]; exact hf' x hx'
      · rw [Finset.piecewise_eq_of_notMem _ _ _ (fun h => hx' (View.mem_setOn m.view |>.1 h))]
        exact hf x ((Finset.mem_union.1 hx).resolve_right hx')
    · rw [hu]
      iapply (pointsTo_join hd) $$ [H1 H2]
      isplitl [H1] <;> iassumption

section Rules

variable [Preorder Lvl] {defs : Defs nD τ sig Val Λ} (𝒱 : Variants) (bd : Option 𝒱.V)
variable {α : Type} {Q : α → sProp (MT nD τ sig Ix Val Name U Lvl)}

/-- A load of a rectangle among the owned elements reads what they are described by. -/
theorem wp_own_load {cs : CoreSpace} {m : Memref sig .tc cs s e} {K : Finset s.Idx} {r : Rect s} {hl : m.view.LoadsAt r}
    {k : (r.shape.Idx → Val e) → Prog (TpuEff nD τ sig Val Λ .tc) α} (hK : ∀ y, r.emb y ∈ K) :
    (own m d q K g : sProp 𝕄)
      ⊢ iprop((own m d q K g -∗ wp frame (wpE defs 𝒱 (tcT d) bd) Set.univ (k (fun y => g (r.emb y))) Q)
          -∗ wp frame (wpE defs 𝒱 (tcT d) bd) Set.univ (.op (.load m r hl) k) Q) := by
  have hS : (m.access r).set ⊆ m.view.setOn K := by
    rw [View.set_slice]; unfold View.setOn
    apply Finset.map_subset_map.2
    intro x hx
    rw [← Rect.map_emb_univ] at hx
    obtain ⟨y, -, rfl⟩ := Finset.mem_map.1 hx
    exact hK y
  unfold own
  iintro ⟨%f, %hf, H⟩ Hk
  iapply (wp_load_rect (defs := defs) (hl := hl) (k := k) (c := tcT d) 𝒱 bd Set.univ hS) $$ H
  iintro H
  have hg : (m.access r).read Val f = fun y => g (r.emb y) := by
    funext y
    exact hf _ (hK y)
  rw [hg]
  iapply Hk
  iexists f
  isplitr
  · ipureintro; exact hf
  · iexact H

/-- A store of a rectangle among the owned elements. -/
theorem wp_own_store {cs : CoreSpace} {m : Memref sig .tc cs s e} {K : Finset s.Idx} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ .tc) α} (hK : ∀ y, r.emb y ∈ K)
    (hw : ∀ y, g' (r.emb y) = w y) (ho : ∀ x ∈ K, (∀ y, r.emb y ≠ x) → g' x = g x) :
    (own m d fullShare K g : sProp 𝕄)
      ⊢ iprop((own m d fullShare K g' -∗ wp frame (wpE defs 𝒱 (tcT d) bd) Set.univ (k ⟨⟩) Q)
          -∗ wp frame (wpE defs 𝒱 (tcT d) bd) Set.univ (.op (.store m r w Finset.univ hx hm) k) Q) := by
  have hset : (m.access r).setOn Finset.univ = r.set.map m.view.emb := by
    rw [View.setOn_univ, View.set_slice]
  have hS : (m.access r).setOn Finset.univ ⊆ m.view.setOn K := by
    rw [hset]; unfold View.setOn
    apply Finset.map_subset_map.2
    intro x hx
    rw [← Rect.map_emb_univ] at hx
    obtain ⟨y, -, rfl⟩ := Finset.mem_map.1 hx
    exact hK y
  unfold own
  iintro ⟨%f, %hf, H⟩ Hk
  iapply (wp_store (defs := defs) (hx := hx) (hm := hm) (k := k) (c := tcT d) (Mk := Finset.univ) (w := w) 𝒱 bd Set.univ hS) $$ H
  iintro H
  iapply Hk
  iexists ((m.access r).write Val f w Finset.univ)
  isplitr
  · ipureintro
    intro x hx
    by_cases h : ∃ y, r.emb y = x
    · obtain ⟨y, rfl⟩ := h
      rw [hw]
      unfold View.read
      have := View.write_emb_of_mem (v := (m.access r)) (Val := Val) f w (M := Finset.univ) (x := y) (Finset.mem_univ _)
      have he : (m.access r).emb y = m.view.emb (r.emb y) := rfl
      rw [he] at this
      rw [this]; simp
    · rw [ho x hx (fun y hy => h ⟨y, hy⟩), ← hf x hx]
      unfold View.read
      rw [View.write_of_not_mem]
      rw [hset]
      intro hmem
      obtain ⟨z, hz, hzx⟩ := Finset.mem_map.1 hmem
      have := m.view.emb.injective hzx
      subst this
      rw [← Rect.map_emb_univ] at hz
      obtain ⟨y, -, rfl⟩ := Finset.mem_map.1 hz
      exact h ⟨y, rfl⟩
  · iexact H

end Rules

section Sub

/-- Owning a rectangle of a memref is owning the memref's slice. -/
theorem own_slice (r : Rect s) (hr : ∀ a, r.stride a = 1) :
    (own m d q r.set g : sProp 𝕄) ⊣⊢ own (m.slice r hr) d q Finset.univ (fun y => g (r.emb y)) := by
  unfold own
  have hs : (m.slice r hr).view.setOn Finset.univ = m.view.setOn r.set := by
    exact View.set_slice m.view r
  constructor
  · iintro ⟨%f, %hf, H⟩
    iexists f
    isplitr
    · ipureintro; intro y _; exact hf _ (by rw [← Rect.map_emb_univ]; exact Finset.mem_map_of_mem _ (Finset.mem_univ _))
    · rw [hs]; iexact H
  · iintro ⟨%f, %hf, H⟩
    iexists f
    isplitr
    · ipureintro
      intro x hx
      rw [← Rect.map_emb_univ] at hx
      obtain ⟨y, -, rfl⟩ := Finset.mem_map.1 hx
      exact hf y (Finset.mem_univ _)
    · rw [hs]; iexact H

/-- Owning all of a memref is owning all of it squeezed. -/
theorem own_squeeze (h : s.Squeezes s') :
    (own m d q Finset.univ g : sProp 𝕄) ⊣⊢ own (m.squeeze s' h) d q Finset.univ (fun y => g (Shape.reshapeEquiv h.numel_eq y)) := by
  unfold own
  have hs : (m.squeeze s' h).view.setOn Finset.univ = m.view.setOn Finset.univ := by
    exact View.set_reshape m.view h.numel_eq
  constructor
  · iintro ⟨%f, %hf, H⟩
    iexists f
    isplitr
    · ipureintro; intro y _; exact hf _ (Finset.mem_univ _)
    · rw [hs]; iexact H
  · iintro ⟨%f, %hf, H⟩
    iexists f
    isplitr
    · ipureintro
      intro x hx
      have := hf ((Shape.reshapeEquiv h.numel_eq).symm x) (Finset.mem_univ _)
      beta_reduce at this
      rw [Equiv.apply_symm_apply] at this
      rw [← this]
      show m.view.read Val f x = m.view.read Val f (Shape.reshapeEquiv h.numel_eq ((Shape.reshapeEquiv h.numel_eq).symm x))
      rw [Equiv.apply_symm_apply]
    · rw [hs]; iexact H

end Sub

section Dma

variable [Preorder Lvl] {defs : Defs nD τ sig Val Λ} (𝒱 : Variants) (bd : Option 𝒱.V)
variable {α : Type} {Q : α → sProp (MT nD τ sig Ix Val Name U Lvl)}
variable (EC : UEmb Counters (MT nD τ sig Ix Val Name U Lvl))

/-- A transfer of all of `src` onto all of `dst`: its flight delivers the destination reading as the source did. -/
theorem wp_own_dma [Infinite Name] [EC.LandsIn (upEmb : UEmb _ 𝕄)]
    {src : Memref sig .tc sp s e} {dst : Memref sig .tc sp' s e} {gs gd : s.Idx → Val e} {sm : DmaSem sig}
    {hsrc : src.view.WordExact} {hdst : dst.view.WordExact} {hsem : DmaTarget.Typed (nD := nD) (τ := τ) (p := Proc.tc) sp (.dma sm) (.here dst)}
    {k : PUnit → Prog (TpuEff nD τ sig Val Λ .tc) α} (ι : Ix) (hN0 : 0 < dst.view.dmaCredit) :
    iprop(own src d q Finset.univ gs ∗ own dst d fullShare Finset.univ gd ∗ semVal (tcT d, .dma sm) 0)
      ⊢ iprop((Transfers.Flight EC (tcT d) (.dma sm) ι dst.view.dmaCredit
                  iprop(own dst d fullShare Finset.univ gs ∗ own src d q Finset.univ gs)
              -∗ wp frame (wpE defs 𝒱 (tcT d) bd) Set.univ (k ⟨⟩) Q)
          -∗ wp frame (wpE defs 𝒱 (tcT d) bd) Set.univ (.op (.enqueueDma src (.here dst) (.dma sm) hsrc hdst hsem) k) Q) := by
  unfold own
  iintro ⟨⟨%fs, %hfs, Hs⟩, ⟨%fd, %hfd, Hd⟩, Hv⟩ Hk
  iapply (Transfers.wp_dmaLocal (defs := defs) (k := k) (hsrc := hsrc) (hdst := hdst) (hsem := hsem) (via := .same) (src := src) (dst := dst)
    (Sd := dst.view.set) (fs := fs) (fd := fd) (q := q) EC 𝒱 (tcT d) bd ι dst.view.dmaCredit rfl hN0 (Finset.Subset.refl _)) $$ [Hs Hd Hv]
  · isplitl [Hs]; · iexact Hs
    isplitl [Hd]; · iexact Hd
    iexact Hv
  iintro HF
  iapply Hk
  iapply (Transfers.Flight_mono (EC := EC) (c := tcT d) ?_) $$ HF
  iintro ⟨Hd, Hs⟩
  isplitl [Hd]
  · iexists (dst.view.write Val fd (src.view.read Val fs) Finset.univ)
    isplitr
    · ipureintro
      intro x hx
      unfold View.read
      rw [View.write_emb_of_mem _ _ (Finset.mem_univ x)]
      rw [← hfs x hx]; simp [View.read]
    · iexact Hd
  · iexists fs
    isplitr
    · ipureintro; exact hfs
    · iexact Hs

/-- The wait for a transfer in flight takes its delivery. -/
theorem wp_own_wait [EC.LandsIn (upEmb : UEmb _ 𝕄)] {s₁ : Shape} {e₁ : EltTy} {sem : DmaSem sig}
    {srcw : Memref sig .tc sp' s₁ e₁} {dstw : Memref sig .tc sp s e} {hsrc : srcw.view.WordExact} {hdst : dstw.view.WordExact}
    {k : PUnit → Prog (TpuEff nD τ sig Val Λ .tc) α} (ι : Ix) {N : ℕ} (hN : dstw.view.dmaCredit = N) {D : sProp 𝕄} :
    iprop(Transfers.Flight EC (tcT d) (.dma sem) ι N D ∗ (∃ W, owes (tcT d) 0 W))
      ⊢ iprop((iprop(D ∗ semVal (tcT d, .dma sem) 0 ∗ (∃ W, owes (tcT d) 0 W)) -∗ wp frame (wpE defs 𝒱 (tcT d) bd) Set.univ (k ⟨⟩) Q)
          -∗ wp frame (wpE defs 𝒱 (tcT d) bd) Set.univ (.op (.waitDma2 sem srcw dstw hsrc hdst) k) Q) := by
  iintro ⟨HF, ⟨%W, HO⟩⟩ Hk
  iapply (Transfers.wp_waitLocal (defs := defs) (k := k) (hsrc := hsrc) (hdst := hdst) (srcw := srcw) (dstw := dstw) EC 𝒱 (tcT d) bd ι hN) $$ [HF HO]
  · isplitl [HF] <;> iassumption
  iintro ⟨HD, Hv, HO⟩
  iapply Hk
  isplitl [HD]; · iexact HD
  isplitl [Hv]; · iexact Hv
  iexists _; iexact HO

end Dma

end Cert.Fp8
-- ==== Proof.Body.lean ====
module

public import Idealize.ShloMosaic.Lib.Pipeline
public import Idealize.ShloMosaic.Lib.PairWhole
public import Idealize.ShloMosaic.Lib.Scf
public import Idealize.ShloMosaic.Lib.Sig
public import Idealize.ShloMosaic.PureOps

@[expose] public section

noncomputable section

/-! The kernel's body as a short program: the same effects in the same order, its unrolled stretches written as
recursions over the number of steps and each step given what comes after it. The buffers are a record, so one text
serves every signature. -/

namespace Cert.Fp8

open Idealize.ShloMosaic Idealize.SL.Sem

abbrev T0 : Shape := ⟨0, ![]⟩
abbrev T1 (a : ℕ) : Shape := ⟨1, ![a]⟩
abbrev T2 (a b : ℕ) : Shape := ⟨2, ![a, b]⟩
abbrev T3 (a b c : ℕ) : Shape := ⟨3, ![a, b, c]⟩

/-- A stretch of length `a` from `p` lies within `A`. -/
theorem inb1 {A a p : ℕ} (h : p + a ≤ A) : ∀ i : Fin 1, (![p] : Fin 1 → ℕ) i + (T1 a).size i ≤ (T1 A).size i := by
  intro i; fin_cases i; exact h

/-- The same on two axes. -/
theorem inb2 {A B a b p q : ℕ} (h : p + a ≤ A) (h' : q + b ≤ B) :
    ∀ i : Fin 2, (![p, q] : Fin 2 → ℕ) i + (T2 a b).size i ≤ (T2 A B).size i := by
  intro i; fin_cases i; exacts [h, h']

/-- The same on three axes. -/
theorem inb3 {A B C a b c p q r : ℕ} (h : p + a ≤ A) (h' : q + b ≤ B) (h'' : r + c ≤ C) :
    ∀ i : Fin 3, (![p, q, r] : Fin 3 → ℕ) i + (T3 a b c).size i ≤ (T3 A B C).size i := by
  intro i; fin_cases i; exacts [h, h', h'']

/-- The rectangle of size `a` at offset `p`. -/
abbrev rc1 {A : ℕ} (a p : ℕ) (h : p + a ≤ A) : Rect (T1 A) := Rect.unit (s := T1 A) ![p] (T1 a).size (inb1 h)
/-- The rectangle of size `a × b` at offset `(p, q)`. -/
abbrev rc2 {A B : ℕ} (a b p q : ℕ) (h : p + a ≤ A) (h' : q + b ≤ B) : Rect (T2 A B) :=
  Rect.unit (s := T2 A B) ![p, q] (T2 a b).size (inb2 h h')
/-- The rectangle of size `a × b × c` at offset `(p, q, r)`. -/
abbrev rc3 {A B C : ℕ} (a b c p q r : ℕ) (h : p + a ≤ A) (h' : q + b ≤ B) (h'' : r + c ≤ C) : Rect (T3 A B C) :=
  Rect.unit (s := T3 A B C) ![p, q, r] (T3 a b c).size (inb3 h h' h'')

/-- The kernel's buffers and semaphores: `x`, `wabs`, `w` are the operands, `y` to `xsc` the results, the rest scratch. -/
structure Bufs (sig : RefSig) where
  x : Memref sig .tc .hbm (T2 1024 3072) .bf16
  hx : x.IsWhole
  wabs : Memref sig .tc .vmem (T2 1 3072) .f32
  hwabs : wabs.IsWhole
  w : Memref sig .tc .hbm (T2 3072 8192) .bf16
  hw : w.IsWhole
  y : Memref sig .tc .hbm (T2 1024 8192) .bf16
  hy : y.IsWhole
  s : Memref sig .tc .vmem (T2 1 3072) .f32
  hs : s.IsWhole
  wc : Memref sig .tc .hbm (T2 3072 8192) .fp8e4m3
  hwc : wc.IsWhole
  wsc : Memref sig .tc .vmem (T2 1 8192) .f32
  hwsc : wsc.IsWhole
  xc : Memref sig .tc .hbm (T2 1024 3072) .fp8e4m3
  hxc : xc.IsWhole
  xsc : Memref sig .tc .vmem (T2 4 256) .f32
  hxsc : xsc.IsWhole
  xb : Memref sig .tc .vmem (T2 1024 3072) .bf16
  hxb : xb.IsWhole
  xcb : Memref sig .tc .vmem (T2 1024 3072) .fp8e4m3
  hxcb : xcb.IsWhole
  wb : Memref sig .tc .vmem (T3 4 3072 512) .bf16
  hwb : wb.IsWhole
  wsb : Memref sig .tc .vmem (T2 3072 512) .f32
  hwsb : wsb.IsWhole
  wcb : Memref sig .tc .vmem (T3 3 3072 512) .fp8e4m3
  hwcb : wcb.IsWhole
  yb : Memref sig .tc .vmem (T3 3 1024 512) .bf16
  hyb : yb.IsWhole
  srep : Memref sig .tc .vmem (T2 3072 128) .f32
  hsrep : srep.IsWhole
  xsrep : Memref sig .tc .vmem (T2 1024 128) .f32
  hxsrep : xsrep.IsWhole
  wscb : Memref sig .tc .vmem (T2 3 512) .f32
  hwscb : wscb.IsWhole
  xsem : DmaSems sig T0
  xcsem : DmaSems sig T0
  wsem : DmaSems sig (T1 4)
  wcsem : DmaSems sig (T1 3)
  ysem : DmaSems sig (T1 3)

variable {nD : Nat} {τ : Topo} {sig : RefSig} {Λ : Labels} {F : FTy → Type} [FloatOps F]

/-- A program of the kernel's core, without a result. -/
abbrev Code (nD : Nat) (τ : Topo) (sig : RefSig) (Λ : Labels) (F : FTy → Type) : Type _ :=
  Prog (TpuEff nD τ sig (Elt F) Λ .tc) PUnit

local notation "PR" => Code nD τ sig Λ F

/-! ### Values -/

/-- The one value of a float literal at every element. -/
abbrev lit (S : Shape) (b : BitVec 32) : FVec F S .f32 := broadcast S (Scalar.ofBits .f32 b)
/-- The one value of an integer at every element. -/
abbrev ilit (S : Shape) (b : BitVec 32) : IVec S 32 := broadcast S b

/-- One step of the search for the exponent: raise it by `bit` where `t` is at least the power of two so named. -/
def expStep {S : Shape} (t : FVec F S .f32) (bit : BitVec 32) (e : IVec S 32) : IVec S 32 :=
  select (cmpf .oge t (bitcastToFloat .f32 (shli (addi e (ilit S bit)) (ilit S 23#32)))) (addi e (ilit S bit)) e

/-- The biased exponent of `t`, by binary search. -/
def expBits {S : Shape} (t : FVec F S .f32) : IVec S 32 :=
  expStep t 1#32 (expStep t 2#32 (expStep t 4#32 (expStep t 8#32 (expStep t 16#32 (expStep t 32#32
    (expStep t 64#32 (expStep t 128#32 (ilit S 0#32))))))))

/-- The exponent of the scale for a largest magnitude `a`. -/
def expo {S : Shape} (a : FVec F S .f32) : IVec S 32 :=
  select (cmpf .oeq a (lit S 0x00000000#32)) (ilit S 0#32)
    (select (ori (cmpi .eq (expBits (mulf a (lit S 0x3B124925#32))) (ilit S 0#32))
        (cmpi .eq (expBits (mulf a (lit S 0x3B124925#32))) (ilit S 255#32)))
      (ilit S 0#32) (subi (expBits (mulf a (lit S 0x3B124925#32))) (ilit S 126#32)))

/-- Two to the power `n`, by its bits. -/
def pow2 {S : Shape} (n : IVec S 32) : FVec F S .f32 :=
  bitcastToFloat .f32 (select (cmpi .sle (addi n (ilit S 127#32)) (ilit S 0#32)) (ilit S 0#32)
    (select (cmpi .sge (addi n (ilit S 127#32)) (ilit S 255#32)) (ilit S 2139095040#32)
      (shli (addi n (ilit S 127#32)) (ilit S 23#32))))

/-- The scale for a largest magnitude. -/
def scaleOf {S : Shape} (a : FVec F S .f32) : FVec F S .f32 := pow2 (expo a)
/-- Its inverse. -/
def invOf {S : Shape} (a : FVec F S .f32) : FVec F S .f32 := pow2 (subi (ilit S 0#32) (expo a))

theorem lt8_32 : FTy.bits .fp8e4m3 < FTy.bits .f32 := by decide
theorem lt16_32 : FTy.bits .bf16 < FTy.bits .f32 := by decide

/-- Clip to the range of the fp8 type and cast. -/
def toFp8 {S : Shape} (v : FVec F S .f32) : FVec F S .fp8e4m3 :=
  truncf .fp8e4m3 (minimumf (lit S 0x43E00000#32) (maximumf (lit S 0xC3E00000#32) v)) lt8_32

/-- The smoothing factors of 128 columns, from the largest magnitudes by row class `m` and the weights' `u`. -/
def sval (m : FVec F (T2 16 128) .bf16) (u : FVec F (T2 1 128) .f32) : FVec F (T2 1 128) .f32 :=
  mulf (sqrt (maximumf (shapeCast (T2 1 128)
      (multiReduction .maximumf [0] (T1 128) (extf .f32 m lt16_32) 0xFF800000#32 (by decide) (.inl rfl) rfl) (by decide))
      (lit (T2 1 128) 0x3727C5AC#32)))
    (rsqrt (maximumf (shapeCast (T2 1 128) u (by decide)) (lit (T2 1 128) 0x3727C5AC#32)))

/-- The smoothing factors down the rows. -/
def srepVal (s : FVec F (T2 1 128) .f32) : FVec F (T2 128 128) .f32 :=
  shapeCast (T2 128 128) (transpose (T2 128 128) [1, 0]
    (broadcastTo (T2 128 128) (shapeCast (T2 1 128) s (by decide)) (by decide)) (by decide)) (by decide)

/-- The reciprocals of the smoothing factors. -/
def invS (s : FVec F (T2 1 3072) .f32) : FVec F (T2 1 3072) .f32 :=
  divf (lit (T2 1 3072) 0x3F800000#32) (shapeCast (T2 1 3072) s (by decide))

/-- Thirty-two rows of the scaled input. -/
def xsVal (v : FVec F (T2 32 3072) .bf16) (iv : FVec F (T2 1 3072) .f32) : FVec F (T2 32 3072) .f32 :=
  mulf (extf .f32 v lt16_32) (broadcastTo (T2 32 3072) iv (by decide))

/-- Their largest magnitudes. -/
def xaVal (v : FVec F (T2 32 3072) .bf16) (iv : FVec F (T2 1 3072) .f32) : FVec F (T2 32 1) .f32 :=
  shapeCast (T2 32 1) (multiReduction .maximumf [1] (T1 32) (absf (xsVal v iv)) 0xFF800000#32 (by decide) (.inl rfl) rfl) (by decide)

/-- Their codes. -/
def xcVal (v : FVec F (T2 32 3072) .bf16) (iv : FVec F (T2 1 3072) .f32) : FVec F (T2 32 3072) .fp8e4m3 :=
  shapeCast (T2 32 3072) (toFp8 (mulf (xsVal v iv) (broadcastTo (T2 32 3072) (invOf (xaVal v iv)) (by decide)))) (by decide)

/-- Their scales, along the lanes. -/
def xsrepVal (v : FVec F (T2 32 3072) .bf16) (iv : FVec F (T2 1 3072) .f32) : FVec F (T2 32 128) .f32 :=
  shapeCast (T2 32 128) (broadcastTo (T2 32 128) (shapeCast (T2 32 1) (scaleOf (xaVal v iv)) (by decide)) (by decide)) (by decide)

/-- The diagonal. -/
def diagV : IVec (T2 128 128) 1 :=
  cmpi .eq (iota .tc (T2 128 128) 32 [0] (by decide)) (iota .tc (T2 128 128) 32 [1] (by decide))

/-- The diagonal of a block, as a row. -/
def diagVal (v : FVec F (T2 128 128) .f32) : FVec F (T2 1 128) .f32 :=
  shapeCast (T2 1 128) (multiReduction .add [0] (T1 128) (select diagV v (lit (T2 128 128) 0x00000000#32)) 0x00000000#32
    (by decide) (.inl rfl) rfl) (by decide)

/-- Sixteen rows of weights as loaded, in the wide type. -/
def wext (w : FVec F (T3 1 16 512) .bf16) : FVec F (T2 16 512) .f32 :=
  extf .f32 (shapeCast (T2 16 512) w (by decide)) lt16_32

theorem cat16 : Shape.Concatenates [T2 16 128, T2 16 128, T2 16 128, T2 16 128] (T2 16 512) 1 := by decide
theorem cat512 : Shape.Concatenates [T2 512 128, T2 512 128, T2 512 128, T2 512 128] (T2 512 512) 1 := by decide

/-- Sixteen rows of scaled weights. -/
def wsVal (w : FVec F (T2 16 512) .f32) (s : FVec F (T2 16 128) .f32) : FVec F (T2 16 512) .f32 :=
  mulf w (concatenate (T2 16 512) 1 [⟨T2 16 128, s⟩, ⟨T2 16 128, s⟩, ⟨T2 16 128, s⟩, ⟨T2 16 128, s⟩] cat16)

/-- Their largest magnitudes by row class. -/
def wbVal (ws : FVec F (T2 16 512) .f32) : FVec F (T2 8 512) .f32 :=
  maximumf (absf (extractStridedSlice (T2 8 512) ![0, 0] ws (by decide))) (absf (extractStridedSlice (T2 8 512) ![8, 0] ws (by decide)))

/-- The largest magnitudes over the row classes. -/
def waVal (m : FVec F (T2 8 512) .f32) : FVec F (T2 1 512) .f32 :=
  shapeCast (T2 1 512) (multiReduction .maximumf [0] (T1 512) m 0xFF800000#32 (by decide) (.inl rfl) rfl) (by decide)

/-- What the codes of thirty-two rows of weights are before the upper clip. -/
def wqLo (ws : FVec F (T2 32 512) .f32) (inv : FVec F (T2 1 512) .f32) : FVec F (T2 32 512) .f32 :=
  maximumf (lit (T2 32 512) 0xC3E00000#32) (mulf ws (broadcastTo (T2 32 512) inv (by decide)))

/-- The codes of thirty-two rows of weights, from what they are before the upper clip. -/
def wqHi (hi lo : FVec F (T2 32 512) .f32) : FVec F (T3 1 32 512) .fp8e4m3 :=
  shapeCast (T3 1 32 512) (truncf .fp8e4m3 (minimumf hi lo) lt8_32) (by decide)

/-- The product's contraction: rows of the codes with columns. -/
def dotD : DotDims (T2 512 3072) (T2 3072 512) (T2 512 512) where
  lhsContracting := [1]
  rhsContracting := [0]
  lhsNonContracting := [0]
  rhsNonContracting := [1]
  lhsBatch := []
  rhsBatch := []
  wf := by decide

/-- Half of a tile of the result. -/
def yVal (sc : FVec F (T2 1 512) .f32) (xc : FVec F (T2 512 3072) .fp8e4m3) (wc : FVec F (T3 1 3072 512) .fp8e4m3)
    (xs : FVec F (T2 512 128) .f32) : FVec F (T3 1 512 512) .bf16 :=
  shapeCast (T3 1 512 512) (truncf .bf16 (mulf (mulf
      (matmul dotD none xc (shapeCast (T2 3072 512) wc (by decide)) (constant (T2 512 512) .f32 0x00000000#32))
      (concatenate (T2 512 512) 1 [⟨T2 512 128, xs⟩, ⟨T2 512 128, xs⟩, ⟨T2 512 128, xs⟩, ⟨T2 512 128, xs⟩] cat512))
      (broadcastTo (T2 512 512) sc (by decide))) lt16_32) (by decide)

/-! ### Effects -/

/-- Load a rectangle. -/
def ld {s : Shape} {e : EltTy} (m : Memref sig .tc .vmem s e) (r : Rect s) (h : 0 < r.shape.numel)
    (K : (r.shape.Idx → Elt F e) → PR) : PR :=
  .op (.load m r.toLoadRect (View.loadsAt_vmem h)) K

/-- Store a rectangle of 32-bit elements. -/
def st {s : Shape} (m : Memref sig .tc .vmem s .f32) (r : Rect s) (h : 0 < r.shape.numel)
    (v : r.shape.Idx → Elt F .f32) (K : PR) : PR :=
  .op (.store m r v Finset.univ (View.stores_vmem_bits_univ h rfl) (.inl rfl)) fun _ => K

/-- Store a rectangle of narrower elements. -/
def stp {s : Shape} {e : EltTy} (m : Memref sig .tc .vmem s e) (hm : m.IsWhole) (r : Rect s) (h : 0 < r.shape.numel)
    (hp : r.PackedRows e.packing) (v : r.shape.Idx → Elt F e) (K : PR) : PR :=
  .op (.store m r v Finset.univ (View.stores_vmem h (hm.storeExact_slice rfl _ hp) (fun _ => rfl)) (.inl rfl)) fun _ => K

variable (b : Bufs sig)

theorem numel2 {a c p q A B : ℕ} (h : p + a ≤ A) (h' : q + c ≤ B) (ha : 0 < a) (hc : 0 < c) :
    0 < (rc2 (A := A) (B := B) a c p q h h').shape.numel := by
  show 0 < ∏ i : Fin 2, (![a, c] : Fin 2 → ℕ) i
  rw [Fin.prod_univ_two]; exact Nat.mul_pos ha hc

theorem numel3 {a c d p q r A B C : ℕ} (h : p + a ≤ A) (h' : q + c ≤ B) (h'' : r + d ≤ C) (ha : 0 < a) (hc : 0 < c) (hd : 0 < d) :
    0 < (rc3 (A := A) (B := B) (C := C) a c d p q r h h' h'').shape.numel := by
  show 0 < ∏ i : Fin 3, (![a, c, d] : Fin 3 → ℕ) i
  rw [Fin.prod_univ_three]; exact Nat.mul_pos (Nat.mul_pos ha hc) hd

/-- Whole rows of packed elements on two axes. -/
theorem packed2 {a c p q A B k : ℕ} (h : p + a ≤ A) (h' : q + c ≤ B) (hp : k ∣ p) (ha : k ∣ a) :
    (rc2 (A := A) (B := B) a c p q h h').PackedRows k :=
  Rect.packedRows_of_rowAxis (rc2 a c p q h h') k (le_refl 2) hp ha rfl

/-- The same on three. -/
theorem packed3 {a c d p q r A B C k : ℕ} (h : p + a ≤ A) (h' : q + c ≤ B) (h'' : r + d ≤ C) (hp : k ∣ q) (ha : k ∣ c) :
    (rc3 (A := A) (B := B) (C := C) a c d p q r h h' h'').PackedRows k :=
  Rect.packedRows_of_rowAxis (rc3 a c d p q r h h' h'') k (Nat.le_succ 2) hp ha rfl

theorem pk_wb : EltTy.packing .bf16 = 2 := rfl
theorem pk_f8 : EltTy.packing .fp8e4m3 = 4 := rfl

theorem sqW : (T3 1 3072 512).Squeezes (T2 3072 512) := by decide
theorem sqY : (T3 1 1024 512).Squeezes (T2 1024 512) := by decide
theorem sq0 : (T1 1).Squeezes T0 := by decide

/-! ### The transfers' ends -/

/-- A tile of the weights. -/
def wTile (q : ℕ) (h : q + 512 ≤ 8192) : Memref sig .tc .hbm (T2 3072 512) .bf16 :=
  b.w.slice (rc2 3072 512 0 q (by decide) h) (fun _ => rfl)
/-- A slot of the weights' buffer. -/
def wSlot (k : ℕ) (h : k + 1 ≤ 4) : Memref sig .tc .vmem (T2 3072 512) .bf16 :=
  (b.wb.slice (rc3 1 3072 512 k 0 0 h (by decide) (by decide)) (fun _ => rfl)).squeeze (T2 3072 512) sqW
/-- A tile of the weights' codes. -/
def wcTile (q : ℕ) (h : q + 512 ≤ 8192) : Memref sig .tc .hbm (T2 3072 512) .fp8e4m3 :=
  b.wc.slice (rc2 3072 512 0 q (by decide) h) (fun _ => rfl)
/-- A slot of the codes' buffer. -/
def wcSlot (k : ℕ) (h : k + 1 ≤ 3) : Memref sig .tc .vmem (T2 3072 512) .fp8e4m3 :=
  (b.wcb.slice (rc3 1 3072 512 k 0 0 h (by decide) (by decide)) (fun _ => rfl)).squeeze (T2 3072 512) sqW
/-- A tile of the result. -/
def yTile (q : ℕ) (h : q + 512 ≤ 8192) : Memref sig .tc .hbm (T2 1024 512) .bf16 :=
  b.y.slice (rc2 1024 512 0 q (by decide) h) (fun _ => rfl)
/-- A slot of the result's buffer. -/
def ySlot (k : ℕ) (h : k + 1 ≤ 3) : Memref sig .tc .vmem (T2 1024 512) .bf16 :=
  (b.yb.slice (rc3 1 1024 512 k 0 0 h (by decide) (by decide)) (fun _ => rfl)).squeeze (T2 1024 512) sqY
/-- A semaphore of an array. -/
def semAt {A : ℕ} (s : DmaSems sig (T1 A)) (k : ℕ) (h : k + 1 ≤ A) : DmaSem sig :=
  ((s.slice (rc1 1 k h)).squeeze T0 sq0).sem

theorem wTile_we (q : ℕ) (h : q + 512 ≤ 8192) : (wTile b q h).view.WordExact :=
  b.hw.wordExact_slice rfl _ (packed2 _ _ ⟨0, rfl⟩ ⟨1536, rfl⟩).wholeWords
theorem wcTile_we (q : ℕ) (h : q + 512 ≤ 8192) : (wcTile b q h).view.WordExact :=
  b.hwc.wordExact_slice rfl _ (packed2 _ _ ⟨0, rfl⟩ ⟨768, rfl⟩).wholeWords
theorem yTile_we (q : ℕ) (h : q + 512 ≤ 8192) : (yTile b q h).view.WordExact :=
  b.hy.wordExact_slice rfl _ (packed2 _ _ ⟨0, rfl⟩ ⟨512, rfl⟩).wholeWords
theorem wSlot_we (k : ℕ) (h : k + 1 ≤ 4) : (wSlot b k h).view.WordExact :=
  (b.hwb.wordExact_slice rfl _ (packed3 _ _ _ ⟨0, rfl⟩ ⟨1536, rfl⟩).wholeWords).reshape _ _
theorem wcSlot_we (k : ℕ) (h : k + 1 ≤ 3) : (wcSlot b k h).view.WordExact :=
  (b.hwcb.wordExact_slice rfl _ (packed3 _ _ _ ⟨0, rfl⟩ ⟨768, rfl⟩).wholeWords).reshape _ _
theorem ySlot_we (k : ℕ) (h : k + 1 ≤ 3) : (ySlot b k h).view.WordExact :=
  (b.hyb.wordExact_slice rfl _ (packed3 _ _ _ ⟨0, rfl⟩ ⟨512, rfl⟩).wholeWords).reshape _ _

/-- Start a copy. -/
def cp {sp sp' : Space} {s : Shape} {e : EltTy} (src : Memref sig .tc sp s e) (dst : Memref sig .tc sp' s e) (sm : DmaSem sig)
    (hs : src.view.WordExact) (hd : dst.view.WordExact)
    (ht : DmaTarget.Typed (nD := nD) (τ := τ) (p := Proc.tc) sp (.dma sm) (.here dst)) (K : PR) : PR :=
  .op (.enqueueDma src (.here dst) (.dma sm) hs hd ht) fun _ => K

/-- Wait for a copy. -/
def wt {sp sp' : Space} {s : Shape} {e : EltTy} (src : Memref sig .tc sp s e) (dst : Memref sig .tc sp' s e) (sm : DmaSem sig)
    (hs : src.view.WordExact) (hd : dst.view.WordExact) (K : PR) : PR :=
  .op (.waitDma2 sm src dst hs hd) fun _ => K

def wStart (q k : ℕ) (h : q + 512 ≤ 8192) (h' : k + 1 ≤ 4) (K : PR) : PR :=
  cp (wTile b q h) (wSlot b k h') (semAt b.wsem k h') (wTile_we b q h) (wSlot_we b k h') ⟨Or.inl rfl, trivial⟩ K
def wWait (q k : ℕ) (h : q + 512 ≤ 8192) (h' : k + 1 ≤ 4) (K : PR) : PR :=
  wt (wTile b q h) (wSlot b k h') (semAt b.wsem k h') (wTile_we b q h) (wSlot_we b k h') K
def wcStart (q k : ℕ) (h : q + 512 ≤ 8192) (h' : k + 1 ≤ 3) (K : PR) : PR :=
  cp (wcSlot b k h') (wcTile b q h) (semAt b.wcsem k h') (wcSlot_we b k h') (wcTile_we b q h) ⟨Or.inl rfl, trivial⟩ K
def wcWait (q k : ℕ) (h : q + 512 ≤ 8192) (h' : k + 1 ≤ 3) (K : PR) : PR :=
  wt (wcSlot b k h') (wcTile b q h) (semAt b.wcsem k h') (wcSlot_we b k h') (wcTile_we b q h) K
def yStart (q k : ℕ) (h : q + 512 ≤ 8192) (h' : k + 1 ≤ 3) (K : PR) : PR :=
  cp (ySlot b k h') (yTile b q h) (semAt b.ysem k h') (ySlot_we b k h') (yTile_we b q h) ⟨Or.inl rfl, trivial⟩ K
def yWait (q k : ℕ) (h : q + 512 ≤ 8192) (h' : k + 1 ≤ 3) (K : PR) : PR :=
  wt (ySlot b k h') (yTile b q h) (semAt b.ysem k h') (ySlot_we b k h') (yTile_we b q h) K

/-! ### The phases -/

/-- The input's copy and the weights' first four, and the wait for the input. -/
def start (K : PR) : PR :=
  cp b.x b.xb b.xsem.sem b.hx.wordExact b.hxb.wordExact ⟨Or.inl rfl, trivial⟩
    (wStart b 0 0 (by decide) (by decide) (wStart b 512 1 (by decide) (by decide) (wStart b 1024 2 (by decide) (by decide)
      (wStart b 1536 3 (by decide) (by decide) (wt b.x b.xb b.xsem.sem b.hx.wordExact b.hxb.wordExact K)))))

/-- Load sixteen rows of 128 columns of the input. -/
def xLoad (c : ℕ) (hc : c < 24) (r : ℕ) (hr : r < 64) (K : FVec F (T2 16 128) .bf16 → PR) : PR :=
  ld b.xb (rc2 16 128 (16 * r) (128 * c) (by omega) (by omega)) (numel2 _ _ (by decide) (by decide)) K

/-- `n` steps of the maximum over rows, from row block `r`. -/
def xRows (c : ℕ) (hc : c < 24) (n : ℕ) : (r : ℕ) → r + n ≤ 64 → FVec F (T2 16 128) .bf16 → (FVec F (T2 16 128) .bf16 → PR) → PR :=
  Nat.rec (motive := fun n => (r : ℕ) → r + n ≤ 64 → FVec F (T2 16 128) .bf16 → (FVec F (T2 16 128) .bf16 → PR) → PR)
    (fun _ _ m K => K m)
    (fun n ih r h m K => xLoad b c hc r (by omega) fun v => ih (r + 1) (by omega) (maximumf m (absf v)) K) n

/-- The first block of rows of a column. -/
def xFirst (c : ℕ) (hc : c < 24) (K : FVec F (T2 16 128) .bf16 → PR) : PR :=
  xLoad b c hc 0 (by decide) fun v => K (absf v)

/-- The end of a column: its smoothing factors. -/
def xEnd (c : ℕ) (hc : c < 24) (m : FVec F (T2 16 128) .bf16) (K : PR) : PR :=
  ld b.wabs (rc2 1 128 0 (128 * c) (by decide) (by omega)) (numel2 _ _ (by decide) (by decide)) fun u =>
  ld b.s (rc2 1 128 0 (128 * c) (by decide) (by omega)) (numel2 _ _ (by decide) (by decide)) fun _ =>
  st b.s (rc2 1 128 0 (128 * c) (by decide) (by omega)) (numel2 _ _ (by decide) (by decide)) (sval m u) <|
  ld b.srep (rc2 128 128 (128 * c) 0 (by omega) (by decide)) (numel2 _ _ (by decide) (by decide)) fun _ =>
  st b.srep (rc2 128 128 (128 * c) 0 (by omega) (by decide)) (numel2 _ _ (by decide) (by decide)) (srepVal (sval m u)) K

/-- A column. -/
def xCol (c : ℕ) (hc : c < 24) (K : PR) : PR :=
  xFirst b c hc fun m => xRows b c hc 63 1 (by decide) m fun m => xEnd b c hc m K

/-- `n` columns from column `c`. -/
def xCols (n : ℕ) : (c : ℕ) → c + n ≤ 24 → PR → PR :=
  Nat.rec (motive := fun n => (c : ℕ) → c + n ≤ 24 → PR → PR)
    (fun _ _ K => K) (fun n ih c h K => xCol b c (by omega) (ih (c + 1) (by omega) K)) n

/-- Thirty-two rows of the input: their codes and their scales. -/
def xqStep (iv : FVec F (T2 1 3072) .f32) (t : ℕ) (ht : t < 32) (K : PR) : PR :=
  ld b.xb (rc2 32 3072 (32 * t) 0 (by omega) (by decide)) (numel2 _ _ (by decide) (by decide)) fun v =>
  ld b.xcb (rc2 32 3072 (32 * t) 0 (by omega) (by decide)) (numel2 _ _ (by decide) (by decide)) fun _ =>
  stp b.xcb b.hxcb (rc2 32 3072 (32 * t) 0 (by omega) (by decide)) (numel2 _ _ (by decide) (by decide))
    (packed2 _ _ ⟨8 * t, by rw [pk_f8]; omega⟩ ⟨8, rfl⟩) (xcVal v iv) <|
  ld b.xsrep (rc2 32 128 (32 * t) 0 (by omega) (by decide)) (numel2 _ _ (by decide) (by decide)) fun _ =>
  st b.xsrep (rc2 32 128 (32 * t) 0 (by omega) (by decide)) (numel2 _ _ (by decide) (by decide)) (xsrepVal v iv) K

/-- `n` such steps from step `t`. -/
def xqSteps (iv : FVec F (T2 1 3072) .f32) (n : ℕ) : (t : ℕ) → t + n ≤ 32 → PR → PR :=
  Nat.rec (motive := fun n => (t : ℕ) → t + n ≤ 32 → PR → PR)
    (fun _ _ K => K) (fun n ih t h K => xqStep b iv t (by omega) (ih (t + 1) (by omega) K)) n

/-- The scales of 128 rows, as a row. -/
def dStep (t : ℕ) (ht : t < 8) (K : PR) : PR :=
  ld b.xsrep (rc2 128 128 (128 * t) 0 (by omega) (by decide)) (numel2 _ _ (by decide) (by decide)) fun v =>
  ld b.xsc (rc2 1 128 (t / 2) (128 * (t % 2)) (by omega) (by omega)) (numel2 _ _ (by decide) (by decide)) fun _ =>
  st b.xsc (rc2 1 128 (t / 2) (128 * (t % 2)) (by omega) (by omega)) (numel2 _ _ (by decide) (by decide)) (diagVal v) K

/-- `n` such steps from step `t`. -/
def dSteps (n : ℕ) : (t : ℕ) → t + n ≤ 8 → PR → PR :=
  Nat.rec (motive := fun n => (t : ℕ) → t + n ≤ 8 → PR → PR)
    (fun _ _ K => K) (fun n ih t h K => dStep b t (by omega) (ih (t + 1) (by omega) K)) n

/-- The input's codes and scales. -/
def xQuant (K : PR) : PR :=
  ld b.s (rc2 1 3072 0 0 (by decide) (by decide)) (numel2 _ _ (by decide) (by decide)) fun s =>
  xqSteps b (invS s) 32 0 (by decide) <|
  cp b.xcb b.xc b.xcsem.sem b.hxcb.wordExact b.hxc.wordExact ⟨Or.inl rfl, trivial⟩ <|
  dSteps b 8 0 (by decide) K

/-- Load sixteen rows of a slot of the weights. -/
def sLoad (k : ℕ) (hk : k + 1 ≤ 4) (r : ℕ) (hr : r < 192) (K : FVec F (T2 16 512) .f32 → PR) : PR :=
  ld b.wb (rc3 1 16 512 k (16 * r) 0 hk (by omega) (by decide)) (numel3 _ _ _ (by decide) (by decide) (by decide)) fun w =>
  K (wext w)

/-- Scale them and keep them. -/
def sKeep (r : ℕ) (hr : r < 192) (w : FVec F (T2 16 512) .f32) (K : FVec F (T2 16 512) .f32 → PR) : PR :=
  ld b.srep (rc2 16 128 (16 * r) 0 (by omega) (by decide)) (numel2 _ _ (by decide) (by decide)) fun s =>
  ld b.wsb (rc2 16 512 (16 * r) 0 (by omega) (by decide)) (numel2 _ _ (by decide) (by decide)) fun _ =>
  st b.wsb (rc2 16 512 (16 * r) 0 (by omega) (by decide)) (numel2 _ _ (by decide) (by decide))
    (shapeCast (T2 16 512) (wsVal w s) (by decide)) (K (wsVal w s))

/-- `n` steps of the scaling and of the maximum by row class, from row block `r`. -/
def sRows (k : ℕ) (hk : k + 1 ≤ 4) (n : ℕ) : (r : ℕ) → r + n ≤ 192 → FVec F (T2 8 512) .f32 → (FVec F (T2 8 512) .f32 → PR) → PR :=
  Nat.rec (motive := fun n => (r : ℕ) → r + n ≤ 192 → FVec F (T2 8 512) .f32 → (FVec F (T2 8 512) .f32 → PR) → PR)
    (fun _ _ m K => K m)
    (fun n ih r h m K => sLoad b k hk r (by omega) fun w => sKeep b r (by omega) w fun ws =>
      ih (r + 1) (by omega) (maximumf m (wbVal ws)) K) n

/-- The first block. -/
def sFirst (k : ℕ) (hk : k + 1 ≤ 4) (K : FVec F (T2 8 512) .f32 → PR) : PR :=
  sLoad b k hk 0 (by decide) fun w => sKeep b 0 (by decide) w fun ws => K (wbVal ws)

/-- Load thirty-two rows of the scaled weights, and clip from below. -/
def qLoad (r : ℕ) (hr : r < 96) (inv : FVec F (T2 1 512) .f32) (K : FVec F (T2 32 512) .f32 → PR) : PR :=
  ld b.wsb (rc2 32 512 (32 * r) 0 (by omega) (by decide)) (numel2 _ _ (by decide) (by decide)) fun ws => K (wqLo ws inv)

/-- Keep their codes. -/
def qKeep (k : ℕ) (hk : k + 1 ≤ 3) (r : ℕ) (hr : r < 96) (hi lo : FVec F (T2 32 512) .f32) (K : PR) : PR :=
  ld b.wcb (rc3 1 32 512 k (32 * r) 0 hk (by omega) (by decide)) (numel3 _ _ _ (by decide) (by decide) (by decide)) fun _ =>
  stp b.wcb b.hwcb (rc3 1 32 512 k (32 * r) 0 hk (by omega) (by decide)) (numel3 _ _ _ (by decide) (by decide) (by decide))
    (packed3 _ _ _ ⟨8 * r, by rw [pk_f8]; omega⟩ ⟨8, rfl⟩) (wqHi hi lo) K

/-- `n` steps of the codes from row block `r`. -/
def qRows (k : ℕ) (hk : k + 1 ≤ 3) (inv : FVec F (T2 1 512) .f32) (n : ℕ) : (r : ℕ) → r + n ≤ 96 → PR → PR :=
  Nat.rec (motive := fun n => (r : ℕ) → r + n ≤ 96 → PR → PR)
    (fun _ _ K => K)
    (fun n ih r h K => qLoad b r (by omega) inv fun lo => qKeep b k hk r (by omega) (lit (T2 32 512) 0x43E00000#32) lo
      (ih (r + 1) (by omega) K)) n

/-- The scales of a tile. -/
def qScale (k : ℕ) (hk : k + 1 ≤ 3) (q : ℕ) (hq : q + 512 ≤ 8192) (a : FVec F (T2 1 512) .f32) (K : PR) : PR :=
  ld b.wsc (rc2 1 512 0 q (by decide) hq) (numel2 _ _ (by decide) (by decide)) fun _ =>
  st b.wsc (rc2 1 512 0 q (by decide) hq) (numel2 _ _ (by decide) (by decide)) (scaleOf a) <|
  ld b.wscb (rc2 1 512 k 0 hk (by decide)) (numel2 _ _ (by decide) (by decide)) fun _ =>
  st b.wscb (rc2 1 512 k 0 hk (by decide)) (numel2 _ _ (by decide) (by decide)) (shapeCast (T2 1 512) (scaleOf a) (by decide)) K

/-- Half of a tile of the product. -/
def mHalf (k : ℕ) (hk : k + 1 ≤ 3) (h : ℕ) (hh : h < 2) (sc : FVec F (T2 1 512) .f32) (K : PR) : PR :=
  ld b.xcb (rc2 512 3072 (512 * h) 0 (by omega) (by decide)) (numel2 _ _ (by decide) (by decide)) fun xc =>
  ld b.wcb (rc3 1 3072 512 k 0 0 hk (by decide) (by decide)) (numel3 _ _ _ (by decide) (by decide) (by decide)) fun wc =>
  ld b.xsrep (rc2 512 128 (512 * h) 0 (by omega) (by decide)) (numel2 _ _ (by decide) (by decide)) fun xs =>
  ld b.yb (rc3 1 512 512 k (512 * h) 0 hk (by omega) (by decide)) (numel3 _ _ _ (by decide) (by decide) (by decide)) fun _ =>
  stp b.yb b.hyb (rc3 1 512 512 k (512 * h) 0 hk (by omega) (by decide)) (numel3 _ _ _ (by decide) (by decide) (by decide))
    (packed3 _ _ _ ⟨256 * h, by rw [pk_wb]; omega⟩ ⟨256, rfl⟩) (yVal sc xc wc xs) K

/-- A tile of the product. -/
def mTile (k : ℕ) (hk : k + 1 ≤ 3) (K : PR) : PR :=
  ld b.wscb (rc2 1 512 k 0 hk (by decide)) (numel2 _ _ (by decide) (by decide)) fun sc =>
  mHalf b k hk 0 (by decide) sc (mHalf b k hk 1 (by decide) sc K)

/-- A trip: wait for tile `i` of the weights and for the slots to be free; smooth it, multiply the tile before, quantise
    this one, send both, and fetch the tile four ahead. -/
def trip (i : ℕ) (h1 : 1 ≤ i) (hi : i ≤ 15) (K : PR) : PR :=
  wWait b (512 * i) (i % 4) (by omega) (by omega) <|
  (fun K => if h : 3 ≤ i then wcWait b (512 * (i - 3)) (i % 3) (by omega) (by omega) K else K) <|
  (fun K => if h : 4 ≤ i then yWait b (512 * (i - 4)) ((i - 1) % 3) (by omega) (by omega) K else K) <|
  sFirst b (i % 4) (by omega) fun m => sRows b (i % 4) (by omega) 191 1 (by decide) m fun m =>
  mTile b ((i - 1) % 3) (by omega) <|
  qScale b (i % 3) (by omega) (512 * i) (by omega) (waVal m) <|
  qRows b (i % 3) (by omega) (invOf (waVal m)) 96 0 (by decide) <|
  wcStart b (512 * i) (i % 3) (by omega) (by omega) <|
  yStart b (512 * (i - 1)) ((i - 1) % 3) (by omega) (by omega) <|
  if h : i < 12 then wStart b (512 * (i + 4)) (i % 4) (by omega) (by omega) K else K

/-- `n` trips from tile `i`. -/
def trips (n : ℕ) : (i : ℕ) → 1 ≤ i → i + n ≤ 16 → PR → PR :=
  Nat.rec (motive := fun n => (i : ℕ) → 1 ≤ i → i + n ≤ 16 → PR → PR)
    (fun _ _ _ K => K) (fun n ih i h1 h K => trip b i h1 (by omega) (ih (i + 1) (by omega) (by omega) K)) n

/-- After the trips: the last tile's product, and the waits for what is still in flight. -/
def tail (K : PR) : PR :=
  yWait b 6144 0 (by decide) (by decide) <|
  mTile b 0 (by decide) <|
  yStart b 7680 0 (by decide) (by decide) <|
  wcWait b 6656 1 (by decide) (by decide) <| yWait b 6656 1 (by decide) (by decide) <|
  wcWait b 7168 2 (by decide) (by decide) <| yWait b 7168 2 (by decide) (by decide) <|
  wcWait b 7680 0 (by decide) (by decide) <| yWait b 7680 0 (by decide) (by decide) K

/-! ### The stretches -/

/-- To the eleventh row block of column 10. -/
def G366 (K : FVec F (T2 16 128) .bf16 → PR) : PR :=
  start b <| xCols b 10 0 (by decide) <| xFirst b 10 (by decide) fun m => xRows b 10 (by decide) 10 1 (by decide) m K

/-- To the thirty-third row block of column 20. -/
def G367 (m : FVec F (T2 16 128) .bf16) (K : FVec F (T2 16 128) .bf16 → PR) : PR :=
  xRows b 10 (by decide) 53 11 (by decide) m fun m => xEnd b 10 (by decide) m <|
  xCols b 9 11 (by decide) <| xFirst b 20 (by decide) fun m => xRows b 20 (by decide) 32 1 (by decide) m K

/-- The end of the smoothing factors, the codes of the input, and half of the first tile of weights. -/
def G368 (m : FVec F (T2 16 128) .bf16) (K : FVec F (T2 8 512) .f32 → FVec F (T2 16 512) .f32 → PR) : PR :=
  xRows b 20 (by decide) 31 33 (by decide) m fun m => xEnd b 20 (by decide) m <|
  xCols b 3 21 (by decide) <| xQuant b <| wWait b 0 0 (by decide) (by decide) <|
  sFirst b 0 (by decide) fun m => sRows b 0 (by decide) 96 1 (by decide) m fun m => sLoad b 0 (by decide) 97 (by decide) fun w => K m w

/-- The rest of that tile, and two thirds of its codes. -/
def G369 (m : FVec F (T2 8 512) .f32) (w : FVec F (T2 16 512) .f32)
    (K : FVec F (T2 1 512) .f32 → FVec F (T2 32 512) .f32 → FVec F (T2 32 512) .f32 → PR) : PR :=
  sKeep b 97 (by decide) w fun ws => sRows b 0 (by decide) 94 98 (by decide) (maximumf m (wbVal ws)) fun m =>
  qScale b 0 (by decide) 0 (by decide) (waVal m) <|
  qRows b 0 (by decide) (invOf (waVal m)) 65 0 (by decide) <|
  qLoad b 65 (by decide) (invOf (waVal m)) fun lo => K (invOf (waVal m)) lo (lit (T2 32 512) 0x43E00000#32)

/-- The rest of its codes, its copy, the trips and what follows them. -/
def G370 (inv : FVec F (T2 1 512) .f32) (lo hi : FVec F (T2 32 512) .f32) (K : PR) : PR :=
  qKeep b 0 (by decide) 65 (by decide) hi lo <| qRows b 0 (by decide) inv 30 66 (by decide) <|
  wcStart b 0 0 (by decide) (by decide) <| wStart b 2048 0 (by decide) (by decide) <|
  trips b 15 1 (by decide) (by decide) <| tail b K

/-- The whole body. -/
def body : PR :=
  G366 b fun m => G367 b m fun m => G368 b m fun m w => G369 b m w fun inv lo hi => G370 b inv lo hi <|
  wt b.xcb b.xc b.xcsem.sem b.hxcb.wordExact b.hxc.wordExact (.ret ⟨⟩)

/-- A loop whose trips are the body's, followed by `K`, is the trips in order and then `K`. -/
theorem for_trips {w : ℕ} (L : Scf.Loop w) (ok : L.OK) (f : Fin L.trips → PUnit → PR) (hn : L.trips = 15)
    (h : ∀ (k : Fin L.trips) (K : PUnit → PR), (f k ⟨⟩ >>= K) = trip b (k + 1) (by omega) (by omega) (K ⟨⟩)) (K : PUnit → PR) :
    (L.for ok ⟨⟩ f >>= K) = trips b 15 1 (by decide) (by decide) (K ⟨⟩) := by
  have key : ∀ n i (hi : i + n = L.trips) (u : PUnit),
      (Scf.forFrom f ((List.finRange L.trips).drop i) u >>= K) = trips b n (i + 1) (by omega) (by omega) (K ⟨⟩) := by
    intro n
    induction n with
    | zero =>
      intro i hi u
      rw [List.drop_eq_nil_of_le (by rw [List.length_finRange]; omega)]
      rfl
    | succ n ih =>
      intro i hi u
      have hlt : i < (List.finRange L.trips).length := by rw [List.length_finRange]; omega
      rw [List.drop_eq_getElem_cons hlt, Scf.forFrom_cons, bind_assoc, h]
      simp only [ih (i + 1) (by omega)]
      simp only [List.getElem_finRange]
      rfl
  have := key 15 0 (by omega) ⟨⟩
  rw [List.drop_zero] at this
  exact (congrArg (fun p => p >>= K) (Scf.for_eq L.lb L.ub L.st ok ⟨⟩ f)).trans this

end Cert.Fp8
-- ==== Proof.Spec.lean ====
module

public import proofs.«01_k».proof.Proof.Body

@[expose] public section

noncomputable section

/-! What the kernel's buffers hold after each phase, as functions of the three operands: block by block, in the values of
the body. -/

namespace Cert.Fp8

open Idealize.ShloMosaic

/-! ### Indices -/

/-- The index `(i, j)` on two axes. -/
def ix2 {A B : ℕ} [NeZero A] [NeZero B] (i j : ℕ) : (T2 A B).Idx :=
  fun t => ⟨(![i % A, j % B] : Fin 2 → ℕ) t, by
    fin_cases t
    · exact Nat.mod_lt _ (Nat.pos_of_ne_zero (NeZero.ne A))
    · exact Nat.mod_lt _ (Nat.pos_of_ne_zero (NeZero.ne B))⟩

/-- The index `(i, j, k)` on three. -/
def ix3 {A B C : ℕ} [NeZero A] [NeZero B] [NeZero C] (i j k : ℕ) : (T3 A B C).Idx :=
  fun t => ⟨(![i % A, j % B, k % C] : Fin 3 → ℕ) t, by
    fin_cases t
    · exact Nat.mod_lt _ (Nat.pos_of_ne_zero (NeZero.ne A))
    · exact Nat.mod_lt _ (Nat.pos_of_ne_zero (NeZero.ne B))
    · exact Nat.mod_lt _ (Nat.pos_of_ne_zero (NeZero.ne C))⟩

section
variable {A B C : ℕ}

/-- The first coordinate. -/
def a0 (x : (T2 A B).Idx) : ℕ := (x 0 : ℕ)
/-- The second. -/
def a1 (x : (T2 A B).Idx) : ℕ := (x 1 : ℕ)
/-- The first of three. -/
def c0 (x : (T3 A B C).Idx) : ℕ := (x 0 : ℕ)
/-- The second of three. -/
def c1 (x : (T3 A B C).Idx) : ℕ := (x 1 : ℕ)
/-- The third of three. -/
def c2 (x : (T3 A B C).Idx) : ℕ := (x 2 : ℕ)

theorem a0_lt (x : (T2 A B).Idx) : a0 x < A := (x 0).isLt
theorem a1_lt (x : (T2 A B).Idx) : a1 x < B := (x 1).isLt
theorem c0_lt (x : (T3 A B C).Idx) : c0 x < A := (x 0).isLt
theorem c1_lt (x : (T3 A B C).Idx) : c1 x < B := (x 1).isLt
theorem c2_lt (x : (T3 A B C).Idx) : c2 x < C := (x 2).isLt

/-- Two indices with equal coordinates are equal. -/
theorem ext2 {x y : (T2 A B).Idx} (h : a0 x = a0 y) (h' : a1 x = a1 y) : x = y := by
  funext t; apply Fin.ext; fin_cases t; exacts [h, h']

/-- The same on three axes. -/
theorem ext3 {x y : (T3 A B C).Idx} (h : c0 x = c0 y) (h' : c1 x = c1 y) (h'' : c2 x = c2 y) : x = y := by
  funext t; apply Fin.ext; fin_cases t; exacts [h, h', h'']

variable [NeZero A] [NeZero B] [NeZero C]

@[simp] theorem a0_ix2 (i j : ℕ) : a0 (ix2 i j : (T2 A B).Idx) = i % A := rfl
@[simp] theorem a1_ix2 (i j : ℕ) : a1 (ix2 i j : (T2 A B).Idx) = j % B := rfl
@[simp] theorem c0_ix3 (i j k : ℕ) : c0 (ix3 i j k : (T3 A B C).Idx) = i % A := rfl
@[simp] theorem c1_ix3 (i j k : ℕ) : c1 (ix3 i j k : (T3 A B C).Idx) = j % B := rfl
@[simp] theorem c2_ix3 (i j k : ℕ) : c2 (ix3 i j k : (T3 A B C).Idx) = k % C := rfl

theorem ix2_eta (x : (T2 A B).Idx) : ix2 (a0 x) (a1 x) = x :=
  ext2 (by rw [a0_ix2, Nat.mod_eq_of_lt (a0_lt x)]) (by rw [a1_ix2, Nat.mod_eq_of_lt (a1_lt x)])

end

section
variable {A B C a b c p q r : ℕ}

/-- Where a rectangle puts an element. -/
theorem a0_emb (h : p + a ≤ A) (h' : q + b ≤ B) (y : (T2 a b).Idx) :
    a0 ((rc2 (A := A) (B := B) a b p q h h').emb y) = p + a0 y := by
  show p + 1 * (y 0 : ℕ) = _; rw [Nat.one_mul]; rfl
theorem a1_emb (h : p + a ≤ A) (h' : q + b ≤ B) (y : (T2 a b).Idx) :
    a1 ((rc2 (A := A) (B := B) a b p q h h').emb y) = q + a1 y := by
  show q + 1 * (y 1 : ℕ) = _; rw [Nat.one_mul]; rfl
theorem c0_emb (h : p + a ≤ A) (h' : q + b ≤ B) (h'' : r + c ≤ C) (y : (T3 a b c).Idx) :
    c0 ((rc3 (A := A) (B := B) (C := C) a b c p q r h h' h'').emb y) = p + c0 y := by
  show p + 1 * (y 0 : ℕ) = _; rw [Nat.one_mul]; rfl
theorem c1_emb (h : p + a ≤ A) (h' : q + b ≤ B) (h'' : r + c ≤ C) (y : (T3 a b c).Idx) :
    c1 ((rc3 (A := A) (B := B) (C := C) a b c p q r h h' h'').emb y) = q + c1 y := by
  show q + 1 * (y 1 : ℕ) = _; rw [Nat.one_mul]; rfl
theorem c2_emb (h : p + a ≤ A) (h' : q + b ≤ B) (h'' : r + c ≤ C) (y : (T3 a b c).Idx) :
    c2 ((rc3 (A := A) (B := B) (C := C) a b c p q r h h' h'').emb y) = r + c2 y := by
  show r + 1 * (y 2 : ℕ) = _; rw [Nat.one_mul]; rfl

variable [NeZero a] [NeZero b] [NeZero c]

/-- An index within the bounds of a rectangle is in it. -/
theorem hit2 (h : p + a ≤ A) (h' : q + b ≤ B) (x : (T2 A B).Idx) (h0 : p ≤ a0 x) (h1 : a0 x < p + a) (h2 : q ≤ a1 x)
    (h3 : a1 x < q + b) : ∃ y, (rc2 (A := A) (B := B) a b p q h h').emb y = x :=
  ⟨ix2 (a0 x - p) (a1 x - q), ext2
    (by rw [a0_emb, a0_ix2, Nat.mod_eq_of_lt (by omega)]; omega) (by rw [a1_emb, a1_ix2, Nat.mod_eq_of_lt (by omega)]; omega)⟩

/-- The same on three axes. -/
theorem hit3 (h : p + a ≤ A) (h' : q + b ≤ B) (h'' : r + c ≤ C) (x : (T3 A B C).Idx) (h0 : p ≤ c0 x) (h1 : c0 x < p + a)
    (h2 : q ≤ c1 x) (h3 : c1 x < q + b) (h4 : r ≤ c2 x) (h5 : c2 x < r + c) :
    ∃ y, (rc3 (A := A) (B := B) (C := C) a b c p q r h h' h'').emb y = x :=
  ⟨ix3 (c0 x - p) (c1 x - q) (c2 x - r), ext3
    (by rw [c0_emb, c0_ix3, Nat.mod_eq_of_lt (by omega)]; omega) (by rw [c1_emb, c1_ix3, Nat.mod_eq_of_lt (by omega)]; omega)
    (by rw [c2_emb, c2_ix3, Nat.mod_eq_of_lt (by omega)]; omega)⟩

/-- What a rectangle holds. -/
theorem mem2 (h : p + a ≤ A) (h' : q + b ≤ B) (x : (T2 A B).Idx) :
    x ∈ (rc2 (A := A) (B := B) a b p q h h').set ↔ (p ≤ a0 x ∧ a0 x < p + a ∧ q ≤ a1 x ∧ a1 x < q + b) := by
  rw [← Rect.map_emb_univ, Finset.mem_map]
  constructor
  · rintro ⟨y, -, rfl⟩
    have h0 := a0_emb (A := A) (B := B) h h' y
    have h1 := a1_emb (A := A) (B := B) h h' y
    have := a0_lt y; have := a1_lt y
    rw [h0, h1]; omega
  · rintro ⟨h0, h1, h2, h3⟩
    obtain ⟨y, hy⟩ := hit2 h h' x h0 h1 h2 h3
    exact ⟨y, Finset.mem_univ _, hy⟩

theorem mem3 (h : p + a ≤ A) (h' : q + b ≤ B) (h'' : r + c ≤ C) (x : (T3 A B C).Idx) :
    x ∈ (rc3 (A := A) (B := B) (C := C) a b c p q r h h' h'').set
      ↔ (p ≤ c0 x ∧ c0 x < p + a ∧ q ≤ c1 x ∧ c1 x < q + b ∧ r ≤ c2 x ∧ c2 x < r + c) := by
  rw [← Rect.map_emb_univ, Finset.mem_map]
  constructor
  · rintro ⟨y, -, rfl⟩
    have h0 := c0_emb (A := A) (B := B) (C := C) h h' h'' y
    have h1 := c1_emb (A := A) (B := B) (C := C) h h' h'' y
    have h2 := c2_emb (A := A) (B := B) (C := C) h h' h'' y
    have := c0_lt y; have := c1_lt y; have := c2_lt y
    rw [h0, h1, h2]; omega
  · rintro ⟨h0, h1, h2, h3, h4, h5⟩
    obtain ⟨y, hy⟩ := hit3 h h' h'' x h0 h1 h2 h3 h4 h5
    exact ⟨y, Finset.mem_univ _, hy⟩

/-- A matrix read as a tile of one. -/
theorem lift1 (h : (T2 a b).numel = (T3 1 a b).numel) (z : (T2 a b).Idx) :
    (Shape.reshapeEquiv h z : (T3 1 a b).Idx) = ix3 0 (a0 z) (a1 z) := by
  apply Shape.reshapeEquiv_eq_of_rowMajor
  rw [Shape.rowMajor_val_two, Shape.rowMajor_val_three]
  show ((0 % 1) * a + a0 z % a) * b + a1 z % b = a0 z * b + a1 z
  rw [Nat.mod_eq_of_lt (a0_lt z), Nat.mod_eq_of_lt (a1_lt z), Nat.zero_mod, Nat.zero_mul, Nat.zero_add]

end

/-! ### Blocks -/

section
variable {A B : ℕ} {α : Type} [NeZero A] [NeZero B]

/-- The block of size `a × b` at `(p, q)`. -/
def blk2 (a b p q : ℕ) (g : (T2 A B).Idx → α) : (T2 a b).Idx → α := fun y => g (ix2 (p + a0 y) (q + a1 y))

/-- The array of which every block is given. -/
def glue2 (a b : ℕ) [NeZero a] [NeZero b] (f : ℕ → ℕ → (T2 a b).Idx → α) : (T2 A B).Idx → α :=
  fun x => f (a0 x / a) (a1 x / b) (ix2 (a0 x % a) (a1 x % b))

theorem emb_blk2 {a b p q : ℕ} (h : p + a ≤ A) (h' : q + b ≤ B) (g : (T2 A B).Idx → α) :
    (fun y => g ((rc2 (A := A) (B := B) a b p q h h').emb y)) = blk2 a b p q g := by
  funext y
  unfold blk2
  congr 1
  have := a0_lt y; have := a1_lt y
  apply ext2
  · rw [a0_emb, a0_ix2, Nat.mod_eq_of_lt (by omega)]
  · rw [a1_emb, a1_ix2, Nat.mod_eq_of_lt (by omega)]

theorem glue2_emb {a b : ℕ} [NeZero a] [NeZero b] (f : ℕ → ℕ → (T2 a b).Idx → α) {P Q : ℕ} (p q : ℕ) (hP : P = a * p) (hQ : Q = b * q)
    (h : P + a ≤ A) (h' : Q + b ≤ B) (y : (T2 a b).Idx) :
    (glue2 a b f : (T2 A B).Idx → α) ((rc2 (A := A) (B := B) a b P Q h h').emb y) = f p q y := by
  unfold glue2
  have h0 := a0_lt y; have h1 := a1_lt y
  rw [a0_emb, a1_emb, hP, hQ, Nat.mul_add_div (Nat.pos_of_ne_zero (NeZero.ne a)), Nat.mul_add_div (Nat.pos_of_ne_zero (NeZero.ne b)), Nat.div_eq_of_lt h0, Nat.div_eq_of_lt h1,
    Nat.mul_add_mod, Nat.mul_add_mod, Nat.mod_eq_of_lt h0, Nat.mod_eq_of_lt h1, Nat.add_zero, Nat.add_zero, ix2_eta]

end

/-! ### The phases' values -/

variable {F : FTy → Type} [FloatOps F]
variable (X : FVec F (T2 1024 3072) .bf16) (A : FVec F (T2 1 3072) .f32) (W : FVec F (T2 3072 8192) .bf16)

/-- The largest magnitudes of column block `c` by row class, over the row blocks to `r`. -/
def xAcc (c : ℕ) : ℕ → FVec F (T2 16 128) .bf16 :=
  Nat.rec (absf (blk2 16 128 (16 * 0) (128 * c) X)) fun r m => maximumf m (absf (blk2 16 128 (16 * (r + 1)) (128 * c) X))

/-- The smoothing factors of column block `c`. -/
def sBlk (c : ℕ) : FVec F (T2 1 128) .f32 := sval (xAcc X c 63) (blk2 1 128 0 (128 * c) A)
/-- The smoothing factors. -/
def sSpec : FVec F (T2 1 3072) .f32 := glue2 1 128 fun _ c => sBlk X A c
/-- The smoothing factors down the rows. -/
def srepSpec : FVec F (T2 3072 128) .f32 := glue2 128 128 fun c _ => srepVal (sBlk X A c)
/-- Their reciprocals. -/
def ivSpec : FVec F (T2 1 3072) .f32 := invS (blk2 1 3072 0 0 (sSpec X A))
/-- The input's codes. -/
def xcSpec : FVec F (T2 1024 3072) .fp8e4m3 := glue2 32 3072 fun t _ => xcVal (blk2 32 3072 (32 * t) 0 X) (ivSpec X A)
/-- The input's scales along the lanes. -/
def xsrepSpec : FVec F (T2 1024 128) .f32 := glue2 32 128 fun t _ => xsrepVal (blk2 32 3072 (32 * t) 0 X) (ivSpec X A)
/-- The input's scales. -/
def xscSpec : FVec F (T2 4 256) .f32 := glue2 1 128 fun p q => diagVal (blk2 128 128 (128 * (2 * p + q)) 0 (xsrepSpec X A))

/-- Tile `i` of the weights, in any slot. -/
def wbSpec (i : ℕ) : FVec F (T3 4 3072 512) .bf16 := fun x => W (ix2 (c1 x) (512 * i + c2 x))
/-- Sixteen rows of it. -/
def wRow (i r : ℕ) : FVec F (T3 1 16 512) .bf16 := fun y => W (ix2 (16 * r + c1 y) (512 * i + c2 y))
/-- Sixteen rows of the scaled tile. -/
def wsBlk (i r : ℕ) : FVec F (T2 16 512) .f32 := wsVal (wext (wRow W i r)) (blk2 16 128 (16 * r) 0 (srepSpec X A))
/-- The scaled tile. -/
def wsSpec (i : ℕ) : FVec F (T2 3072 512) .f32 := glue2 16 512 fun r _ => shapeCast (T2 16 512) (wsBlk X A W i r) (by decide)
/-- Its largest magnitudes by row class, over the row blocks to `r`. -/
def wAcc (i : ℕ) : ℕ → FVec F (T2 8 512) .f32 :=
  Nat.rec (wbVal (wsBlk X A W i 0)) fun r m => maximumf m (wbVal (wsBlk X A W i (r + 1)))
/-- Its largest magnitudes. -/
def wa (i : ℕ) : FVec F (T2 1 512) .f32 := waVal (wAcc X A W i 191)
/-- The weights' scales. -/
def wscSpec : FVec F (T2 1 8192) .f32 := glue2 1 512 fun _ i => scaleOf (wa X A W i)
/-- A tile's scales, in any slot. -/
def wscbSpec (i : ℕ) : FVec F (T2 3 512) .f32 := fun x => shapeCast (T2 1 512) (scaleOf (wa X A W i)) (by decide) (ix2 0 (a1 x))
/-- What the codes of thirty-two rows are before the upper clip. -/
def wLo (i r : ℕ) : FVec F (T2 32 512) .f32 := wqLo (blk2 32 512 (32 * r) 0 (wsSpec X A W i)) (invOf (wa X A W i))
/-- A tile's codes, in any slot. -/
def wcbSpec (i : ℕ) : FVec F (T3 3 3072 512) .fp8e4m3 :=
  fun x => wqHi (lit (T2 32 512) 0x43E00000#32) (wLo X A W i (c1 x / 32)) (ix3 0 (c1 x % 32) (c2 x))
/-- The weights' codes. -/
def wcSpec : FVec F (T2 3072 8192) .fp8e4m3 := fun x => wcbSpec X A W (a1 x / 512) (ix3 0 (a0 x) (a1 x % 512))
/-- A tile of the result, in any slot. -/
def ybSpec (i : ℕ) : FVec F (T3 3 1024 512) .bf16 :=
  fun x => yVal (fun y => wscbSpec X A W i (ix2 0 (a1 y))) (blk2 512 3072 (512 * (c1 x / 512)) 0 (xcSpec X A))
    (fun y => wcbSpec X A W i (ix3 0 (c1 y) (c2 y))) (blk2 512 128 (512 * (c1 x / 512)) 0 (xsrepSpec X A)) (ix3 0 (c1 x % 512) (c2 x))
/-- The result. -/
def ySpec : FVec F (T2 1024 8192) .bf16 := fun x => ybSpec X A W (a1 x / 512) (ix3 0 (a0 x) (a1 x % 512))

end Cert.Fp8
-- ==== Proof.Steps.lean ====
module

public import proofs.«01_k».proof.Proof.Own
public import proofs.«01_k».proof.Proof.Spec

@[expose] public section

noncomputable section

/-! What each phase of the body does to the buffers it touches. -/

namespace Cert.Fp8

open Idealize.ShloMosaic Idealize.ShloMosaic.TcCoe
open Idealize.SL Idealize.SL.RA Idealize.SL.Sem Idealize.SL.ProofMode
open Idealize.SL.BI (sProp Storable)
open scoped Idealize.SL.BI
open Idealize.SL.BI.BIBase Idealize.SL.BI.Laws

/-- Where the body runs and what is wanted after it. -/
structure Ctx (nD : Nat) (τ : Topo) (sig : RefSig) (Λ : Labels) (F : FTy → Type) (U : Type) [URA U] where
  defs : Defs nD τ sig (Elt F) Λ
  𝒱 : Variants
  d : Dev nD
  Q : PUnit.{1} → sProp (MT nD τ sig Unit (Elt F) ℕ U ℕ)

variable {nD : Nat} {τ : Topo} {sig : RefSig} {Λ : Labels} {F : FTy → Type} [FloatOps F] {U : Type} [URA U]

local notation "𝕄" => MT nD τ sig Unit (Elt F) ℕ U ℕ
local notation "PR" => Code nD τ sig Λ F

/-- The weakest precondition of the rest of the body. -/
def Ctx.wp (E : Ctx nD τ sig Λ F U) (p : PR) : sProp 𝕄 :=
  Idealize.SL.Sem.wp frame (wpE E.defs E.𝒱 (tcT E.d) none) Set.univ p E.Q

section Part

variable {sp : Space} {s : Shape} {e : EltTy}

/-- The elements `K` of `m`, of which those in `P` are as in `g`. -/
def part (m : Memref sig .tc sp s e) (d : Dev nD) (K : Finset s.Idx) (P : s.Idx → Prop) (g : s.Idx → Elt F e) : sProp 𝕄 :=
  iprop(∃ g' : s.Idx → Elt F e, ⌜∀ x ∈ K, P x → g' x = g x⌝ ∗ own m d fullShare K g')

variable {m : Memref sig .tc sp s e} {d : Dev nD} {K K' : Finset s.Idx} {P P' : s.Idx → Prop} {g g' : s.Idx → Elt F e} {q : PosShare TreeShare}

theorem own_part : (own m d fullShare K g : sProp 𝕄) ⊢ part m d K P g := by
  unfold part; iintro H; iexists g; isplitr
  · ipureintro; intros; rfl
  · iexact H

theorem own_part_none (h : ∀ x ∈ K, ¬ P x) : (own m d fullShare K g' : sProp 𝕄) ⊢ part m d K P g := by
  unfold part; iintro H; iexists g'; isplitr
  · ipureintro; intro x hx hp; exact absurd hp (h x hx)
  · iexact H

theorem part_own (h : ∀ x ∈ K, P x) : (part m d K P g : sProp 𝕄) ⊢ own m d fullShare K g := by
  unfold part; iintro ⟨%g', %hg, H⟩
  iapply (own_congr (g := g') (fun x hx => hg x hx (h x hx))) $$ H

theorem part_mono (h : ∀ x ∈ K, P' x → P x ∧ g x = g' x) : (part m d K P g : sProp 𝕄) ⊢ part m d K P' g' := by
  unfold part; iintro ⟨%g₁, %hg, H⟩
  iexists g₁; isplitr
  · ipureintro; intro x hx hp; rw [hg x hx (h x hx hp).1, (h x hx hp).2]
  · iexact H

theorem part_union (h : Disjoint K K') : (part m d (K ∪ K') P g : sProp 𝕄) ⊣⊢ iprop(part m d K P g ∗ part m d K' P g) := by
  constructor
  · unfold part
    iintro ⟨%g₁, %hg, H⟩
    ihave H := (own_union h).1 $$ H
    icases H with ⟨H1, H2⟩
    isplitl [H1]
    · iexists g₁; isplitr
      · ipureintro; intro x hx hp; exact hg x (Finset.mem_union_left _ hx) hp
      · iexact H1
    · iexists g₁; isplitr
      · ipureintro; intro x hx hp; exact hg x (Finset.mem_union_right _ hx) hp
      · iexact H2
  · unfold part
    iintro ⟨⟨%g₁, %h₁, H1⟩, ⟨%g₂, %h₂, H2⟩⟩
    iexists (fun x => if x ∈ K then g₁ x else g₂ x)
    isplitr
    · ipureintro
      intro x hx hp
      by_cases hk : x ∈ K
      · simp only [hk, if_true]; exact h₁ x hk hp
      · simp only [hk, if_false]; exact h₂ x ((Finset.mem_union.1 hx).resolve_left hk) hp
    · iapply (own_union h).2
      isplitl [H1]
      · iapply (own_congr (g := g₁) (fun x hx => by simp only [hx, if_true])) $$ H1
      · iapply (own_congr (g := g₂) (fun x hx => by
          have : x ∉ K := fun hk => (Finset.disjoint_left.1 h) hk hx
          simp only [this, if_false])) $$ H2

/-- A share is its halves. -/
theorem own_share : (own m d q K g : sProp 𝕄) ⊣⊢ iprop(own m d q.left K g ∗ own m d q.right K g) := by
  unfold own
  constructor
  · iintro ⟨%f, %hf, H⟩
    ihave H := (pointsTo_share (PosShare.mem_left_op_right q)).1 $$ H
    icases H with ⟨H1, H2⟩
    isplitl [H1]
    · iexists f; isplitr
      · ipureintro; exact hf
      · iexact H1
    · iexists f; isplitr
      · ipureintro; exact hf
      · iexact H2
  · iintro ⟨⟨%f, %hf, H1⟩, ⟨%f', %hf', H2⟩⟩
    iexists f
    isplitr
    · ipureintro; exact hf
    · iapply (pointsTo_share (PosShare.mem_left_op_right q)).2
      isplitl [H1]
      · iexact H1
      · rw [pointsTo_congr (f := f) (g := f') (fun i hi => by
          obtain ⟨x, hx, rfl⟩ := Finset.mem_map.1 (by unfold View.setOn at hi; exact hi)
          have := (hf x hx).trans (hf' x hx).symm
          simpa [View.read] using this)]
        iexact H2

end Part

section Rules

variable (E : Ctx nD τ sig Λ F U) {s : Shape} {e : EltTy} {q : PosShare TreeShare}

theorem ld_own {m : Memref sig .tc .vmem s e} {K : Finset s.Idx} {g : s.Idx → Elt F e} {r : Rect s} {h : 0 < r.shape.numel}
    {k : (r.shape.Idx → Elt F e) → PR} (hK : ∀ y, r.emb y ∈ K) :
    (own m E.d q K g : sProp 𝕄) ⊢ iprop((own m E.d q K g -∗ E.wp (k (fun y => g (r.emb y)))) -∗ E.wp (ld m r h k)) :=
  wp_own_load E.𝒱 none hK

/-- A load of a block known, on two axes. -/
theorem ld2 {A B : ℕ} [NeZero A] [NeZero B] {m : Memref sig .tc .vmem (T2 A B) e} {g : (T2 A B).Idx → Elt F e} {a c p p' : ℕ} {h : p + a ≤ A} {h' : p' + c ≤ B}
    {hn : 0 < (rc2 (A := A) (B := B) a c p p' h h').shape.numel}
    {k : ((T2 a c).Idx → Elt F e) → PR} :
    (own m E.d q Finset.univ g : sProp 𝕄)
      ⊢ iprop((own m E.d q Finset.univ g -∗ E.wp (k (blk2 a c p p' g))) -∗ E.wp (ld m (rc2 a c p p' h h') hn k)) := by
  have := ld_own E (q := q) (m := m) (K := Finset.univ) (g := g) (r := rc2 a c p p' h h') (h := hn) (k := k) (fun _ => Finset.mem_univ _)
  rw [emb_blk2] at this
  exact this

theorem ld_part {m : Memref sig .tc .vmem s e} {K : Finset s.Idx} {P : s.Idx → Prop} {g : s.Idx → Elt F e} {r : Rect s} {h : 0 < r.shape.numel}
    {k : PR} (hK : ∀ y, r.emb y ∈ K) :
    (part m E.d K P g : sProp 𝕄) ⊢ iprop((part m E.d K P g -∗ E.wp k) -∗ E.wp (ld m r h fun _ => k)) := by
  unfold part
  iintro ⟨%g', %hg, H⟩ Hk
  iapply (ld_own E (k := fun _ => k) hK) $$ H
  iintro H
  iapply Hk
  iexists g'
  isplitr
  · ipureintro; exact hg
  · iexact H

theorem st_own {m : Memref sig .tc .vmem s .f32} {K : Finset s.Idx} {g g' : s.Idx → Elt F .f32} {r : Rect s} {h : 0 < r.shape.numel}
    {v : r.shape.Idx → Elt F .f32} {k : PR} (hK : ∀ y, r.emb y ∈ K) (hw : ∀ y, g' (r.emb y) = v y)
    (ho : ∀ x ∈ K, (∀ y, r.emb y ≠ x) → g' x = g x) :
    (own m E.d fullShare K g : sProp 𝕄) ⊢ iprop((own m E.d fullShare K g' -∗ E.wp k) -∗ E.wp (st m r h v k)) :=
  wp_own_store (k := fun _ => k) E.𝒱 none hK hw ho

theorem stp_own {m : Memref sig .tc .vmem s e} {hm : m.IsWhole} {K : Finset s.Idx} {g g' : s.Idx → Elt F e} {r : Rect s} {h : 0 < r.shape.numel}
    {hp : r.PackedRows e.packing} {v : r.shape.Idx → Elt F e} {k : PR} (hK : ∀ y, r.emb y ∈ K) (hw : ∀ y, g' (r.emb y) = v y)
    (ho : ∀ x ∈ K, (∀ y, r.emb y ≠ x) → g' x = g x) :
    (own m E.d fullShare K g : sProp 𝕄) ⊢ iprop((own m E.d fullShare K g' -∗ E.wp k) -∗ E.wp (stp m hm r h hp v k)) :=
  wp_own_store (k := fun _ => k) E.𝒱 none hK hw ho

/-- A store extends what is known. -/
theorem st_part {m : Memref sig .tc .vmem s .f32} {K : Finset s.Idx} {P P' : s.Idx → Prop} {g : s.Idx → Elt F .f32} {r : Rect s} {h h' : 0 < r.shape.numel}
    {v : r.shape.Idx → Elt F .f32} {k : PR} (hK : ∀ y, r.emb y ∈ K) (hv : ∀ y, g (r.emb y) = v y)
    (hP : ∀ x ∈ K, P' x → P x ∨ ∃ y, r.emb y = x) :
    (part m E.d K P g : sProp 𝕄) ⊢ iprop((part m E.d K P' g -∗ E.wp k) -∗ E.wp (ld m r h' fun _ => st m r h v k)) := by
  classical
  iintro H Hk
  iapply (ld_part E hK) $$ H
  iintro H
  unfold part
  icases H with ⟨%g', %hg, H⟩
  iapply (st_own E (g' := fun x => if ∃ y, r.emb y = x then g x else g' x) hK
    (fun y => by rw [if_pos ⟨y, rfl⟩]; exact hv y) (fun x hx hn => by rw [if_neg]; rintro ⟨y, hy⟩; exact hn y hy)) $$ H
  iintro H
  iapply Hk
  iexists _
  isplitr; swap
  · iexact H
  ipureintro
  intro x hx hp
  by_cases hy : ∃ y, r.emb y = x
  · rw [if_pos hy]
  · rw [if_neg hy]; exact hg x hx ((hP x hx hp).resolve_right hy)

/-- The same for narrower elements. -/
theorem stp_part {m : Memref sig .tc .vmem s e} {hm : m.IsWhole} {K : Finset s.Idx} {P P' : s.Idx → Prop} {g : s.Idx → Elt F e} {r : Rect s} {h h' : 0 < r.shape.numel}
    {hp : r.PackedRows e.packing} {v : r.shape.Idx → Elt F e} {k : PR} (hK : ∀ y, r.emb y ∈ K) (hv : ∀ y, g (r.emb y) = v y)
    (hP : ∀ x ∈ K, P' x → P x ∨ ∃ y, r.emb y = x) :
    (part m E.d K P g : sProp 𝕄) ⊢ iprop((part m E.d K P' g -∗ E.wp k) -∗ E.wp (ld m r h' fun _ => stp m hm r h hp v k)) := by
  classical
  iintro H Hk
  iapply (ld_part E hK) $$ H
  iintro H
  unfold part
  icases H with ⟨%g', %hg, H⟩
  iapply (stp_own E (g' := fun x => if ∃ y, r.emb y = x then g x else g' x) hK
    (fun y => by rw [if_pos ⟨y, rfl⟩]; exact hv y) (fun x hx hn => by rw [if_neg]; rintro ⟨y, hy⟩; exact hn y hy)) $$ H
  iintro H
  iapply Hk
  iexists _
  isplitr; swap
  · iexact H
  ipureintro
  intro x hx hp
  by_cases hy : ∃ y, r.emb y = x
  · rw [if_pos hy]
  · rw [if_neg hy]; exact hg x hx ((hP x hx hp).resolve_right hy)

end Rules

section Phases

variable (E : Ctx nD τ sig Λ F U) (b : Bufs sig)
variable (X : FVec F (T2 1024 3072) .bf16) (A : FVec F (T2 1 3072) .f32) (W : FVec F (T2 3072 8192) .bf16)
variable {q q' : PosShare TreeShare}

theorem xLoad_wp (c : ℕ) (hc : c < 24) (r : ℕ) (hr : r < 64) (K : FVec F (T2 16 128) .bf16 → PR) :
    (own b.xb E.d q Finset.univ X : sProp 𝕄)
      ⊢ iprop((own b.xb E.d q Finset.univ X -∗ E.wp (K (blk2 16 128 (16 * r) (128 * c) X))) -∗ E.wp (xLoad b c hc r hr K)) :=
  ld2 E (e := .bf16) (m := b.xb) (k := K)

theorem xRows_wp (c : ℕ) (hc : c < 24) : ∀ (n r e : ℕ) (he : r + n = e) (h : (r + 1) + n ≤ 64) (K : FVec F (T2 16 128) .bf16 → PR),
    (own b.xb E.d q Finset.univ X : sProp 𝕄)
      ⊢ iprop((own b.xb E.d q Finset.univ X -∗ E.wp (K (xAcc X c e))) -∗ E.wp (xRows b c hc n (r + 1) h (xAcc X c r) K)) := by
  intro n
  induction n with
  | zero =>
    intro r e he h K
    subst he
    iintro H Hk
    iapply Hk $$ H
  | succ n ih =>
    intro r e he h K
    iintro H Hk
    iapply (xLoad_wp E b X c hc (r + 1) (by omega) fun v =>
      xRows b c hc n (r + 1 + 1) (by omega) (maximumf (xAcc X c r) (absf v)) K) $$ H
    iintro H
    iapply (ih (r + 1) e (by omega) _ K) $$ H
    iexact Hk

theorem xFirst_wp (c : ℕ) (hc : c < 24) (K : FVec F (T2 16 128) .bf16 → PR) :
    (own b.xb E.d q Finset.univ X : sProp 𝕄)
      ⊢ iprop((own b.xb E.d q Finset.univ X -∗ E.wp (K (xAcc X c 0))) -∗ E.wp (xFirst b c hc K)) :=
  xLoad_wp E b X c hc 0 (by decide) fun v => K (absf v)

/-- The smoothing factors of the column blocks before `c` are known, in both their places. -/
def sDone (c : ℕ) : sProp 𝕄 :=
  iprop(part b.s E.d Finset.univ (fun x => a1 x < 128 * c) (sSpec X A) ∗ part b.srep E.d Finset.univ (fun x => a0 x < 128 * c) (srepSpec X A))

theorem xEnd_wp (c : ℕ) (hc : c < 24) (K : PR) :
    iprop(own b.wabs E.d q Finset.univ A ∗ sDone E b X A c)
      ⊢ iprop((iprop(own b.wabs E.d q Finset.univ A ∗ sDone E b X A (c + 1)) -∗ E.wp K) -∗ E.wp (xEnd b c hc (xAcc X c 63) K)) := by
  unfold sDone
  iintro ⟨HA, HS, HR⟩ Hk
  have hv : ∀ y, sSpec X A ((rc2 1 128 0 (128 * c) (by decide) (by omega)).emb y) = sval (xAcc X c 63) (blk2 1 128 0 (128 * c) A) y :=
    fun y => glue2_emb (fun _ c => sBlk X A c) 0 c rfl rfl _ _ y
  have hv' : ∀ y, srepSpec X A ((rc2 128 128 (128 * c) 0 (by omega) (by decide)).emb y)
      = srepVal (sval (xAcc X c 63) (blk2 1 128 0 (128 * c) A)) y :=
    fun y => glue2_emb (fun c _ => srepVal (sBlk X A c)) c 0 rfl rfl _ _ y
  unfold xEnd
  iapply (ld2 E) $$ HA
  iintro HA
  iapply (st_part E (P' := fun x => a1 x < 128 * (c + 1)) (fun _ => Finset.mem_univ _) hv
    (fun x _ hx => by
      by_cases h : a1 x < 128 * c
      · exact .inl h
      · exact .inr (hit2 _ _ x (Nat.zero_le _) (a0_lt x) (by omega) (by omega)))) $$ HS
  iintro HS
  iapply (st_part E (P' := fun x => a0 x < 128 * (c + 1)) (fun _ => Finset.mem_univ _) hv'
    (fun x _ hx => by
      by_cases h : a0 x < 128 * c
      · exact .inl h
      · exact .inr (hit2 _ _ x (by omega) (by omega) (Nat.zero_le _) (by have := a1_lt x; omega)))) $$ HR
  iintro HR
  iapply Hk
  isplitl [HA]; · iexact HA
  isplitl [HS]; · iexact HS
  iexact HR

theorem xCol_wp (c : ℕ) (hc : c < 24) (K : PR) :
    iprop(own b.xb E.d q' Finset.univ X ∗ own b.wabs E.d q Finset.univ A ∗ sDone E b X A c)
      ⊢ iprop((iprop(own b.xb E.d q' Finset.univ X ∗ own b.wabs E.d q Finset.univ A ∗ sDone E b X A (c + 1)) -∗ E.wp K)
          -∗ E.wp (xCol b c hc K)) := by
  iintro ⟨HX, HA, HS⟩ Hk
  unfold xCol
  iapply (xFirst_wp E b X c hc) $$ HX
  iintro HX
  iapply (xRows_wp E b X c hc 63 0 63 rfl _) $$ HX
  iintro HX
  iapply (xEnd_wp E b X A c hc) $$ [HA HS]
  · isplitl [HA] <;> iassumption
  iintro ⟨HA, HS⟩
  iapply Hk
  isplitl [HX]; · iexact HX
  isplitl [HA] <;> iassumption

theorem xCols_wp : ∀ (n c e : ℕ) (he : c + n = e) (h : c + n ≤ 24) (K : PR),
    iprop(own b.xb E.d q' Finset.univ X ∗ own b.wabs E.d q Finset.univ A ∗ sDone E b X A c)
      ⊢ iprop((iprop(own b.xb E.d q' Finset.univ X ∗ own b.wabs E.d q Finset.univ A ∗ sDone E b X A e) -∗ E.wp K)
          -∗ E.wp (xCols b n c h K)) := by
  intro n
  induction n with
  | zero =>
    intro c e he h K
    subst he
    iintro H Hk
    iapply Hk $$ H
  | succ n ih =>
    intro c e he h K
    iintro H Hk
    iapply (xCol_wp E b X A c (by omega) (xCols b n (c + 1) (by omega) K)) $$ H
    iintro H
    iapply (ih (c + 1) e (by omega) _ K) $$ H
    iexact Hk

/-- The codes and the scales of the row blocks before `t` are known. -/
def qDone (t : ℕ) : sProp 𝕄 :=
  iprop(part b.xcb E.d Finset.univ (fun x => a0 x < 32 * t) (xcSpec X A) ∗ part b.xsrep E.d Finset.univ (fun x => a0 x < 32 * t) (xsrepSpec X A))

theorem xqStep_wp (t : ℕ) (ht : t < 32) (K : PR) :
    iprop(own b.xb E.d q Finset.univ X ∗ qDone E b X A t)
      ⊢ iprop((iprop(own b.xb E.d q Finset.univ X ∗ qDone E b X A (t + 1)) -∗ E.wp K) -∗ E.wp (xqStep b (ivSpec X A) t ht K)) := by
  unfold qDone
  iintro ⟨HA, HS, HR⟩ Hk
  have hv : ∀ y, xcSpec X A ((rc2 32 3072 (32 * t) 0 (by omega) (by decide)).emb y) = xcVal (blk2 32 3072 (32 * t) 0 X) (ivSpec X A) y :=
    fun y => glue2_emb (fun t _ => xcVal (blk2 32 3072 (32 * t) 0 X) (ivSpec X A)) t 0 rfl rfl _ _ y
  have hv' : ∀ y, xsrepSpec X A ((rc2 32 128 (32 * t) 0 (by omega) (by decide)).emb y) = xsrepVal (blk2 32 3072 (32 * t) 0 X) (ivSpec X A) y :=
    fun y => glue2_emb (fun t _ => xsrepVal (blk2 32 3072 (32 * t) 0 X) (ivSpec X A)) t 0 rfl rfl _ _ y
  unfold xqStep
  iapply (ld2 E) $$ HA
  iintro HA
  iapply (stp_part E (P' := fun x => a0 x < 32 * (t + 1)) (fun _ => Finset.mem_univ _) hv
    (fun x _ hx => by
      by_cases h : a0 x < 32 * t
      · exact .inl h
      · exact .inr (hit2 _ _ x (by omega) (by omega) (Nat.zero_le _) (by have := a1_lt x; omega)))) $$ HS
  iintro HS
  iapply (st_part E (P' := fun x => a0 x < 32 * (t + 1)) (fun _ => Finset.mem_univ _) hv'
    (fun x _ hx => by
      by_cases h : a0 x < 32 * t
      · exact .inl h
      · exact .inr (hit2 _ _ x (by omega) (by omega) (Nat.zero_le _) (by have := a1_lt x; omega)))) $$ HR
  iintro HR
  iapply Hk
  isplitl [HA]; · iexact HA
  isplitl [HS]; · iexact HS
  iexact HR

theorem xqSteps_wp : ∀ (n t e : ℕ) (he : t + n = e) (h : t + n ≤ 32) (K : PR),
    iprop(own b.xb E.d q Finset.univ X ∗ qDone E b X A t)
      ⊢ iprop((iprop(own b.xb E.d q Finset.univ X ∗ qDone E b X A e) -∗ E.wp K) -∗ E.wp (xqSteps b (ivSpec X A) n t h K)) := by
  intro n
  induction n with
  | zero =>
    intro c e he h K
    subst he
    iintro H Hk
    iapply Hk $$ H
  | succ n ih =>
    intro c e he h K
    iintro H Hk
    iapply (xqStep_wp E b X A c (by omega) (xqSteps b (ivSpec X A) n (c + 1) (by omega) K)) $$ H
    iintro H
    iapply (ih (c + 1) e (by omega) _ K) $$ H
    iexact Hk

/-- The scales of the first `t` blocks of 128 rows are known. -/
def dDone (t : ℕ) : sProp 𝕄 :=
  part b.xsc E.d Finset.univ (fun x => 2 * a0 x + a1 x / 128 < t) (xscSpec X A)

theorem dStep_wp (t : ℕ) (ht : t < 8) (K : PR) :
    iprop(own b.xsrep E.d q Finset.univ (xsrepSpec X A) ∗ dDone E b X A t)
      ⊢ iprop((iprop(own b.xsrep E.d q Finset.univ (xsrepSpec X A) ∗ dDone E b X A (t + 1)) -∗ E.wp K) -∗ E.wp (dStep b t ht K)) := by
  unfold dDone
  iintro ⟨HA, HS⟩ Hk
  have hv : ∀ y, xscSpec X A ((rc2 1 128 (t / 2) (128 * (t % 2)) (by omega) (by omega)).emb y)
      = diagVal (blk2 128 128 (128 * t) 0 (xsrepSpec X A)) y :=
    fun y => (glue2_emb (fun p q => diagVal (blk2 128 128 (128 * (2 * p + q)) 0 (xsrepSpec X A))) (t / 2) (t % 2) (by omega) rfl _ _ y).trans
      (by rw [show 2 * (t / 2) + t % 2 = t by omega])
  unfold dStep
  iapply (ld2 E) $$ HA
  iintro HA
  iapply (st_part E (P' := fun x => 2 * a0 x + a1 x / 128 < t + 1) (fun _ => Finset.mem_univ _) hv
    (fun x _ hx => by
      by_cases h : 2 * a0 x + a1 x / 128 < t
      · exact .inl h
      · have := a1_lt x
        exact .inr (hit2 _ _ x (by omega) (by omega) (by omega) (by omega)))) $$ HS
  iintro HS
  iapply Hk
  isplitl [HA]; · iexact HA
  iexact HS

theorem dSteps_wp : ∀ (n t e : ℕ) (he : t + n = e) (h : t + n ≤ 8) (K : PR),
    iprop(own b.xsrep E.d q Finset.univ (xsrepSpec X A) ∗ dDone E b X A t)
      ⊢ iprop((iprop(own b.xsrep E.d q Finset.univ (xsrepSpec X A) ∗ dDone E b X A e) -∗ E.wp K) -∗ E.wp (dSteps b n t h K)) := by
  intro n
  induction n with
  | zero =>
    intro c e he h K
    subst he
    iintro H Hk
    iapply Hk $$ H
  | succ n ih =>
    intro c e he h K
    iintro H Hk
    iapply (dStep_wp E b X A c (by omega) (dSteps b n (c + 1) (by omega) K)) $$ H
    iintro H
    iapply (ih (c + 1) e (by omega) _ K) $$ H
    iexact Hk

end Phases

end Cert.Fp8
-- ==== Proof.Tiles.lean ====
module

public import proofs.«01_k».proof.Proof.Steps

@[expose] public section

noncomputable section

/-! What a tile of the weights goes through, and the copies between the tiles and the slots. -/

namespace Cert.Fp8

open Idealize.ShloMosaic Idealize.ShloMosaic.TcCoe
open Idealize.SL Idealize.SL.RA Idealize.SL.Sem Idealize.SL.ProofMode
open Idealize.SL.BI (sProp Storable)
open scoped Idealize.SL.BI
open Idealize.SL.BI.BIBase Idealize.SL.BI.Laws

variable {nD : Nat} {τ : Topo} {sig : RefSig} {Λ : Labels} {F : FTy → Type} [FloatOps F] {U : Type} [URA U]

local notation "𝕄" => MT nD τ sig Unit (Elt F) ℕ U ℕ
local notation "PR" => Code nD τ sig Λ F

section Rules

variable (E : Ctx nD τ sig Λ F U) {sp : Space} {s : Shape} {e : EltTy} {q : PosShare TreeShare} {d : Dev nD}

/-- The elements `K` of `m`, whatever they are. -/
def any (m : Memref sig .tc sp s e) (d : Dev nD) (K : Finset s.Idx) : sProp 𝕄 :=
  iprop(∃ g : s.Idx → Elt F e, own m d fullShare K g)

theorem own_any {m : Memref sig .tc sp s e} {K : Finset s.Idx} {g : s.Idx → Elt F e} : (own m d fullShare K g : sProp 𝕄) ⊢ any m d K := by
  unfold any; iintro H; iexists g; iexact H

theorem part_any {m : Memref sig .tc sp s e} {K : Finset s.Idx} {P : s.Idx → Prop} {g : s.Idx → Elt F e} :
    (part m d K P g : sProp 𝕄) ⊢ any m d K := by
  unfold any part; iintro ⟨%g', -, H⟩; iexists g'; iexact H

theorem any_part {m : Memref sig .tc sp s e} {K : Finset s.Idx} {P : s.Idx → Prop} {g : s.Idx → Elt F e} (h : ∀ x ∈ K, ¬ P x) :
    (any m d K : sProp 𝕄) ⊢ part m d K P g := by
  unfold any; iintro ⟨%g', H⟩; iapply (own_part_none h) $$ H

theorem any_union {m : Memref sig .tc sp s e} {K K' : Finset s.Idx} (h : Disjoint K K') :
    (any m d (K ∪ K') : sProp 𝕄) ⊣⊢ iprop(any m d K ∗ any m d K') := by
  constructor
  · unfold any
    iintro ⟨%g, H⟩
    ihave H := (own_union h).1 $$ H
    icases H with ⟨H1, H2⟩
    isplitl [H1]
    · iexists g; iexact H1
    · iexists g; iexact H2
  · have : iprop(part m d K (fun _ => False) (fun _ => Classical.arbitrary (Elt F e)) ∗ part m d K' (fun _ => False) (fun _ => Classical.arbitrary (Elt F e)))
        ⊢ (part m d (K ∪ K') (fun _ => False) (fun _ => Classical.arbitrary (Elt F e)) : sProp 𝕄) := (part_union h).2
    iintro ⟨H1, H2⟩
    iapply part_any
    iapply this
    isplitl [H1]
    · iapply (any_part (fun _ _ => id)) $$ H1
    · iapply (any_part (fun _ _ => id)) $$ H2

/-- A load of what is known, its value by name. -/
theorem ld_eq {m : Memref sig .tc .vmem s e} {K : Finset s.Idx} {g : s.Idx → Elt F e} {r : Rect s} {h : 0 < r.shape.numel}
    {v : r.shape.Idx → Elt F e} (hv : (fun y => g (r.emb y)) = v) (k : (r.shape.Idx → Elt F e) → PR) (hK : ∀ y, r.emb y ∈ K) :
    (own m E.d q K g : sProp 𝕄) ⊢ iprop((own m E.d q K g -∗ E.wp (k v)) -∗ E.wp (ld m r h k)) := by
  subst hv; exact ld_own E hK

/-- A load of what is known of what is partly known, its value by name. -/
theorem ld_known {m : Memref sig .tc .vmem s e} {K : Finset s.Idx} {P : s.Idx → Prop} {g : s.Idx → Elt F e} {r : Rect s} {h : 0 < r.shape.numel}
    {v : r.shape.Idx → Elt F e} (hv : (fun y => g (r.emb y)) = v) (k : (r.shape.Idx → Elt F e) → PR)
    (hK : ∀ y, r.emb y ∈ K) (hP : ∀ y, P (r.emb y)) :
    (part m E.d K P g : sProp 𝕄) ⊢ iprop((part m E.d K P g -∗ E.wp (k v)) -∗ E.wp (ld m r h k)) := by
  unfold part
  iintro ⟨%g', %hg, H⟩ Hk
  iapply (ld_own E hK) $$ H
  iintro H
  rw [show (fun y => g' (r.emb y)) = v from (funext fun y => hg _ (hK y) (hP y)).trans hv]
  iapply Hk
  iexists g'
  isplitr
  · ipureintro; exact hg
  · iexact H

end Rules

/-! ### Slots and tiles -/

/-- Slot `k` of a buffer of tiles. -/
abbrev slotK (S a c k : ℕ) (h : k + 1 ≤ S) : Finset (T3 S a c).Idx := (rc3 1 a c k 0 0 h (by omega) (by omega)).set
/-- The columns of a tile. -/
abbrev tileK (a q : ℕ) (h : q + 512 ≤ 8192) : Finset (T2 a 8192).Idx := (rc2 a 512 0 q (by omega) h).set

section
variable {sp : Space} {e : EltTy} {q : PosShare TreeShare} {d : Dev nD}

theorem own_eq {s : Shape} {m : Memref sig .tc sp s e} {K : Finset s.Idx} {g g' : s.Idx → Elt F e} (h : g = g') :
    (own m d q K g : sProp 𝕄) ⊣⊢ own m d q K g' := by rw [h]

/-- Owning a slot is owning its tile. -/
theorem own_slot {S a c k : ℕ} [NeZero S] [NeZero a] [NeZero c] {m : Memref sig .tc sp (T3 S a c) e} {g : (T3 S a c).Idx → Elt F e} (h : k + 1 ≤ S)
    (hq : (T3 1 a c).Squeezes (T2 a c)) :
    (own m d q (slotK S a c k h) g : sProp 𝕄)
      ⊣⊢ own ((m.slice (rc3 1 a c k 0 0 h (by omega) (by omega)) (fun _ => rfl)).squeeze (T2 a c) hq) d q Finset.univ
          (fun z => g (ix3 k (a0 z) (a1 z))) := by
  refine (own_slice (rc3 1 a c k 0 0 h (by omega) (by omega)) (fun _ => rfl)).trans ((own_squeeze hq).trans (own_eq ?_))
  funext z
  congr 1
  have h0 := a0_lt z; have h1 := a1_lt z
  rw [lift1 hq.numel_eq]
  apply ext3
  · rw [c0_emb, c0_ix3, c0_ix3, Nat.zero_mod, Nat.add_zero, Nat.mod_eq_of_lt (by omega)]
  · rw [c1_emb, c1_ix3, c1_ix3, Nat.zero_add]
  · rw [c2_emb, c2_ix3, c2_ix3, Nat.zero_add]

/-- Owning a tile's columns is owning the tile. -/
theorem own_tile {a p : ℕ} [NeZero a] {m : Memref sig .tc sp (T2 a 8192) e} {g : (T2 a 8192).Idx → Elt F e} (h : p + 512 ≤ 8192) :
    (own m d q (tileK a p h) g : sProp 𝕄)
      ⊣⊢ own (m.slice (rc2 a 512 0 p (by omega) h) (fun _ => rfl)) d q Finset.univ (fun z => g (ix2 (a0 z) (p + a1 z))) := by
  refine (own_slice (rc2 a 512 0 p (by omega) h) (fun _ => rfl)).trans (own_eq ?_)
  funext z
  congr 1
  have h0 := a0_lt z; have h1 := a1_lt z
  apply ext2
  · rw [a0_emb, a0_ix2, Nat.zero_add, Nat.mod_eq_of_lt h0]
  · rw [a1_emb, a1_ix2, Nat.mod_eq_of_lt (by omega)]

end

section Gap

variable {sp : Space} {e : EltTy} {q : PosShare TreeShare} {d : Dev nD} {a : ℕ} [NeZero a]

/-- The columns of the tiles before `lo` and from `hi` on. -/
def gap (a lo hi : ℕ) : Finset (T2 a 8192).Idx := Finset.univ.filter fun x => a1 x < 512 * lo ∨ 512 * hi ≤ a1 x

theorem mem_gap {lo hi : ℕ} (x : (T2 a 8192).Idx) : x ∈ gap a lo hi ↔ (a1 x < 512 * lo ∨ 512 * hi ≤ a1 x) := by
  unfold gap; simp

theorem mem_tileK {p : ℕ} (h : p + 512 ≤ 8192) (x : (T2 a 8192).Idx) : x ∈ tileK a p h ↔ (p ≤ a1 x ∧ a1 x < p + 512) := by
  have := a0_lt x
  rw [mem2]; omega

theorem gap_up {lo hi : ℕ} (h : lo < hi) (h' : 512 * lo + 512 ≤ 8192) :
    gap a (lo + 1) hi = gap a lo hi ∪ tileK a (512 * lo) h' := by
  ext x; rw [Finset.mem_union, mem_gap, mem_gap, mem_tileK]; omega

theorem gap_up_disj {lo hi : ℕ} (h : lo < hi) (h' : 512 * lo + 512 ≤ 8192) : Disjoint (gap a lo hi) (tileK a (512 * lo) h') := by
  rw [Finset.disjoint_left]; intro x; rw [mem_gap, mem_tileK]; omega

theorem gap_down {lo hi : ℕ} (h : lo ≤ hi) (h' : 512 * hi + 512 ≤ 8192) :
    gap a lo hi = gap a lo (hi + 1) ∪ tileK a (512 * hi) h' := by
  ext x; rw [Finset.mem_union, mem_gap, mem_gap, mem_tileK]; omega

theorem gap_down_disj {lo hi : ℕ} (h : lo ≤ hi) (h' : 512 * hi + 512 ≤ 8192) : Disjoint (gap a lo (hi + 1)) (tileK a (512 * hi) h') := by
  rw [Finset.disjoint_left]; intro x; rw [mem_gap, mem_tileK]; omega

variable {m : Memref sig .tc sp (T2 a 8192) e} {G : (T2 a 8192).Idx → Elt F e}

/-- The columns of an operand, less those of the tiles in flight. -/
theorem own_gap_up {lo hi : ℕ} (h : lo < hi) (h' : 512 * lo + 512 ≤ 8192) :
    iprop(own m d q (gap a lo hi) G ∗ own m d q (tileK a (512 * lo) h') G) ⊢ (own m d q (gap a (lo + 1) hi) G : sProp 𝕄) := by
  rw [gap_up h h']; exact (own_union (gap_up_disj h h')).2

theorem own_gap_down {lo hi : ℕ} (h : lo ≤ hi) (h' : 512 * hi + 512 ≤ 8192) :
    (own m d q (gap a lo hi) G : sProp 𝕄) ⊢ iprop(own m d q (gap a lo (hi + 1)) G ∗ own m d q (tileK a (512 * hi) h') G) := by
  rw [gap_down h h']; exact (own_union (gap_down_disj h h')).1

/-- The columns of a result, less those of the tiles in flight; the tiles before `lo` are done. -/
def rest (m : Memref sig .tc sp (T2 a 8192) e) (d : Dev nD) (G : (T2 a 8192).Idx → Elt F e) (lo hi : ℕ) : sProp 𝕄 :=
  part m d (gap a lo hi) (fun x => a1 x < 512 * lo) G

theorem rest_up {lo hi : ℕ} (h : lo < hi) (h' : 512 * lo + 512 ≤ 8192) :
    iprop(rest m d G lo hi ∗ own m d fullShare (tileK a (512 * lo) h') G) ⊢ (rest m d G (lo + 1) hi : sProp 𝕄) := by
  unfold rest
  rw [gap_up h h']
  iintro ⟨H1, H2⟩
  iapply (part_union (gap_up_disj h h')).2
  isplitl [H1]
  · iapply (part_mono (fun x hx hp => ⟨by rw [mem_gap] at hx; omega, rfl⟩)) $$ H1
  · iapply own_part $$ H2

theorem rest_down {lo hi : ℕ} (h : lo ≤ hi) (h' : 512 * hi + 512 ≤ 8192) :
    (rest m d G lo hi : sProp 𝕄) ⊢ iprop(rest m d G lo (hi + 1) ∗ any m d (tileK a (512 * hi) h')) := by
  unfold rest
  rw [gap_down h h']
  iintro H
  ihave H := (part_union (gap_down_disj h h')).1 $$ H
  icases H with ⟨H1, H2⟩
  isplitl [H1]; · iexact H1
  iapply part_any $$ H2

end Gap

/-! ### The tile's phases -/

section Phases

variable (E : Ctx nD τ sig Λ F U) (b : Bufs sig)
variable (X : FVec F (T2 1024 3072) .bf16) (A : FVec F (T2 1 3072) .f32) (W : FVec F (T2 3072 8192) .bf16)
variable {q q' q'' : PosShare TreeShare}

theorem mem_slotK {S a c k : ℕ} [NeZero S] [NeZero a] [NeZero c] (h : k + 1 ≤ S) (x : (T3 S a c).Idx) : x ∈ slotK S a c k h ↔ c0 x = k := by
  have h1 := c1_lt x; have h2 := c2_lt x
  unfold slotK
  rw [mem3]; omega

theorem sLoad_wp (i k : ℕ) (hk : k + 1 ≤ 4) (r : ℕ) (hr : r < 192) (K : FVec F (T2 16 512) .f32 → PR) :
    (own b.wb E.d q (slotK 4 3072 512 k hk) (wbSpec W i) : sProp 𝕄)
      ⊢ iprop((own b.wb E.d q (slotK 4 3072 512 k hk) (wbSpec W i) -∗ E.wp (K (wext (wRow W i r)))) -∗ E.wp (sLoad b k hk r hr K)) := by
  have h : (fun y => wbSpec W i ((rc3 (A := 4) (B := 3072) (C := 512) 1 16 512 k (16 * r) 0 hk (by omega) (by decide)).emb y)) = wRow W i r := by
    funext y
    unfold wbSpec wRow
    rw [c1_emb, c2_emb, Nat.zero_add]
  exact ld_eq E (r := rc3 (A := 4) (B := 3072) (C := 512) 1 16 512 k (16 * r) 0 hk (by omega) (by decide)) (e := .bf16) h (fun w => K (wext w))
    (fun y => (mem_slotK hk _).2 (by have := c0_lt (A := 1) (B := 16) (C := 512) y; rw [c0_emb]; omega))

/-- The scaled tile's row blocks before `r` are known. -/
def wsDone (i r : ℕ) : sProp 𝕄 := part b.wsb E.d Finset.univ (fun x => a0 x < 16 * r) (wsSpec X A W i)

theorem sKeep_wp (i r : ℕ) (hr : r < 192) (K : FVec F (T2 16 512) .f32 → PR) :
    iprop(own b.srep E.d q Finset.univ (srepSpec X A) ∗ wsDone E b X A W i r)
      ⊢ iprop((iprop(own b.srep E.d q Finset.univ (srepSpec X A) ∗ wsDone E b X A W i (r + 1)) -∗ E.wp (K (wsBlk X A W i r)))
          -∗ E.wp (sKeep b r hr (wext (wRow W i r)) K)) := by
  have hv : ∀ y, wsSpec X A W i ((rc2 16 512 (16 * r) 0 (by omega) (by decide)).emb y)
      = shapeCast (T2 16 512) (wsVal (wext (wRow W i r)) (blk2 16 128 (16 * r) 0 (srepSpec X A))) (by decide) y :=
    fun y => glue2_emb (fun r _ => shapeCast (T2 16 512) (wsBlk X A W i r) (by decide)) r 0 rfl rfl _ _ y
  unfold sKeep wsDone
  iintro ⟨HA, HS⟩ Hk
  iapply (ld2 E) $$ HA
  iintro HA
  iapply (st_part E (P' := fun x => a0 x < 16 * (r + 1)) (fun _ => Finset.mem_univ _) hv
    (fun x _ hx => by
      by_cases h : a0 x < 16 * r
      · exact .inl h
      · exact .inr (hit2 _ _ x (by omega) (by omega) (Nat.zero_le _) (by have := a1_lt x; omega)))) $$ HS
  iintro HS
  iapply Hk
  isplitl [HA]; · iexact HA
  iexact HS

/-- What the smoothing of a tile works on, `r` of its row blocks done. -/
def sRes (i k : ℕ) (hk : k + 1 ≤ 4) (r : ℕ) : sProp 𝕄 :=
  iprop(own b.wb E.d fullShare (slotK 4 3072 512 k hk) (wbSpec W i) ∗ own b.srep E.d fullShare Finset.univ (srepSpec X A) ∗ wsDone E b X A W i r)

theorem sFirst_wp (i k : ℕ) (hk : k + 1 ≤ 4) (K : FVec F (T2 8 512) .f32 → PR) :
    sRes E b X A W i k hk 0
      ⊢ iprop((sRes E b X A W i k hk 1 -∗ E.wp (K (wAcc X A W i 0))) -∗ E.wp (sFirst b k hk K)) := by
  unfold sRes sFirst
  iintro ⟨HW, HS, HD⟩ Hk
  iapply (sLoad_wp E b W i k hk 0 _) $$ HW
  iintro HW
  iapply (sKeep_wp E b X A W i 0 _ fun ws => K (wbVal ws)) $$ [HS HD]
  · isplitl [HS] <;> iassumption
  iintro ⟨HS, HD⟩
  iapply Hk
  isplitl [HW]; · iexact HW
  isplitl [HS] <;> iassumption

theorem sRows_wp (i k : ℕ) (hk : k + 1 ≤ 4) : ∀ (n r e : ℕ) (he : r + n = e) (h : (r + 1) + n ≤ 192) (K : FVec F (T2 8 512) .f32 → PR),
    sRes E b X A W i k hk (r + 1)
      ⊢ iprop((sRes E b X A W i k hk (e + 1) -∗ E.wp (K (wAcc X A W i e))) -∗ E.wp (sRows b k hk n (r + 1) h (wAcc X A W i r) K)) := by
  intro n
  induction n with
  | zero =>
    intro r e he h K
    subst he
    iintro H Hk
    iapply Hk $$ H
  | succ n ih =>
    intro r e he h K
    have ih' := ih (r + 1) e (by omega) (by omega) K
    have hr : r + 1 < 192 := by omega
    have hn : r + 1 + 1 + n ≤ 192 := by omega
    unfold sRes at ih' ⊢
    iintro ⟨HW, HS, HD⟩ Hk
    iapply (sLoad_wp E b W i k hk (r + 1) hr fun w => sKeep b (r + 1) (by omega) w fun ws =>
        sRows b k hk n (r + 1 + 1) hn (maximumf (wAcc X A W i r) (wbVal ws)) K) $$ HW
    iintro HW
    iapply (sKeep_wp E b X A W i (r + 1) hr fun ws =>
        sRows b k hk n (r + 1 + 1) hn (maximumf (wAcc X A W i r) (wbVal ws)) K) $$ [HS HD]
    · isplitl [HS] <;> iassumption
    iintro ⟨HS, HD⟩
    iapply ih' $$ [HW HS HD]
    · isplitl [HW]; · iexact HW
      isplitl [HS] <;> iassumption
    iexact Hk

/-- The weights' scales of the tiles before `i` are known. -/
def wscDone (i : ℕ) : sProp 𝕄 := part b.wsc E.d Finset.univ (fun x => a1 x < 512 * i) (wscSpec X A W)
/-- The scales of tile `i` are in slot `k`. -/
def wscbHas (i k : ℕ) : sProp 𝕄 := part b.wscb E.d Finset.univ (fun x => a0 x = k) (wscbSpec X A W i)

theorem ix2_row {B : ℕ} [NeZero B] (y : (T2 1 B).Idx) : ix2 0 (a1 y) = y :=
  ext2 (by have := a0_lt y; rw [a0_ix2, Nat.mod_one]; omega) (by rw [a1_ix2, Nat.mod_eq_of_lt (a1_lt y)])

theorem ix3_row {B C : ℕ} [NeZero B] [NeZero C] (y : (T3 1 B C).Idx) : ix3 0 (c1 y) (c2 y) = y :=
  ext3 (by have := c0_lt y; rw [c0_ix3, Nat.mod_one]; omega) (by rw [c1_ix3, Nat.mod_eq_of_lt (c1_lt y)])
    (by rw [c2_ix3, Nat.mod_eq_of_lt (c2_lt y)])

theorem qScale_wp (i k : ℕ) (hk : k + 1 ≤ 3) (hq : 512 * i + 512 ≤ 8192) (K : PR) :
    iprop(wscDone E b X A W i ∗ any b.wscb E.d Finset.univ)
      ⊢ iprop((iprop(wscDone E b X A W (i + 1) ∗ wscbHas E b X A W i k) -∗ E.wp K) -∗ E.wp (qScale b k hk (512 * i) hq (wa X A W i) K)) := by
  have hv : ∀ y, wscSpec X A W ((rc2 1 512 0 (512 * i) (by decide) hq).emb y) = scaleOf (wa X A W i) y :=
    fun y => glue2_emb (fun _ i => scaleOf (wa X A W i)) 0 i rfl rfl _ _ y
  have hv' : ∀ y, wscbSpec X A W i ((rc2 1 512 k 0 hk (by decide)).emb y) = shapeCast (T2 1 512) (scaleOf (wa X A W i)) (by decide) y := by
    intro y
    unfold wscbSpec
    rw [a1_emb, Nat.zero_add, ix2_row]
  unfold qScale wscDone wscbHas
  iintro ⟨HA, HS⟩ Hk
  iapply (st_part E (P' := fun x => a1 x < 512 * (i + 1)) (fun _ => Finset.mem_univ _) hv
    (fun x _ hx => by
      by_cases h : a1 x < 512 * i
      · exact .inl h
      · exact .inr (hit2 _ _ x (Nat.zero_le _) (a0_lt x) (by omega) (by omega)))) $$ HA
  iintro HA
  iapply (st_part E (P := fun _ => False) (P' := fun x => a0 x = k) (fun _ => Finset.mem_univ _) hv'
    (fun x _ hx => .inr (hit2 _ _ x (by omega) (by omega) (Nat.zero_le _) (by have := a1_lt x; omega)))) $$ [HS]
  · iapply (any_part (fun _ _ => id)) $$ HS
  iintro HS
  iapply Hk
  isplitl [HA]; · iexact HA
  iexact HS

/-- The codes of the row blocks before `r` of tile `i` are in slot `k`. -/
def wcbDone (i k : ℕ) (hk : k + 1 ≤ 3) (r : ℕ) : sProp 𝕄 :=
  part b.wcb E.d (slotK 3 3072 512 k hk) (fun x => c1 x < 32 * r) (wcbSpec X A W i)

theorem qLoad_wp (i r : ℕ) (hr : r < 96) (K : FVec F (T2 32 512) .f32 → PR) :
    (own b.wsb E.d q Finset.univ (wsSpec X A W i) : sProp 𝕄)
      ⊢ iprop((own b.wsb E.d q Finset.univ (wsSpec X A W i) -∗ E.wp (K (wLo X A W i r))) -∗ E.wp (qLoad b r hr (invOf (wa X A W i)) K)) :=
  ld2 E (e := .f32) (m := b.wsb) (k := fun ws => K (wqLo ws (invOf (wa X A W i))))

theorem qKeep_wp (i k : ℕ) (hk : k + 1 ≤ 3) (r : ℕ) (hr : r < 96) (K : PR) :
    wcbDone E b X A W i k hk r
      ⊢ iprop((wcbDone E b X A W i k hk (r + 1) -∗ E.wp K)
          -∗ E.wp (qKeep b k hk r hr (lit (T2 32 512) 0x43E00000#32) (wLo X A W i r) K)) := by
  have hv : ∀ y, wcbSpec X A W i ((rc3 1 32 512 k (32 * r) 0 hk (by omega) (by decide)).emb y)
      = wqHi (lit (T2 32 512) 0x43E00000#32) (wLo X A W i r) y := by
    intro y
    have := c1_lt y
    unfold wcbSpec
    rw [c1_emb, c2_emb, Nat.zero_add, Nat.mul_add_div (by decide), Nat.div_eq_of_lt this, Nat.mul_add_mod, Nat.mod_eq_of_lt this,
      Nat.add_zero, ix3_row]
  unfold qKeep wcbDone
  exact stp_part E (fun y => (mem_slotK hk _).2 (by have := c0_lt y; rw [c0_emb]; omega)) hv
    (fun x hxk hx => by
      rw [mem_slotK] at hxk
      by_cases h : c1 x < 32 * r
      · exact .inl h
      · exact .inr (hit3 _ _ _ x (by omega) (by omega) (by omega) (by omega) (Nat.zero_le _) (by have := c2_lt x; omega)))

theorem qRows_wp (i k : ℕ) (hk : k + 1 ≤ 3) : ∀ (n r e : ℕ) (he : r + n = e) (h : r + n ≤ 96) (K : PR),
    iprop(own b.wsb E.d q Finset.univ (wsSpec X A W i) ∗ wcbDone E b X A W i k hk r)
      ⊢ iprop((iprop(own b.wsb E.d q Finset.univ (wsSpec X A W i) ∗ wcbDone E b X A W i k hk e) -∗ E.wp K)
          -∗ E.wp (qRows b k hk (invOf (wa X A W i)) n r h K)) := by
  intro n
  induction n with
  | zero =>
    intro r e he h K
    subst he
    iintro H Hk
    iapply Hk $$ H
  | succ n ih =>
    intro r e he h K
    have hr : r < 96 := by omega
    iintro ⟨HW, HD⟩ Hk
    iapply (qLoad_wp E b X A W i r hr fun lo => qKeep b k hk r (by omega) (lit (T2 32 512) 0x43E00000#32) lo
      (qRows b k hk (invOf (wa X A W i)) n (r + 1) (by omega) K)) $$ HW
    iintro HW
    iapply (qKeep_wp E b X A W i k hk r hr) $$ HD
    iintro HD
    iapply (ih (r + 1) e (by omega) _ K) $$ [HW HD]
    · isplitl [HW] <;> iassumption
    iexact Hk

/-- What the product of tile `i` reads. -/
def mRes (i k : ℕ) (hk : k + 1 ≤ 3) : sProp 𝕄 :=
  iprop(own b.xcb E.d fullShare.right Finset.univ (xcSpec X A) ∗ own b.wcb E.d fullShare.right (slotK 3 3072 512 k hk) (wcbSpec X A W i)
    ∗ own b.xsrep E.d fullShare Finset.univ (xsrepSpec X A))

theorem mHalf_wp (i k : ℕ) (hk : k + 1 ≤ 3) (h : ℕ) (hh : h < 2) (K : PR) :
    iprop(mRes E b X A W i k hk ∗ part b.yb E.d (slotK 3 1024 512 k hk) (fun x => c1 x < 512 * h) (ybSpec X A W i))
      ⊢ iprop((iprop(mRes E b X A W i k hk ∗ part b.yb E.d (slotK 3 1024 512 k hk) (fun x => c1 x < 512 * (h + 1)) (ybSpec X A W i)) -∗ E.wp K)
          -∗ E.wp (mHalf b k hk h hh (fun y => wscbSpec X A W i (ix2 0 (a1 y))) K)) := by
  have hw : (fun y => wcbSpec X A W i ((rc3 (A := 3) (B := 3072) (C := 512) 1 3072 512 k 0 0 hk (by decide) (by decide)).emb y))
      = fun y => wcbSpec X A W i (ix3 0 (c1 y) (c2 y)) := by
    funext y
    unfold wcbSpec
    rw [c1_emb, c2_emb, Nat.zero_add, Nat.zero_add, c1_ix3, c2_ix3, Nat.mod_eq_of_lt (c1_lt y), Nat.mod_eq_of_lt (c2_lt y)]
  have hv : ∀ y, ybSpec X A W i ((rc3 1 512 512 k (512 * h) 0 hk (by omega) (by decide)).emb y)
      = yVal (fun y => wscbSpec X A W i (ix2 0 (a1 y))) (blk2 512 3072 (512 * h) 0 (xcSpec X A))
          (fun y => wcbSpec X A W i (ix3 0 (c1 y) (c2 y))) (blk2 512 128 (512 * h) 0 (xsrepSpec X A)) y := by
    intro y
    have := c1_lt y
    unfold ybSpec
    rw [c1_emb, c2_emb, Nat.zero_add, Nat.mul_add_div (by decide), Nat.div_eq_of_lt this, Nat.mul_add_mod, Nat.mod_eq_of_lt this,
      Nat.add_zero, ix3_row]
  unfold mRes mHalf
  iintro ⟨⟨HX, HC, HR⟩, HY⟩ Hk
  iapply (ld2 E) $$ HX
  iintro HX
  iapply (ld_eq E hw _ (fun y => (mem_slotK hk _).2 (by have := c0_lt (A := 1) (B := 3072) (C := 512) y; rw [c0_emb]; omega))) $$ HC
  iintro HC
  iapply (ld2 E) $$ HR
  iintro HR
  iapply (stp_part E (P' := fun x => c1 x < 512 * (h + 1)) (fun y => (mem_slotK hk _).2 (by have := c0_lt y; rw [c0_emb]; omega)) hv
    (fun x hxk hx => by
      rw [mem_slotK] at hxk
      by_cases h' : c1 x < 512 * h
      · exact .inl h'
      · exact .inr (hit3 _ _ _ x (by omega) (by omega) (by omega) (by omega) (Nat.zero_le _) (by have := c2_lt x; omega)))) $$ HY
  iintro HY
  iapply Hk
  isplitl [HX HC HR]
  · isplitl [HX]; · iexact HX
    isplitl [HC] <;> iassumption
  iexact HY

theorem mTile_wp (i k : ℕ) (hk : k + 1 ≤ 3) (K : PR) :
    iprop(mRes E b X A W i k hk ∗ wscbHas E b X A W i k ∗ any b.yb E.d (slotK 3 1024 512 k hk))
      ⊢ iprop((iprop(mRes E b X A W i k hk ∗ any b.wscb E.d Finset.univ ∗ own b.yb E.d fullShare (slotK 3 1024 512 k hk) (ybSpec X A W i)) -∗ E.wp K)
          -∗ E.wp (mTile b k hk K)) := by
  have hs : (fun y => wscbSpec X A W i ((rc2 (A := 3) (B := 512) 1 512 k 0 hk (by decide)).emb y)) = fun y => wscbSpec X A W i (ix2 0 (a1 y)) := by
    funext y
    unfold wscbSpec
    rw [a1_emb, Nat.zero_add, a1_ix2, Nat.mod_eq_of_lt (a1_lt y)]
  have hK : ∀ y : (T2 1 512).Idx, a0 ((rc2 (A := 3) (B := 512) 1 512 k 0 hk (by decide)).emb y) = k := fun y => by
    have := a0_lt y; rw [a0_emb]; omega
  have hl := ld_known E (m := b.wscb) (K := Finset.univ) (P := fun x => a0 x = k) (g := wscbSpec X A W i)
    (r := rc2 (A := 3) (B := 512) 1 512 k 0 hk (by decide)) (h := numel2 _ _ (by decide) (by decide)) hs
    (fun sc => mHalf b k hk 0 (by decide) sc (mHalf b k hk 1 (by decide) sc K)) (fun _ => Finset.mem_univ _) hK
  unfold mTile wscbHas
  iintro ⟨HM, HS, HY⟩ Hk
  iapply hl $$ HS
  iintro HS
  iapply (mHalf_wp E b X A W i k hk 0 _) $$ [HM HY]
  · isplitl [HM]; · iexact HM
    iapply (any_part (fun x _ => by omega)) $$ HY
  iintro ⟨HM, HY⟩
  iapply (mHalf_wp E b X A W i k hk 1 _) $$ [HM HY]
  · isplitl [HM] <;> iassumption
  iintro ⟨HM, HY⟩
  iapply Hk
  isplitl [HM]; · iexact HM
  isplitl [HS]; · iapply part_any $$ HS
  iapply (part_own (fun x _ => by have := c1_lt x; omega)) $$ HY

end Phases

end Cert.Fp8
-- ==== Proof.Flights.lean ====
module

public import proofs.«01_k».proof.Proof.Tiles

@[expose] public section

noncomputable section

/-! The copies: what is in flight, and what a start and a wait do. -/

namespace Cert.Fp8

open Idealize.ShloMosaic Idealize.ShloMosaic.TcCoe
open Idealize.SL Idealize.SL.RA Idealize.SL.Sem Idealize.SL.ProofMode
open Idealize.SL.BI (sProp Storable)
open scoped Idealize.SL.BI
open Idealize.SL.BI.BIBase Idealize.SL.BI.Laws

variable {nD : Nat} {τ : Topo} {sig : RefSig} {Λ : Labels} {F : FTy → Type} [FloatOps F] {U : Type} [URA U]

local notation "𝕄" => MT nD τ sig Unit (Elt F) ℕ U ℕ
local notation "PR" => Code nD τ sig Λ F

variable (EC : UEmb Counters (MT nD τ sig Unit (Elt F) ℕ U ℕ)) [EC.LandsIn (upEmb : UEmb _ (MT nD τ sig Unit (Elt F) ℕ U ℕ))]
variable (E : Ctx nD τ sig Λ F U)

/-- What the core owes. -/
def ow : sProp 𝕄 := iprop(∃ W, owes (tcT E.d) 0 W)

/-- A copy under way by the semaphore `sm`, which yields `D` when it has landed. -/
def fly {sp : Space} {s : Shape} {e : EltTy} (dst : Memref sig .tc sp s e) (sm : DmaSem sig) (D : sProp 𝕄) : sProp 𝕄 :=
  Transfers.Flight EC (tcT E.d) (.dma sm) () dst.view.dmaCredit D

/-- The semaphore `sm` is at zero. -/
def sem0 (sm : DmaSem sig) : sProp 𝕄 := semVal (tcT E.d, .dma sm) 0

section
variable {sp sp' : Space} {s : Shape} {e : EltTy} {q : PosShare TreeShare}
  {src : Memref sig .tc sp s e} {dst : Memref sig .tc sp' s e} {sm : DmaSem sig}
  {hs : src.view.WordExact} {hd : dst.view.WordExact} {ht : DmaTarget.Typed (nD := nD) (τ := τ) (p := Proc.tc) sp (.dma sm) (.here dst)}

theorem fly_mono {D D' : sProp 𝕄} (h : D ⊢ D') : fly EC E dst sm D ⊢ fly EC E dst sm D' :=
  Transfers.Flight_mono (EC := EC) (c := tcT E.d) h

/-- The start of a copy whose landing yields `D`. -/
theorem cp_wp {K : PR} (h : 0 < s.numel) {gs : s.Idx → Elt F e} {D : sProp 𝕄}
    (hD : iprop(own dst E.d fullShare Finset.univ gs ∗ own src E.d q Finset.univ gs) ⊢ D) :
    iprop(own src E.d q Finset.univ gs ∗ any dst E.d Finset.univ ∗ sem0 E sm)
      ⊢ iprop((fly EC E dst sm D -∗ E.wp K) -∗ E.wp (cp src dst sm hs hd ht K)) := by
  have : ∀ gd, iprop(own src E.d q Finset.univ gs ∗ own dst E.d fullShare Finset.univ gd ∗ sem0 E sm)
      ⊢ iprop((fly EC E dst sm iprop(own dst E.d fullShare Finset.univ gs ∗ own src E.d q Finset.univ gs) -∗ E.wp K) -∗ E.wp (cp src dst sm hs hd ht K)) :=
    fun gd => wp_own_dma (k := fun _ => K) E.𝒱 none EC () (dst.view.dmaCredit_pos h)
  unfold any
  iintro ⟨H1, ⟨%gd, H2⟩, H3⟩ Hk
  iapply (this gd) $$ [H1 H2 H3]
  · isplitl [H1]; · iexact H1
    isplitl [H2] <;> iassumption
  iintro H
  iapply Hk
  iapply (fly_mono EC E hD) $$ H

/-- The wait for a copy. -/
theorem wt_wp {K : PR} {D : sProp 𝕄} :
    iprop(fly EC E dst sm D ∗ ow E) ⊢ iprop((iprop(D ∗ sem0 E sm ∗ ow E) -∗ E.wp K) -∗ E.wp (wt src dst sm hs hd K)) :=
  wp_own_wait (k := fun _ => K) E.𝒱 none EC () rfl
end

section
variable {sp sp' : Space} {e : EltTy} {q : PosShare TreeShare} {S a : ℕ} [NeZero S] [NeZero a]
  {big : Memref sig .tc sp (T2 a 8192) e} {buf : Memref sig .tc sp' (T3 S a 512) e} {sm : DmaSem sig}
  {G : (T2 a 8192).Idx → Elt F e} {g : (T3 S a 512).Idx → Elt F e}

theorem any_slot {k : ℕ} (h' : k + 1 ≤ S) (hq : (T3 1 a 512).Squeezes (T2 a 512)) :
    (any buf E.d (slotK S a 512 k h') : sProp 𝕄)
      ⊢ any ((buf.slice (rc3 1 a 512 k 0 0 h' (by omega) (by omega)) (fun _ => rfl)).squeeze (T2 a 512) hq) E.d Finset.univ := by
  unfold any
  iintro ⟨%g, H⟩
  iexists _
  iapply (own_slot h' hq).1 $$ H

theorem any_tile {p : ℕ} (h : p + 512 ≤ 8192) :
    (any big E.d (tileK a p h) : sProp 𝕄) ⊢ any (big.slice (rc2 a 512 0 p (by omega) h) (fun _ => rfl)) E.d Finset.univ := by
  unfold any
  iintro ⟨%g, H⟩
  iexists _
  iapply (own_tile h).1 $$ H

/-- The start of a copy from a tile to a slot. -/
theorem in_wp {p k : ℕ} (h : p + 512 ≤ 8192) (h' : k + 1 ≤ S) (hq : (T3 1 a 512).Squeezes (T2 a 512)) {hs : (big.slice (rc2 a 512 0 p (by omega) h) (fun _ => rfl)).view.WordExact} {hd : ((buf.slice (rc3 1 a 512 k 0 0 h' (by omega) (by omega)) (fun _ => rfl)).squeeze (T2 a 512) hq).view.WordExact}
    {ht : DmaTarget.Typed (nD := nD) (τ := τ) (p := Proc.tc) sp (.dma sm) (.here ((buf.slice (rc3 1 a 512 k 0 0 h' (by omega) (by omega)) (fun _ => rfl)).squeeze (T2 a 512) hq))} {K : PR}
    (hG : ∀ z : (T2 a 512).Idx, G (ix2 (a0 z) (p + a1 z)) = g (ix3 k (a0 z) (a1 z))) :
    iprop(own big E.d q (tileK a p h) G ∗ any buf E.d (slotK S a 512 k h') ∗ sem0 E sm)
      ⊢ iprop((fly EC E ((buf.slice (rc3 1 a 512 k 0 0 h' (by omega) (by omega)) (fun _ => rfl)).squeeze (T2 a 512) hq) sm
            iprop(own buf E.d fullShare (slotK S a 512 k h') g ∗ own big E.d q (tileK a p h) G) -∗ E.wp K)
          -∗ E.wp (cp (big.slice (rc2 a 512 0 p (by omega) h) (fun _ => rfl))
              ((buf.slice (rc3 1 a 512 k 0 0 h' (by omega) (by omega)) (fun _ => rfl)).squeeze (T2 a 512) hq) sm hs hd ht K)) := by
  have hn : 0 < (T2 a 512).numel := numel2 (A := a) (B := 512) (p := 0) (q := 0) (by omega) (by omega) (Nat.pos_of_ne_zero (NeZero.ne a)) (by decide)
  have hD : iprop(own ((buf.slice (rc3 1 a 512 k 0 0 h' (by omega) (by omega)) (fun _ => rfl)).squeeze (T2 a 512) hq) E.d fullShare Finset.univ
        (fun z => G (ix2 (a0 z) (p + a1 z)))
      ∗ own (big.slice (rc2 a 512 0 p (by omega) h) (fun _ => rfl)) E.d q Finset.univ (fun z => G (ix2 (a0 z) (p + a1 z))))
      ⊢ (iprop(own buf E.d fullShare (slotK S a 512 k h') g ∗ own big E.d q (tileK a p h) G) : sProp 𝕄) := by
    iintro ⟨H1, H2⟩
    isplitl [H1]
    · iapply (own_slot h' hq).2
      iapply (own_congr fun z _ => hG z) $$ H1
    · iapply (own_tile h).2 $$ H2
  iintro ⟨H1, H2, H3⟩ Hk
  iapply (cp_wp EC E hn hD) $$ [H1 H2 H3]
  · isplitl [H1]; · iapply (own_tile h).1 $$ H1
    isplitl [H2]; · iapply (any_slot E h' hq) $$ H2
    iexact H3
  iexact Hk

/-- The start of a copy from a slot to a tile. -/
theorem out_wp {p k : ℕ} (h : p + 512 ≤ 8192) (h' : k + 1 ≤ S) (hq : (T3 1 a 512).Squeezes (T2 a 512)) {hs : ((buf.slice (rc3 1 a 512 k 0 0 h' (by omega) (by omega)) (fun _ => rfl)).squeeze (T2 a 512) hq).view.WordExact} {hd : (big.slice (rc2 a 512 0 p (by omega) h) (fun _ => rfl)).view.WordExact}
    {ht : DmaTarget.Typed (nD := nD) (τ := τ) (p := Proc.tc) sp' (.dma sm) (.here (big.slice (rc2 a 512 0 p (by omega) h) (fun _ => rfl)))} {K : PR}
    (hG : ∀ z : (T2 a 512).Idx, g (ix3 k (a0 z) (a1 z)) = G (ix2 (a0 z) (p + a1 z))) :
    iprop(own buf E.d q (slotK S a 512 k h') g ∗ any big E.d (tileK a p h) ∗ sem0 E sm)
      ⊢ iprop((fly EC E (big.slice (rc2 a 512 0 p (by omega) h) (fun _ => rfl)) sm
            iprop(own big E.d fullShare (tileK a p h) G ∗ own buf E.d q (slotK S a 512 k h') g) -∗ E.wp K)
          -∗ E.wp (cp ((buf.slice (rc3 1 a 512 k 0 0 h' (by omega) (by omega)) (fun _ => rfl)).squeeze (T2 a 512) hq)
              (big.slice (rc2 a 512 0 p (by omega) h) (fun _ => rfl)) sm hs hd ht K)) := by
  have hn : 0 < (T2 a 512).numel := numel2 (A := a) (B := 512) (p := 0) (q := 0) (by omega) (by omega) (Nat.pos_of_ne_zero (NeZero.ne a)) (by decide)
  have hc : (own (big.slice (rc2 a 512 0 p (by omega) h) (fun _ => rfl)) E.d fullShare Finset.univ (fun z => g (ix3 k (a0 z) (a1 z))) : sProp 𝕄)
      ⊢ own (big.slice (rc2 a 512 0 p (by omega) h) (fun _ => rfl)) E.d fullShare Finset.univ (fun z => G (ix2 (a0 z) (p + a1 z))) :=
    own_congr fun z _ => hG z
  have hD : iprop(own (big.slice (rc2 a 512 0 p (by omega) h) (fun _ => rfl)) E.d fullShare Finset.univ (fun z => g (ix3 k (a0 z) (a1 z)))
      ∗ own ((buf.slice (rc3 1 a 512 k 0 0 h' (by omega) (by omega)) (fun _ => rfl)).squeeze (T2 a 512) hq) E.d q Finset.univ
        (fun z => g (ix3 k (a0 z) (a1 z))))
      ⊢ (iprop(own big E.d fullShare (tileK a p h) G ∗ own buf E.d q (slotK S a 512 k h') g) : sProp 𝕄) := by
    iintro ⟨H1, H2⟩
    isplitl [H1]
    · iapply (own_tile h).2
      iapply hc $$ H1
    · iapply (own_slot h' hq).2 $$ H2
  iintro ⟨H1, H2, H3⟩ Hk
  iapply (cp_wp EC E hn hD) $$ [H1 H2 H3]
  · isplitl [H1]; · iapply (own_slot h' hq).1 $$ H1
    isplitl [H2]; · iapply (any_tile E h) $$ H2
    iexact H3
  iexact Hk

end

section
variable (b : Bufs sig) (X : FVec F (T2 1024 3072) .bf16) (A : FVec F (T2 1 3072) .f32) (W : FVec F (T2 3072 8192) .bf16)

/-- Tile `i` of the weights on its way to slot `k`. -/
def wFl (i k : ℕ) (h : 512 * i + 512 ≤ 8192) (h' : k + 1 ≤ 4) : sProp 𝕄 :=
  fly EC E (wSlot b k h') (semAt b.wsem k h')
    iprop(own b.wb E.d fullShare (slotK 4 3072 512 k h') (wbSpec W i) ∗ own b.w E.d fullShare (tileK 3072 (512 * i) h) W)
/-- Slot `k` of the weights free. -/
def wFree (k : ℕ) (h' : k + 1 ≤ 4) : sProp 𝕄 := iprop(any b.wb E.d (slotK 4 3072 512 k h') ∗ sem0 E (semAt b.wsem k h'))

theorem wStart_wp {K : PR} (i k : ℕ) (h : 512 * i + 512 ≤ 8192) (h' : k + 1 ≤ 4) :
    iprop(own b.w E.d fullShare (tileK 3072 (512 * i) h) W ∗ wFree E b k h')
      ⊢ iprop((wFl EC E b W i k h h' -∗ E.wp K) -∗ E.wp (wStart b (512 * i) k h h' K)) :=
  in_wp EC E h h' sqW fun z => by
    have h0 := a0_lt z; have h1 := a1_lt z
    unfold wbSpec
    rw [c1_ix3, c2_ix3, Nat.mod_eq_of_lt h0, Nat.mod_eq_of_lt h1]

theorem wWait_wp {K : PR} (i k : ℕ) (h : 512 * i + 512 ≤ 8192) (h' : k + 1 ≤ 4) :
    iprop(wFl EC E b W i k h h' ∗ ow E)
      ⊢ iprop((iprop(own b.wb E.d fullShare (slotK 4 3072 512 k h') (wbSpec W i) ∗ own b.w E.d fullShare (tileK 3072 (512 * i) h) W
          ∗ sem0 E (semAt b.wsem k h') ∗ ow E) -∗ E.wp K) -∗ E.wp (wWait b (512 * i) k h h' K)) := by
  unfold wFl wWait
  iintro H Hk
  iapply (wt_wp EC E) $$ H
  iintro ⟨⟨H1, H2⟩, H3, H4⟩
  iapply Hk
  isplitl [H1]; · iexact H1
  isplitl [H2]; · iexact H2
  isplitl [H3] <;> iassumption

/-- The codes of tile `i` on their way from slot `k`, half of which is kept. -/
def wcFl (i k : ℕ) (h : 512 * i + 512 ≤ 8192) (h' : k + 1 ≤ 3) : sProp 𝕄 :=
  iprop(fly EC E (wcTile b (512 * i) h) (semAt b.wcsem k h')
    iprop(own b.wc E.d fullShare (tileK 3072 (512 * i) h) (wcSpec X A W) ∗ own b.wcb E.d fullShare.left (slotK 3 3072 512 k h') (wcbSpec X A W i))
    ∗ own b.wcb E.d fullShare.right (slotK 3 3072 512 k h') (wcbSpec X A W i))
/-- Slot `k` of the codes free. -/
def wcFree (k : ℕ) (h' : k + 1 ≤ 3) : sProp 𝕄 := iprop(any b.wcb E.d (slotK 3 3072 512 k h') ∗ sem0 E (semAt b.wcsem k h'))

theorem wcStart_wp {K : PR} (i k : ℕ) (h : 512 * i + 512 ≤ 8192) (h' : k + 1 ≤ 3) :
    iprop(any b.wc E.d (tileK 3072 (512 * i) h) ∗ own b.wcb E.d fullShare (slotK 3 3072 512 k h') (wcbSpec X A W i) ∗ sem0 E (semAt b.wcsem k h'))
      ⊢ iprop((wcFl EC E b X A W i k h h' -∗ E.wp K) -∗ E.wp (wcStart b (512 * i) k h h' K)) := by
  unfold wcFl
  iintro ⟨H1, H2, H3⟩ Hk
  ihave H2 := own_share.1 $$ H2
  icases H2 with ⟨H2, H2'⟩
  iapply (out_wp EC E (hs := wcSlot_we b k h') (hd := wcTile_we b (512 * i) h) (ht := ⟨Or.inl rfl, trivial⟩)
    (G := wcSpec X A W) (g := wcbSpec X A W i) h h' sqW fun z => by
    have h0 := a0_lt z; have h1 := a1_lt z
    unfold wcSpec
    rw [a1_ix2, a0_ix2, Nat.mod_eq_of_lt (show 512 * i + a1 z < 8192 by omega), Nat.mul_add_div (by decide), Nat.div_eq_of_lt h1,
      Nat.mul_add_mod, Nat.mod_eq_of_lt h1, Nat.mod_eq_of_lt h0, Nat.add_zero]
    unfold wcbSpec
    rw [c1_ix3, c2_ix3, c1_ix3, c2_ix3]) $$ [H1 H2 H3]
  · isplitl [H2]; · iexact H2
    isplitl [H1] <;> iassumption
  iintro H
  iapply Hk
  isplitl [H]
  · iexact H
  · iexact H2'

theorem wcWait_wp {K : PR} (i k : ℕ) (h : 512 * i + 512 ≤ 8192) (h' : k + 1 ≤ 3) :
    iprop(wcFl EC E b X A W i k h h' ∗ ow E)
      ⊢ iprop((iprop(own b.wc E.d fullShare (tileK 3072 (512 * i) h) (wcSpec X A W) ∗ wcFree E b k h' ∗ ow E) -∗ E.wp K)
          -∗ E.wp (wcWait b (512 * i) k h h' K)) := by
  unfold wcFl wcWait wcFree
  iintro ⟨⟨H, H'⟩, HO⟩ Hk
  iapply (wt_wp EC E) $$ [H HO]
  · isplitl [H] <;> iassumption
  iintro ⟨⟨H1, H2⟩, H3, H4⟩
  iapply Hk
  isplitl [H1]; · iexact H1
  isplitr [H4]
  · isplitr [H3]
    · iapply own_any (g := wcbSpec X A W i)
      iapply own_share.2
      isplitl [H2] <;> iassumption
    · iexact H3
  · iexact H4

/-- Tile `i` of the result on its way from slot `k`. -/
def yFl (i k : ℕ) (h : 512 * i + 512 ≤ 8192) (h' : k + 1 ≤ 3) : sProp 𝕄 :=
  fly EC E (yTile b (512 * i) h) (semAt b.ysem k h')
    iprop(own b.y E.d fullShare (tileK 1024 (512 * i) h) (ySpec X A W) ∗ own b.yb E.d fullShare (slotK 3 1024 512 k h') (ybSpec X A W i))
/-- Slot `k` of the result free. -/
def yFree (k : ℕ) (h' : k + 1 ≤ 3) : sProp 𝕄 := iprop(any b.yb E.d (slotK 3 1024 512 k h') ∗ sem0 E (semAt b.ysem k h'))

theorem yStart_wp {K : PR} (i k : ℕ) (h : 512 * i + 512 ≤ 8192) (h' : k + 1 ≤ 3) :
    iprop(any b.y E.d (tileK 1024 (512 * i) h) ∗ own b.yb E.d fullShare (slotK 3 1024 512 k h') (ybSpec X A W i) ∗ sem0 E (semAt b.ysem k h'))
      ⊢ iprop((yFl EC E b X A W i k h h' -∗ E.wp K) -∗ E.wp (yStart b (512 * i) k h h' K)) := by
  unfold yFl
  iintro ⟨H1, H2, H3⟩ Hk
  iapply (out_wp EC E (hs := ySlot_we b k h') (hd := yTile_we b (512 * i) h) (ht := ⟨Or.inl rfl, trivial⟩)
    (G := ySpec X A W) (g := ybSpec X A W i) h h' sqY fun z => by
    have h0 := a0_lt z; have h1 := a1_lt z
    unfold ySpec
    rw [a1_ix2, a0_ix2, Nat.mod_eq_of_lt (show 512 * i + a1 z < 8192 by omega), Nat.mul_add_div (by decide), Nat.div_eq_of_lt h1,
      Nat.mul_add_mod, Nat.mod_eq_of_lt h1, Nat.mod_eq_of_lt h0, Nat.add_zero]
    unfold ybSpec
    rw [c1_ix3, c2_ix3, c1_ix3, c2_ix3]) $$ [H1 H2 H3]
  · isplitl [H2]; · iexact H2
    isplitl [H1] <;> iassumption
  iexact Hk

theorem yWait_wp {K : PR} (i k : ℕ) (h : 512 * i + 512 ≤ 8192) (h' : k + 1 ≤ 3) :
    iprop(yFl EC E b X A W i k h h' ∗ ow E)
      ⊢ iprop((iprop(own b.y E.d fullShare (tileK 1024 (512 * i) h) (ySpec X A W) ∗ yFree E b k h' ∗ ow E) -∗ E.wp K)
          -∗ E.wp (yWait b (512 * i) k h h' K)) := by
  unfold yFl yWait yFree
  iintro H Hk
  iapply (wt_wp EC E) $$ H
  iintro ⟨⟨H1, H2⟩, H3, H4⟩
  iapply Hk
  isplitl [H1]; · iexact H1
  isplitr [H4]
  · isplitr [H3]
    · iapply own_any $$ H2
    · iexact H3
  · iexact H4

end

end Cert.Fp8
-- ==== Proof.Trips.lean ====
module

public import proofs.«01_k».proof.Proof.Flights

@[expose] public section

noncomputable section

/-! The trips of the body: what holds before each, and what one does. -/

namespace Cert.Fp8

open Idealize.ShloMosaic Idealize.ShloMosaic.TcCoe
open Idealize.SL Idealize.SL.RA Idealize.SL.Sem Idealize.SL.ProofMode
open Idealize.SL.BI (sProp Storable)
open scoped Idealize.SL.BI
open Idealize.SL.BI.BIBase Idealize.SL.BI.Laws

variable {nD : Nat} {τ : Topo} {sig : RefSig} {Λ : Labels} {F : FTy → Type} [FloatOps F] {U : Type} [URA U]

local notation "𝕄" => MT nD τ sig Unit (Elt F) ℕ U ℕ
local notation "PR" => Code nD τ sig Λ F

variable (EC : UEmb Counters (MT nD τ sig Unit (Elt F) ℕ U ℕ)) [EC.LandsIn (upEmb : UEmb _ (MT nD τ sig Unit (Elt F) ℕ U ℕ))]
variable (E : Ctx nD τ sig Λ F U)
variable (b : Bufs sig) (X : FVec F (T2 1024 3072) .bf16) (A : FVec F (T2 1 3072) .f32) (W : FVec F (T2 3072 8192) .bf16)

/-- Tile `j` of the weights on its way, or its slot free when there is no such tile. -/
def wAt (j : ℕ) : sProp 𝕄 :=
  if h : j < 16 then wFl EC E b W j (j % 4) (by omega) (by omega) else wFree E b (j % 4) (by omega)
/-- The codes of tile `j - 3` on their way, or their slot free when there is no such tile. -/
def wcAt (j : ℕ) : sProp 𝕄 :=
  if h : 3 ≤ j ∧ j < 19 then wcFl EC E b X A W (j - 3) (j % 3) (by omega) (by omega) else wcFree E b (j % 3) (by omega)
/-- Tile `j - 3` of the result on its way, or its slot free when there is no such tile. -/
def yAt (j : ℕ) : sProp 𝕄 :=
  if h : 3 ≤ j ∧ j < 19 then yFl EC E b X A W (j - 3) (j % 3) (by omega) (by omega) else yFree E b (j % 3) (by omega)

theorem of_eq {P Q : sProp 𝕄} (h : P = Q) : P ⊢ Q := by subst h; exact BI.Laws.entails_refl P

theorem wAt_fl (i k : ℕ) (h : 512 * i + 512 ≤ 8192) (h' : k + 1 ≤ 4) (hk : k = i % 4) : wAt EC E b W i = wFl EC E b W i k h h' := by
  subst hk
  unfold wAt
  rw [dif_pos (by omega)]

theorem wAt_free (i k : ℕ) (h : 16 ≤ i) (h' : k + 1 ≤ 4) (hk : k = i % 4) : wAt EC E b W i = wFree E b k h' := by
  subst hk
  unfold wAt
  rw [dif_neg (by omega)]

theorem wcAt_fl (i k : ℕ) (h : 512 * i + 512 ≤ 8192) (h' : k + 1 ≤ 3) (hk : k = i % 3) :
    wcAt EC E b X A W (i + 3) = wcFl EC E b X A W i k h h' := by
  subst hk
  unfold wcAt
  rw [dif_pos (by omega)]
  simp only [Nat.add_sub_cancel, Nat.add_mod_right]

theorem wcAt_free (i k : ℕ) (h : i < 3) (h' : k + 1 ≤ 3) (hk : k = i) : wcAt EC E b X A W i = wcFree E b k h' := by
  subst hk
  unfold wcAt
  rw [dif_neg (by omega)]
  simp only [Nat.mod_eq_of_lt h]

theorem yAt_fl (i k : ℕ) (h : 512 * i + 512 ≤ 8192) (h' : k + 1 ≤ 3) (hk : k = i % 3) :
    yAt EC E b X A W (i + 3) = yFl EC E b X A W i k h h' := by
  subst hk
  unfold yAt
  rw [dif_pos (by omega)]
  simp only [Nat.add_sub_cancel, Nat.add_mod_right]

theorem yAt_free (i k : ℕ) (h : i < 3) (h' : k + 1 ≤ 3) (hk : k = i) : yAt EC E b X A W i = yFree E b k h' := by
  subst hk
  unfold yAt
  rw [dif_neg (by omega)]
  simp only [Nat.mod_eq_of_lt h]

/-- The half of tile `i`'s codes that is kept. -/
theorem wcAt_kept (i k : ℕ) (h : 512 * i + 512 ≤ 8192) (h' : k + 1 ≤ 3) (hk : k = i % 3) :
    wcAt EC E b X A W (i + 3) ⊢ (iprop(own b.wcb E.d fullShare.right (slotK 3 3072 512 k h') (wcbSpec X A W i)
      ∗ (own b.wcb E.d fullShare.right (slotK 3 3072 512 k h') (wcbSpec X A W i) -∗ wcAt EC E b X A W (i + 3))) : sProp 𝕄) := by
  rw [wcAt_fl EC E b X A W i k h h' hk]
  unfold wcFl
  iintro ⟨H1, H2⟩
  isplitl [H2]; · iexact H2
  iintro H2
  isplitl [H1]
  · iexact H1
  · iexact H2

/-- Wait for the codes three back, if there are any. -/
theorem wcGet (i : ℕ) (hi : i < 19) (K : PR) :
    iprop(rest b.wc E.d (wcSpec X A W) (i - 3) i ∗ wcAt EC E b X A W i ∗ ow E)
      ⊢ iprop((iprop(rest b.wc E.d (wcSpec X A W) (i - 2) i ∗ wcFree E b (i % 3) (by omega) ∗ ow E) -∗ E.wp K)
          -∗ E.wp (if h : 3 ≤ i then wcWait b (512 * (i - 3)) (i % 3) (by omega) (by omega) K else K)) := by
  by_cases h : 3 ≤ i
  · rw [dif_pos h, show wcAt EC E b X A W i = wcFl EC E b X A W (i - 3) (i % 3) (by omega) (by omega) from dif_pos ⟨h, hi⟩]
    iintro ⟨H1, H2, H3⟩ Hk
    iapply (wcWait_wp EC E b X A W (i - 3) (i % 3) _ _) $$ [H2 H3]
    · isplitl [H2] <;> iassumption
    iintro ⟨H2, H3, H4⟩
    iapply Hk
    isplitl [H1 H2]
    · rw [show i - 2 = i - 3 + 1 by omega]
      iapply (rest_up (by omega) (by omega))
      isplitl [H1] <;> iassumption
    isplitl [H3] <;> iassumption
  · rw [dif_neg h, show wcAt EC E b X A W i = wcFree E b (i % 3) (by omega) from dif_neg (fun h' => h h'.1), show i - 2 = i - 3 by omega]
    iintro H Hk
    iapply Hk $$ H

/-- Wait for the result three back, if there is one. -/
theorem yGet (i : ℕ) (h1 : 1 ≤ i) (hi : i < 20) (K : PR) :
    iprop(rest b.y E.d (ySpec X A W) (i - 4) (i - 1) ∗ yAt EC E b X A W (i - 1) ∗ ow E)
      ⊢ iprop((iprop(rest b.y E.d (ySpec X A W) (i - 3) (i - 1) ∗ yFree E b ((i - 1) % 3) (by omega) ∗ ow E) -∗ E.wp K)
          -∗ E.wp (if h : 4 ≤ i then yWait b (512 * (i - 4)) ((i - 1) % 3) (by omega) (by omega) K else K)) := by
  by_cases h : 4 ≤ i
  · obtain ⟨j, rfl⟩ : ∃ j, i = j + 4 := ⟨i - 4, by omega⟩
    rw [dif_pos h, show yAt EC E b X A W (j + 4 - 1) = yFl EC E b X A W j ((j + 4 - 1) % 3) (by omega) (by omega) from
      yAt_fl EC E b X A W j ((j + 4 - 1) % 3) (by omega) (by omega) (by omega)]
    iintro ⟨H1, H2, H3⟩ Hk
    iapply (yWait_wp EC E b X A W j ((j + 4 - 1) % 3) _ _) $$ [H2 H3]
    · isplitl [H2] <;> iassumption
    iintro ⟨H2, H3, H4⟩
    iapply Hk
    isplitl [H1 H2]
    · rw [show j + 4 - 3 = j + 1 by omega]
      iapply (rest_up (by omega) (by omega))
      isplitl [H1]
      · iexact H1
      · iexact H2
    isplitl [H3] <;> iassumption
  · rw [dif_neg h, show yAt EC E b X A W (i - 1) = yFree E b ((i - 1) % 3) (by omega) from dif_neg (fun h' => h (by omega)),
      show i - 3 = i - 4 by omega]
    iintro H Hk
    iapply Hk $$ H

/-- Fetch the tile four ahead, if there is one. -/
theorem wPut (i : ℕ) (K : PR) :
    iprop(own b.w E.d fullShare (gap 3072 (i + 1) (i + 4)) W ∗ wFree E b (i % 4) (by omega))
      ⊢ iprop((iprop(own b.w E.d fullShare (gap 3072 (i + 1) (i + 5)) W ∗ wAt EC E b W (i + 4)) -∗ E.wp K)
          -∗ E.wp (if h : i < 12 then wStart b (512 * (i + 4)) (i % 4) (by omega) (by omega) K else K)) := by
  by_cases h : i < 12
  · rw [dif_pos h, wAt_fl EC E b W (i + 4) (i % 4) (by omega) (by omega) (by omega)]
    iintro ⟨H1, H2⟩ Hk
    ihave H1 := (own_gap_down (lo := i + 1) (hi := i + 4) (by omega) (by omega)) $$ H1
    icases H1 with ⟨H1, H3⟩
    iapply (wStart_wp EC E b W (i + 4) (i % 4) _ _) $$ [H2 H3]
    · isplitl [H3] <;> iassumption
    iintro H2
    iapply Hk
    isplitl [H1] <;> iassumption
  · rw [dif_neg h, wAt_free EC E b W (i + 4) (i % 4) (by omega) (by omega) (by omega),
      show gap 3072 (i + 1) (i + 5) = gap 3072 (i + 1) (i + 4) from by
        ext x; have := a1_lt x; rw [mem_gap, mem_gap]; omega]
    iintro H Hk
    iapply Hk $$ H

/-- What holds before trip `i`. -/
def tripInv (i : ℕ) : sProp 𝕄 :=
  iprop((own b.w E.d fullShare (gap 3072 i (i + 4)) W ∗ wAt EC E b W i ∗ wAt EC E b W (i + 1) ∗ wAt EC E b W (i + 2) ∗ wAt EC E b W (i + 3))
    ∗ (rest b.wc E.d (wcSpec X A W) (i - 3) i ∗ wcAt EC E b X A W i ∗ wcAt EC E b X A W (i + 1) ∗ wcAt EC E b X A W (i + 2))
    ∗ (rest b.y E.d (ySpec X A W) (i - 4) (i - 1) ∗ yAt EC E b X A W (i - 1) ∗ yAt EC E b X A W i ∗ yAt EC E b X A W (i + 1))
    ∗ (wscbHas E b X A W (i - 1) ((i - 1) % 3) ∗ wscDone E b X A W i ∗ any b.wsb E.d Finset.univ)
    ∗ (own b.srep E.d fullShare Finset.univ (srepSpec X A) ∗ own b.xsrep E.d fullShare Finset.univ (xsrepSpec X A)
      ∗ own b.xcb E.d fullShare.right Finset.univ (xcSpec X A))
    ∗ ow E)

theorem trip_wp (i : ℕ) (h1 : 1 ≤ i) (hi : i ≤ 15) (K : PR) :
    tripInv EC E b X A W i ⊢ iprop((tripInv EC E b X A W (i + 1) -∗ E.wp K) -∗ E.wp (trip b i h1 hi K)) := by
  have e1 : i + 2 = (i - 1) + 3 := by omega
  have ht : 512 * i + 512 ≤ 8192 := by omega
  have ht' : 512 * (i - 1) + 512 ≤ 8192 := by omega
  have hk4 : i % 4 + 1 ≤ 4 := by omega
  have hk3 : i % 3 + 1 ≤ 3 := by omega
  have hk3' : (i - 1) % 3 + 1 ≤ 3 := by omega
  have hi2 : i - 2 ≤ i := by omega
  have hi3 : i - 3 ≤ i - 1 := by omega
  unfold tripInv
  iintro ⟨⟨Hw, Hw0, Hw1, Hw2, Hw3⟩, ⟨Hc, Hc0, Hc1, Hc2⟩, ⟨Hy, Hy0, Hy1, Hy2⟩, ⟨Hsc, Hwsc, Hws⟩, ⟨Hsr, Hxr, Hxc⟩, Ho⟩ Hk
  unfold trip
  ihave Hw0 := (of_eq (wAt_fl EC E b W i (i % 4) ht hk4 rfl)) $$ Hw0
  iapply (wWait_wp EC E b W i (i % 4) ht hk4) $$ [Hw0 Ho]
  · isplitl [Hw0] <;> iassumption
  iintro ⟨Hb, Ht, Hs4, Ho⟩
  have hgu := own_gap_up (q := fullShare) (d := E.d) (m := b.w) (G := W) (U := U) (τ := τ) (lo := i) (hi := i + 4) (by omega) ht
  ihave Hw := hgu $$ [Hw Ht]
  · isplitl [Hw] <;> iassumption
  iapply (wcGet EC E b X A W i (by omega)) $$ [Hc Hc0 Ho]
  · isplitl [Hc]; · iexact Hc
    isplitl [Hc0] <;> iassumption
  iintro ⟨Hc, Hcf, Ho⟩
  iapply (yGet EC E b X A W i h1 (by omega)) $$ [Hy Hy0 Ho]
  · isplitl [Hy]; · iexact Hy
    isplitl [Hy0] <;> iassumption
  iintro ⟨Hy, Hyf, Ho⟩
  iapply (sFirst_wp E b X A W i (i % 4) hk4) $$ [Hb Hsr Hws]
  · unfold sRes wsDone
    isplitl [Hb]; · iexact Hb
    isplitl [Hsr]; · iexact Hsr
    iapply (any_part (fun x _ => by omega)) $$ Hws
  iintro Hb
  iapply (sRows_wp E b X A W i (i % 4) hk4 191 0 191 rfl _) $$ Hb
  iintro Hb
  unfold sRes wsDone
  icases Hb with ⟨Hb, Hsr, Hws⟩
  ihave Hws := (part_own (fun x _ => by have := a0_lt x; omega)) $$ Hws
  unfold wcFree yFree
  icases Hcf with ⟨Hcf, Hsc3⟩
  icases Hyf with ⟨Hyf, Hsy3⟩
  ihave Hc2 := (of_eq (congrArg (wcAt EC E b X A W) e1)) $$ Hc2
  ihave Hc2 := (wcAt_kept EC E b X A W (i - 1) ((i - 1) % 3) ht' hk3' rfl) $$ Hc2
  icases Hc2 with ⟨Hch, Hc2⟩
  iapply (mTile_wp E b X A W (i - 1) ((i - 1) % 3) hk3') $$ [Hxc Hch Hxr Hsc Hyf]
  · unfold mRes
    isplitl [Hxc Hch Hxr]
    · isplitl [Hxc]; · iexact Hxc
      isplitl [Hch] <;> iassumption
    isplitl [Hsc] <;> iassumption
  unfold mRes
  iintro ⟨⟨Hxc, Hch, Hxr⟩, Hsc, Hyf⟩
  ihave Hc2 := Hc2 $$ Hch
  iapply (qScale_wp E b X A W i (i % 3) hk3 ht) $$ [Hwsc Hsc]
  · isplitl [Hwsc] <;> iassumption
  iintro ⟨Hwsc, Hsc⟩
  iapply (qRows_wp E b X A W i (i % 3) hk3 96 0 96 rfl _) $$ [Hws Hcf]
  · isplitl [Hws]; · iexact Hws
    unfold wcbDone
    iapply (any_part (fun x _ => by omega)) $$ Hcf
  unfold wcbDone
  iintro ⟨Hws, Hcf⟩
  ihave Hcf := (part_own (fun x _ => by have := c1_lt x; omega)) $$ Hcf
  ihave Hc := (rest_down hi2 ht) $$ Hc
  icases Hc with ⟨Hc, Hct⟩
  iapply (wcStart_wp EC E b X A W i (i % 3) ht hk3) $$ [Hct Hcf Hsc3]
  · isplitl [Hct]; · iexact Hct
    isplitl [Hcf] <;> iassumption
  iintro Hcf
  ihave Hy := (rest_down hi3 ht') $$ Hy
  icases Hy with ⟨Hy, Hyt⟩
  iapply (yStart_wp EC E b X A W (i - 1) ((i - 1) % 3) ht' hk3') $$ [Hyt Hyf Hsy3]
  · isplitl [Hyt]; · iexact Hyt
    isplitl [Hyf] <;> iassumption
  iintro Hyf
  iapply (wPut EC E b W i) $$ [Hw Hb Hs4]
  · isplitl [Hw]; · iexact Hw
    unfold wFree
    isplitl [Hb]
    · iapply own_any $$ Hb
    · iexact Hs4
  iintro ⟨Hw, Hw0⟩
  iapply Hk
  isplitl [Hw Hw0 Hw1 Hw2 Hw3]
  · isplitl [Hw]; · iexact Hw
    isplitl [Hw1]; · iexact Hw1
    isplitl [Hw2]; · iexact Hw2
    isplitl [Hw3]; · iexact Hw3
    iexact Hw0
  isplitl [Hc Hc1 Hc2 Hcf]
  · isplitl [Hc]
    · rw [show i + 1 - 3 = i - 2 by omega]; iexact Hc
    isplitl [Hc1]; · iexact Hc1
    isplitl [Hc2]
    · rw [show i + 1 + 1 = i - 1 + 3 by omega]; iexact Hc2
    rw [show i + 1 + 2 = i + 3 by omega, wcAt_fl EC E b X A W i (i % 3) ht hk3 rfl]; iexact Hcf
  isplitl [Hy Hy1 Hy2 Hyf]
  · isplitl [Hy]
    · rw [show i + 1 - 4 = i - 3 by omega, show i + 1 - 1 = i - 1 + 1 by omega]; iexact Hy
    isplitl [Hy1]; · iexact Hy1
    isplitl [Hy2]; · iexact Hy2
    rw [show i + 1 + 1 = i - 1 + 3 by omega, yAt_fl EC E b X A W (i - 1) ((i - 1) % 3) ht' hk3' rfl]; iexact Hyf
  isplitl [Hsc Hwsc Hws]
  · isplitl [Hsc]; · iexact Hsc
    isplitl [Hwsc]; · iexact Hwsc
    iapply own_any $$ Hws
  isplitl [Hsr Hxr Hxc]
  · isplitl [Hsr]; · iexact Hsr
    isplitl [Hxr] <;> iassumption
  iexact Ho

theorem trips_wp : ∀ (n i e : ℕ) (he : i + n = e) (h1 : 1 ≤ i) (h : i + n ≤ 16) (K : PR),
    tripInv EC E b X A W i ⊢ iprop((tripInv EC E b X A W e -∗ E.wp K) -∗ E.wp (trips b n i h1 h K)) := by
  intro n
  induction n with
  | zero =>
    intro c e he h1 h K
    subst he
    iintro H Hk
    iapply Hk $$ H
  | succ n ih =>
    intro c e he h1 h K
    iintro H Hk
    iapply (trip_wp EC E b X A W c h1 (by omega) (trips b n (c + 1) (by omega) (by omega) K)) $$ H
    iintro H
    iapply (ih (c + 1) e (by omega) _ _ K) $$ H
    iexact Hk

end Cert.Fp8
-- ==== Proof.Whole.lean ====
module

public import proofs.«01_k».proof.Proof.Trips

@[expose] public section

noncomputable section

/-! The whole body: from its arguments and free buffers to its results. -/

namespace Cert.Fp8

open Idealize.ShloMosaic Idealize.ShloMosaic.TcCoe
open Idealize.SL Idealize.SL.RA Idealize.SL.Sem Idealize.SL.ProofMode
open Idealize.SL.BI (sProp Storable)
open scoped Idealize.SL.BI
open Idealize.SL.BI.BIBase Idealize.SL.BI.Laws

variable {nD : Nat} {τ : Topo} {sig : RefSig} {Λ : Labels} {F : FTy → Type} [FloatOps F] {U : Type} [URA U]

local notation "𝕄" => MT nD τ sig Unit (Elt F) ℕ U ℕ
local notation "PR" => Code nD τ sig Λ F

variable (EC : UEmb Counters (MT nD τ sig Unit (Elt F) ℕ U ℕ)) [EC.LandsIn (upEmb : UEmb _ (MT nD τ sig Unit (Elt F) ℕ U ℕ))]
variable (E : Ctx nD τ sig Λ F U)
variable (b : Bufs sig) (X : FVec F (T2 1024 3072) .bf16) (A : FVec F (T2 1 3072) .f32) (W : FVec F (T2 3072 8192) .bf16)

/-! ### A buffer and its slots -/

section
variable {sp : Space} {e : EltTy} {d : Dev nD} {a c : ℕ} [NeZero a] [NeZero c]

theorem univ_slots3 : (Finset.univ : Finset (T3 3 a c).Idx) = slotK 3 a c 0 (by decide) ∪ (slotK 3 a c 1 (by decide) ∪ slotK 3 a c 2 (by decide)) := by
  ext x; have := c0_lt x
  simp only [Finset.mem_univ, Finset.mem_union, mem_slotK, true_iff]; omega

theorem univ_slots4 : (Finset.univ : Finset (T3 4 a c).Idx)
    = slotK 4 a c 0 (by decide) ∪ (slotK 4 a c 1 (by decide) ∪ (slotK 4 a c 2 (by decide) ∪ slotK 4 a c 3 (by decide))) := by
  ext x; have := c0_lt x
  simp only [Finset.mem_univ, Finset.mem_union, mem_slotK, true_iff]; omega

theorem any_slots3 {m : Memref sig .tc sp (T3 3 a c) e} : (any m d Finset.univ : sProp 𝕄)
    ⊣⊢ iprop(any m d (slotK 3 a c 0 (by decide)) ∗ any m d (slotK 3 a c 1 (by decide)) ∗ any m d (slotK 3 a c 2 (by decide))) := by
  have h1 : Disjoint (slotK 3 a c 0 (by decide)) (slotK 3 a c 1 (by decide) ∪ slotK 3 a c 2 (by decide)) := by
    rw [Finset.disjoint_left]; intro x; simp only [Finset.mem_union, mem_slotK]; omega
  have h2 : Disjoint (slotK 3 a c 1 (by decide)) (slotK 3 a c 2 (by decide)) := by
    rw [Finset.disjoint_left]; intro x; simp only [mem_slotK]; omega
  rw [univ_slots3]
  constructor
  · iintro H
    ihave H := (any_union h1).1 $$ H
    icases H with ⟨H0, H⟩
    isplitl [H0]; · iexact H0
    iapply (any_union h2).1 $$ H
  · iintro ⟨H0, H⟩
    iapply (any_union h1).2
    isplitl [H0]; · iexact H0
    iapply (any_union h2).2 $$ H

theorem any_slots4 {m : Memref sig .tc sp (T3 4 a c) e} : (any m d Finset.univ : sProp 𝕄)
    ⊣⊢ iprop(any m d (slotK 4 a c 0 (by decide)) ∗ any m d (slotK 4 a c 1 (by decide)) ∗ any m d (slotK 4 a c 2 (by decide))
      ∗ any m d (slotK 4 a c 3 (by decide))) := by
  have h1 : Disjoint (slotK 4 a c 0 (by decide)) (slotK 4 a c 1 (by decide) ∪ (slotK 4 a c 2 (by decide) ∪ slotK 4 a c 3 (by decide))) := by
    rw [Finset.disjoint_left]; intro x; simp only [Finset.mem_union, mem_slotK]; omega
  have h2 : Disjoint (slotK 4 a c 1 (by decide)) (slotK 4 a c 2 (by decide) ∪ slotK 4 a c 3 (by decide)) := by
    rw [Finset.disjoint_left]; intro x; simp only [Finset.mem_union, mem_slotK]; omega
  have h3 : Disjoint (slotK 4 a c 2 (by decide)) (slotK 4 a c 3 (by decide)) := by
    rw [Finset.disjoint_left]; intro x; simp only [mem_slotK]; omega
  rw [univ_slots4]
  constructor
  · iintro H
    ihave H := (any_union h1).1 $$ H
    icases H with ⟨H0, H⟩
    ihave H := (any_union h2).1 $$ H
    icases H with ⟨H1, H⟩
    isplitl [H0]; · iexact H0
    isplitl [H1]; · iexact H1
    iapply (any_union h3).1 $$ H
  · iintro ⟨H0, H1, H⟩
    iapply (any_union h1).2
    isplitl [H0]; · iexact H0
    iapply (any_union h2).2
    isplitl [H1]; · iexact H1
    iapply (any_union h3).2 $$ H

end

/-! ### The tail -/

/-- What holds after the tail. -/
def tailPost : sProp 𝕄 :=
  iprop((own b.w E.d fullShare Finset.univ W ∗ wFree E b 0 (by decide) ∗ wFree E b 1 (by decide) ∗ wFree E b 2 (by decide) ∗ wFree E b 3 (by decide))
    ∗ (own b.wc E.d fullShare Finset.univ (wcSpec X A W) ∗ wcFree E b 0 (by decide) ∗ wcFree E b 1 (by decide) ∗ wcFree E b 2 (by decide))
    ∗ (own b.y E.d fullShare Finset.univ (ySpec X A W) ∗ yFree E b 0 (by decide) ∗ yFree E b 1 (by decide) ∗ yFree E b 2 (by decide))
    ∗ (any b.wscb E.d Finset.univ ∗ own b.wsc E.d fullShare Finset.univ (wscSpec X A W) ∗ any b.wsb E.d Finset.univ)
    ∗ (own b.srep E.d fullShare Finset.univ (srepSpec X A) ∗ own b.xsrep E.d fullShare Finset.univ (xsrepSpec X A)
      ∗ own b.xcb E.d fullShare.right Finset.univ (xcSpec X A))
    ∗ ow E)

theorem gap_full {a lo hi : ℕ} [NeZero a] (h : 16 ≤ lo) : gap a lo hi = Finset.univ := by
  ext x; have := a1_lt x; rw [mem_gap]; simp only [Finset.mem_univ, iff_true]; omega

theorem gap_none {a : ℕ} [NeZero a] : gap a 0 0 = Finset.univ := by
  ext x; rw [mem_gap]; simp only [Finset.mem_univ, iff_true]; omega

theorem rest_full {sp : Space} {e : EltTy} {d : Dev nD} {a : ℕ} [NeZero a] {m : Memref sig .tc sp (T2 a 8192) e} {G : (T2 a 8192).Idx → Elt F e} {hi : ℕ} :
    (rest m d G 16 hi : sProp 𝕄) ⊢ own m d fullShare Finset.univ G := by
  unfold rest
  rw [gap_full (le_refl 16)]
  exact part_own fun x _ => by have := a1_lt x; omega

theorem rest_none {sp : Space} {e : EltTy} {d : Dev nD} {a : ℕ} [NeZero a] {m : Memref sig .tc sp (T2 a 8192) e} {G : (T2 a 8192).Idx → Elt F e} :
    (any m d Finset.univ : sProp 𝕄) ⊢ rest m d G 0 0 := by
  unfold rest
  rw [gap_none]
  exact any_part fun x _ => by omega

theorem y_up (lo hi : ℕ) (h : lo < hi) (h' : 512 * lo + 512 ≤ 8192) :
    iprop(rest b.y E.d (ySpec X A W) lo hi ∗ own b.y E.d fullShare (tileK 1024 (512 * lo) h') (ySpec X A W))
      ⊢ (rest b.y E.d (ySpec X A W) (lo + 1) hi : sProp 𝕄) := rest_up h h'

theorem wc_up (lo hi : ℕ) (h : lo < hi) (h' : 512 * lo + 512 ≤ 8192) :
    iprop(rest b.wc E.d (wcSpec X A W) lo hi ∗ own b.wc E.d fullShare (tileK 3072 (512 * lo) h') (wcSpec X A W))
      ⊢ (rest b.wc E.d (wcSpec X A W) (lo + 1) hi : sProp 𝕄) := rest_up h h'

theorem w_up (lo hi : ℕ) (h : lo < hi) (h' : 512 * lo + 512 ≤ 8192) :
    iprop(own b.w E.d fullShare (gap 3072 lo hi) W ∗ own b.w E.d fullShare (tileK 3072 (512 * lo) h') W)
      ⊢ (own b.w E.d fullShare (gap 3072 (lo + 1) hi) W : sProp 𝕄) := own_gap_up h h'

theorem tail_wp (K : PR) :
    tripInv EC E b X A W 16 ⊢ iprop((tailPost E b X A W -∗ E.wp K) -∗ E.wp (tail b K)) := by
  unfold tripInv
  iintro ⟨⟨Hw, Hw0, Hw1, Hw2, Hw3⟩, ⟨Hc, Hc1, Hc2, Hc0⟩, ⟨Hy, Hy0, Hy1, Hy2⟩, ⟨Hsc, Hwsc, Hws⟩, ⟨Hsr, Hxr, Hxc⟩, Ho⟩ Hk
  ihave Hw0 := (of_eq (wAt_free EC E b W 16 0 (by decide) (by decide) (by decide))) $$ Hw0
  ihave Hw1 := (of_eq (wAt_free EC E b W 17 1 (by decide) (by decide) (by decide))) $$ Hw1
  ihave Hw2 := (of_eq (wAt_free EC E b W 18 2 (by decide) (by decide) (by decide))) $$ Hw2
  ihave Hw3 := (of_eq (wAt_free EC E b W 19 3 (by decide) (by decide) (by decide))) $$ Hw3
  ihave Hy0 := (of_eq (yAt_fl EC E b X A W 12 0 (by decide) (by decide) (by decide))) $$ Hy0
  ihave Hy1 := (of_eq (yAt_fl EC E b X A W 13 1 (by decide) (by decide) (by decide))) $$ Hy1
  ihave Hy2 := (of_eq (yAt_fl EC E b X A W 14 2 (by decide) (by decide) (by decide))) $$ Hy2
  ihave Hc1 := (of_eq (wcAt_fl EC E b X A W 13 1 (by decide) (by decide) (by decide))) $$ Hc1
  ihave Hc2 := (of_eq (wcAt_fl EC E b X A W 14 2 (by decide) (by decide) (by decide))) $$ Hc2
  unfold tail
  iapply (yWait_wp EC E b X A W 12 0 _ _) $$ [Hy0 Ho]
  · isplitl [Hy0] <;> iassumption
  unfold yFree
  iintro ⟨Hyt, ⟨Hyf, Hys⟩, Ho⟩
  ihave Hy := (y_up E b X A W 12 15 (by decide) (by decide)) $$ [Hy Hyt]
  · isplitl [Hy] <;> iassumption
  ihave Hc0 := (wcAt_kept EC E b X A W 15 0 (by decide) (by decide) (by decide)) $$ Hc0
  icases Hc0 with ⟨Hch, Hc0⟩
  iapply (mTile_wp E b X A W 15 0 _) $$ [Hxc Hch Hxr Hsc Hyf]
  · unfold mRes
    isplitl [Hxc Hch Hxr]
    · isplitl [Hxc]; · iexact Hxc
      isplitl [Hch] <;> iassumption
    isplitl [Hsc] <;> iassumption
  unfold mRes
  iintro ⟨⟨Hxc, Hch, Hxr⟩, Hsc, Hyf⟩
  ihave Hc0 := Hc0 $$ Hch
  ihave Hc0 := (of_eq (wcAt_fl EC E b X A W 15 0 (by decide) (by decide) (by decide))) $$ Hc0
  ihave Hy := (rest_down (lo := 13) (hi := 15) (by decide) (by decide)) $$ Hy
  icases Hy with ⟨Hy, Hyt⟩
  iapply (yStart_wp EC E b X A W 15 0 _ _) $$ [Hyt Hyf Hys]
  · isplitl [Hyt]; · iexact Hyt
    isplitl [Hyf] <;> iassumption
  iintro Hy0
  iapply (wcWait_wp EC E b X A W 13 1 _ _) $$ [Hc1 Ho]
  · isplitl [Hc1] <;> iassumption
  iintro ⟨Hct, Hc1, Ho⟩
  ihave Hc := (wc_up E b X A W 13 16 (by decide) (by decide)) $$ [Hc Hct]
  · isplitl [Hc] <;> iassumption
  iapply (yWait_wp EC E b X A W 13 1 _ _) $$ [Hy1 Ho]
  · isplitl [Hy1] <;> iassumption
  iintro ⟨Hyt, Hy1, Ho⟩
  ihave Hy := (y_up E b X A W 13 16 (by decide) (by decide)) $$ [Hy Hyt]
  · isplitl [Hy] <;> iassumption
  iapply (wcWait_wp EC E b X A W 14 2 _ _) $$ [Hc2 Ho]
  · isplitl [Hc2] <;> iassumption
  iintro ⟨Hct, Hc2, Ho⟩
  ihave Hc := (wc_up E b X A W 14 16 (by decide) (by decide)) $$ [Hc Hct]
  · isplitl [Hc] <;> iassumption
  iapply (yWait_wp EC E b X A W 14 2 _ _) $$ [Hy2 Ho]
  · isplitl [Hy2] <;> iassumption
  iintro ⟨Hyt, Hy2, Ho⟩
  ihave Hy := (y_up E b X A W 14 16 (by decide) (by decide)) $$ [Hy Hyt]
  · isplitl [Hy] <;> iassumption
  iapply (wcWait_wp EC E b X A W 15 0 _ _) $$ [Hc0 Ho]
  · isplitl [Hc0] <;> iassumption
  iintro ⟨Hct, Hc0, Ho⟩
  ihave Hc := (wc_up E b X A W 15 16 (by decide) (by decide)) $$ [Hc Hct]
  · isplitl [Hc] <;> iassumption
  iapply (yWait_wp EC E b X A W 15 0 _ _) $$ [Hy0 Ho]
  · isplitl [Hy0] <;> iassumption
  iintro ⟨Hyt, Hy0, Ho⟩
  ihave Hy := (y_up E b X A W 15 16 (by decide) (by decide)) $$ [Hy Hyt]
  · isplitl [Hy] <;> iassumption
  ihave Hy := rest_full $$ Hy
  ihave Hc := rest_full $$ Hc
  ihave Hw := (of_eq (congrArg (fun K => own b.w E.d fullShare K W) (gap_full (le_refl 16)))) $$ Hw
  iapply Hk
  unfold tailPost
  isplitl [Hw Hw0 Hw1 Hw2 Hw3]
  · isplitl [Hw]; · iexact Hw
    isplitl [Hw0]; · iexact Hw0
    isplitl [Hw1]; · iexact Hw1
    isplitl [Hw2] <;> iassumption
  isplitl [Hc Hc0 Hc1 Hc2]
  · isplitl [Hc]; · iexact Hc
    isplitl [Hc0]; · iexact Hc0
    isplitl [Hc1] <;> iassumption
  isplitl [Hy Hy0 Hy1 Hy2]
  · isplitl [Hy]; · iexact Hy
    isplitl [Hy0]; · iexact Hy0
    isplitl [Hy1] <;> iassumption
  isplitl [Hsc Hwsc Hws]
  · isplitl [Hsc]; · iexact Hsc
    isplitl [Hwsc]
    · unfold wscDone
      iapply (part_own fun x _ => by have := a1_lt x; omega) $$ Hwsc
    · iexact Hws
  isplitl [Hsr Hxr Hxc]
  · isplitl [Hsr]; · iexact Hsr
    isplitl [Hxr] <;> iassumption
  iexact Ho

/-! ### The start -/

/-- What holds after the start: the input is in, four tiles of the weights are on their way. -/
def startPost : sProp 𝕄 :=
  iprop((own b.x E.d fullShare Finset.univ X ∗ own b.xb E.d fullShare Finset.univ X ∗ sem0 E b.xsem.sem)
    ∗ (own b.w E.d fullShare (gap 3072 0 4) W ∗ wAt EC E b W 0 ∗ wAt EC E b W 1 ∗ wAt EC E b W 2 ∗ wAt EC E b W 3) ∗ ow E)

theorem start_wp (K : PR) :
    iprop((own b.x E.d fullShare Finset.univ X ∗ any b.xb E.d Finset.univ ∗ sem0 E b.xsem.sem)
      ∗ (own b.w E.d fullShare Finset.univ W ∗ wFree E b 0 (by decide) ∗ wFree E b 1 (by decide) ∗ wFree E b 2 (by decide) ∗ wFree E b 3 (by decide)) ∗ ow E)
      ⊢ iprop((startPost EC E b X W -∗ E.wp K) -∗ E.wp (start b K)) := by
  have hD : iprop(own b.xb E.d fullShare Finset.univ X ∗ own b.x E.d fullShare Finset.univ X) ⊢
    (iprop(own b.xb E.d fullShare Finset.univ X ∗ own b.x E.d fullShare Finset.univ X) : sProp 𝕄) := BI.Laws.entails_refl _
  iintro ⟨⟨Hx, Hxb, Hxs⟩, ⟨Hw, Hw0, Hw1, Hw2, Hw3⟩, Ho⟩ Hk
  unfold start
  iapply (cp_wp EC E (by decide) hD) $$ [Hx Hxb Hxs]
  · isplitl [Hx]; · iexact Hx
    isplitl [Hxb] <;> iassumption
  iintro Hx
  ihave Hw := (of_eq (congrArg (fun K => own b.w E.d fullShare K W) gap_none.symm)) $$ Hw
  ihave Hw := (own_gap_down (lo := 0) (hi := 0) (by decide) (by decide)) $$ Hw
  icases Hw with ⟨Hw, Ht⟩
  iapply (wStart_wp EC E b W 0 0 _ _) $$ [Ht Hw0]
  · isplitl [Ht] <;> iassumption
  iintro Hw0
  ihave Hw := (own_gap_down (lo := 0) (hi := 1) (by decide) (by decide)) $$ Hw
  icases Hw with ⟨Hw, Ht⟩
  iapply (wStart_wp EC E b W 1 1 _ _) $$ [Ht Hw1]
  · isplitl [Ht] <;> iassumption
  iintro Hw1
  ihave Hw := (own_gap_down (lo := 0) (hi := 2) (by decide) (by decide)) $$ Hw
  icases Hw with ⟨Hw, Ht⟩
  iapply (wStart_wp EC E b W 2 2 _ _) $$ [Ht Hw2]
  · isplitl [Ht] <;> iassumption
  iintro Hw2
  ihave Hw := (own_gap_down (lo := 0) (hi := 3) (by decide) (by decide)) $$ Hw
  icases Hw with ⟨Hw, Ht⟩
  iapply (wStart_wp EC E b W 3 3 _ _) $$ [Ht Hw3]
  · isplitl [Ht] <;> iassumption
  iintro Hw3
  iapply (wt_wp EC E) $$ [Hx Ho]
  · isplitl [Hx] <;> iassumption
  iintro ⟨⟨Hxb, Hx⟩, Hxs, Ho⟩
  iapply Hk
  unfold startPost
  isplitl [Hx Hxb Hxs]
  · isplitl [Hx]; · iexact Hx
    isplitl [Hxb] <;> iassumption
  isplitl [Hw Hw0 Hw1 Hw2 Hw3]
  · isplitl [Hw]; · iexact Hw
    isplitl [Hw0]
    · iapply (of_eq (wAt_fl EC E b W 0 0 _ _ (by decide)).symm) $$ Hw0
    isplitl [Hw1]
    · iapply (of_eq (wAt_fl EC E b W 1 1 _ _ (by decide)).symm) $$ Hw1
    isplitl [Hw2]
    · iapply (of_eq (wAt_fl EC E b W 2 2 _ _ (by decide)).symm) $$ Hw2
    · iapply (of_eq (wAt_fl EC E b W 3 3 _ _ (by decide)).symm) $$ Hw3
  iexact Ho

/-! ### The input's codes -/

/-- The input's codes on their way, half of them kept. -/
def xcFl : sProp 𝕄 :=
  fly EC E b.xc b.xcsem.sem iprop(own b.xc E.d fullShare Finset.univ (xcSpec X A) ∗ own b.xcb E.d fullShare.left Finset.univ (xcSpec X A))

theorem xQuant_wp (K : PR) :
    iprop(own b.xb E.d fullShare Finset.univ X ∗ sDone E b X A 24 ∗ any b.xcb E.d Finset.univ ∗ any b.xsrep E.d Finset.univ
        ∗ any b.xsc E.d Finset.univ ∗ any b.xc E.d Finset.univ ∗ sem0 E b.xcsem.sem)
      ⊢ iprop((iprop(own b.xb E.d fullShare Finset.univ X ∗ own b.s E.d fullShare Finset.univ (sSpec X A)
            ∗ own b.srep E.d fullShare Finset.univ (srepSpec X A) ∗ own b.xsrep E.d fullShare Finset.univ (xsrepSpec X A)
            ∗ own b.xsc E.d fullShare Finset.univ (xscSpec X A) ∗ own b.xcb E.d fullShare.right Finset.univ (xcSpec X A) ∗ xcFl EC E b X A)
          -∗ E.wp K) -∗ E.wp (xQuant b K)) := by
  have hD : iprop(own b.xc E.d fullShare Finset.univ (xcSpec X A) ∗ own b.xcb E.d fullShare.left Finset.univ (xcSpec X A)) ⊢
    (iprop(own b.xc E.d fullShare Finset.univ (xcSpec X A) ∗ own b.xcb E.d fullShare.left Finset.univ (xcSpec X A)) : sProp 𝕄) := BI.Laws.entails_refl _
  unfold xQuant sDone
  iintro ⟨Hxb, ⟨Hs, Hsr⟩, Hcb, Hxr, Hsc, Hc, Hcs⟩ Hk
  ihave Hs := (part_own (fun x _ => by have := a1_lt x; omega)) $$ Hs
  ihave Hsr := (part_own (fun x _ => by have := a0_lt x; omega)) $$ Hsr
  iapply (ld2 E) $$ Hs
  iintro Hs
  iapply (xqSteps_wp E b X A 32 0 32 rfl _) $$ [Hxb Hcb Hxr]
  · unfold qDone
    isplitl [Hxb]; · iexact Hxb
    isplitl [Hcb]
    · iapply (any_part (fun x _ => by omega)) $$ Hcb
    · iapply (any_part (fun x _ => by omega)) $$ Hxr
  unfold qDone
  iintro ⟨Hxb, Hcb, Hxr⟩
  ihave Hcb := (part_own (fun x _ => by have := a0_lt x; omega)) $$ Hcb
  ihave Hxr := (part_own (fun x _ => by have := a0_lt x; omega)) $$ Hxr
  ihave Hcb := own_share.1 $$ Hcb
  icases Hcb with ⟨Hcb, Hcb'⟩
  iapply (cp_wp EC E (by decide) hD) $$ [Hcb Hc Hcs]
  · isplitl [Hcb]; · iexact Hcb
    isplitl [Hc] <;> iassumption
  iintro Hf
  iapply (dSteps_wp E b X A 8 0 8 rfl _) $$ [Hxr Hsc]
  · unfold dDone
    isplitl [Hxr]; · iexact Hxr
    iapply (any_part (fun x _ => by omega)) $$ Hsc
  unfold dDone
  iintro ⟨Hxr, Hsc⟩
  ihave Hsc := (part_own (fun x _ => by have := a0_lt x; have := a1_lt x; omega)) $$ Hsc
  iapply Hk
  isplitl [Hxb]; · iexact Hxb
  isplitl [Hs]; · iexact Hs
  isplitl [Hsr]; · iexact Hsr
  isplitl [Hxr]; · iexact Hxr
  isplitl [Hsc]; · iexact Hsc
  isplitl [Hcb']; · iexact Hcb'
  unfold xcFl
  iexact Hf

/-! ### The body -/

/-- What the body starts from. -/
def bodyPre : sProp 𝕄 :=
  iprop((own b.x E.d fullShare Finset.univ X ∗ own b.wabs E.d fullShare Finset.univ A ∗ own b.w E.d fullShare Finset.univ W)
    ∗ (any b.y E.d Finset.univ ∗ any b.s E.d Finset.univ ∗ any b.wc E.d Finset.univ ∗ any b.wsc E.d Finset.univ ∗ any b.xc E.d Finset.univ
      ∗ any b.xsc E.d Finset.univ)
    ∗ (any b.xb E.d Finset.univ ∗ any b.xcb E.d Finset.univ ∗ any b.wb E.d Finset.univ ∗ any b.wsb E.d Finset.univ ∗ any b.wcb E.d Finset.univ
      ∗ any b.yb E.d Finset.univ ∗ any b.srep E.d Finset.univ ∗ any b.xsrep E.d Finset.univ ∗ any b.wscb E.d Finset.univ)
    ∗ (sem0 E b.xsem.sem ∗ sem0 E b.xcsem.sem
      ∗ sem0 E (semAt b.wsem 0 (by decide)) ∗ sem0 E (semAt b.wsem 1 (by decide)) ∗ sem0 E (semAt b.wsem 2 (by decide)) ∗ sem0 E (semAt b.wsem 3 (by decide))
      ∗ sem0 E (semAt b.wcsem 0 (by decide)) ∗ sem0 E (semAt b.wcsem 1 (by decide)) ∗ sem0 E (semAt b.wcsem 2 (by decide))
      ∗ sem0 E (semAt b.ysem 0 (by decide)) ∗ sem0 E (semAt b.ysem 1 (by decide)) ∗ sem0 E (semAt b.ysem 2 (by decide)))
    ∗ ow E)

/-- What the body ends with. -/
def bodyPost : sProp 𝕄 :=
  iprop((own b.x E.d fullShare Finset.univ X ∗ own b.wabs E.d fullShare Finset.univ A ∗ own b.w E.d fullShare Finset.univ W)
    ∗ (own b.y E.d fullShare Finset.univ (ySpec X A W) ∗ own b.s E.d fullShare Finset.univ (sSpec X A)
      ∗ own b.wc E.d fullShare Finset.univ (wcSpec X A W) ∗ own b.wsc E.d fullShare Finset.univ (wscSpec X A W)
      ∗ own b.xc E.d fullShare Finset.univ (xcSpec X A) ∗ own b.xsc E.d fullShare Finset.univ (xscSpec X A))
    ∗ (any b.xb E.d Finset.univ ∗ any b.xcb E.d Finset.univ ∗ any b.wb E.d Finset.univ ∗ any b.wsb E.d Finset.univ ∗ any b.wcb E.d Finset.univ
      ∗ any b.yb E.d Finset.univ ∗ any b.srep E.d Finset.univ ∗ any b.xsrep E.d Finset.univ ∗ any b.wscb E.d Finset.univ)
    ∗ (sem0 E b.xsem.sem ∗ sem0 E b.xcsem.sem
      ∗ sem0 E (semAt b.wsem 0 (by decide)) ∗ sem0 E (semAt b.wsem 1 (by decide)) ∗ sem0 E (semAt b.wsem 2 (by decide)) ∗ sem0 E (semAt b.wsem 3 (by decide))
      ∗ sem0 E (semAt b.wcsem 0 (by decide)) ∗ sem0 E (semAt b.wcsem 1 (by decide)) ∗ sem0 E (semAt b.wcsem 2 (by decide))
      ∗ sem0 E (semAt b.ysem 0 (by decide)) ∗ sem0 E (semAt b.ysem 1 (by decide)) ∗ sem0 E (semAt b.ysem 2 (by decide)))
    ∗ ow E)

include EC in
/-- The body computes its results from its arguments, whatever its buffers held. -/
theorem body_wp : bodyPre E b X A W ⊢ iprop((bodyPost E b X A W -∗ E.Q ⟨⟩) -∗ E.wp (body b)) := by
  unfold bodyPre
  iintro ⟨⟨Hx, Ha, Hw⟩, ⟨Hy, Hs, Hc, Hwsc, Hxc, Hxsc⟩, ⟨Hxb, Hxcb, Hwb, Hwsb, Hwcb, Hyb, Hsr, Hxr, Hscb⟩, ⟨Hxs, Hxcs, Hws0, Hws1, Hws2, Hws3, Hcs0, Hcs1, Hcs2, Hys0, Hys1, Hys2⟩, Ho⟩ Hk
  ihave Hwb := any_slots4.1 $$ Hwb
  icases Hwb with ⟨Hw0, Hw1, Hw2, Hw3⟩
  ihave Hwcb := any_slots3.1 $$ Hwcb
  icases Hwcb with ⟨Hc0, Hc1, Hc2⟩
  ihave Hyb := any_slots3.1 $$ Hyb
  icases Hyb with ⟨Hy0, Hy1, Hy2⟩
  unfold body G366
  iapply (start_wp EC E b X W) $$ [Hx Hxb Hxs Hw Hw0 Hw1 Hw2 Hw3 Hws0 Hws1 Hws2 Hws3 Ho]
  · unfold wFree
    isplitl [Hx Hxb Hxs]
    · isplitl [Hx]; · iexact Hx
      isplitl [Hxb] <;> iassumption
    isplitl [Hw Hw0 Hw1 Hw2 Hw3 Hws0 Hws1 Hws2 Hws3]
    · isplitl [Hw]; · iexact Hw
      isplitl [Hw0 Hws0]
      · isplitl [Hw0] <;> iassumption
      isplitl [Hw1 Hws1]
      · isplitl [Hw1] <;> iassumption
      isplitl [Hw2 Hws2]
      · isplitl [Hw2] <;> iassumption
      isplitl [Hw3] <;> iassumption
    iexact Ho
  unfold startPost
  iintro ⟨⟨Hx, Hxb, Hxs⟩, ⟨Hw, Hw0, Hw1, Hw2, Hw3⟩, Ho⟩
  iapply (xCols_wp E b X A 10 0 10 rfl _) $$ [Hxb Ha Hs Hsr]
  · unfold sDone
    isplitl [Hxb]; · iexact Hxb
    isplitl [Ha]; · iexact Ha
    isplitl [Hs]
    · iapply (any_part (fun x _ => by omega)) $$ Hs
    · iapply (any_part (fun x _ => by omega)) $$ Hsr
  iintro ⟨Hxb, Ha, Hs⟩
  iapply (xFirst_wp E b X 10 _) $$ Hxb
  iintro Hxb
  iapply (xRows_wp E b X 10 _ 10 0 10 rfl _) $$ Hxb
  iintro Hxb
  unfold G367
  iapply (xRows_wp E b X 10 _ 53 10 63 rfl _) $$ Hxb
  iintro Hxb
  iapply (xEnd_wp E b X A 10 _) $$ [Ha Hs]
  · isplitl [Ha] <;> iassumption
  iintro ⟨Ha, Hs⟩
  iapply (xCols_wp E b X A 9 11 20 rfl _) $$ [Hxb Ha Hs]
  · isplitl [Hxb]; · iexact Hxb
    isplitl [Ha] <;> iassumption
  iintro ⟨Hxb, Ha, Hs⟩
  iapply (xFirst_wp E b X 20 _) $$ Hxb
  iintro Hxb
  iapply (xRows_wp E b X 20 _ 32 0 32 rfl _) $$ Hxb
  iintro Hxb
  unfold G368
  iapply (xRows_wp E b X 20 _ 31 32 63 rfl _) $$ Hxb
  iintro Hxb
  iapply (xEnd_wp E b X A 20 _) $$ [Ha Hs]
  · isplitl [Ha] <;> iassumption
  iintro ⟨Ha, Hs⟩
  iapply (xCols_wp E b X A 3 21 24 rfl _) $$ [Hxb Ha Hs]
  · isplitl [Hxb]; · iexact Hxb
    isplitl [Ha] <;> iassumption
  iintro ⟨Hxb, Ha, Hs⟩
  iapply (xQuant_wp EC E b X A) $$ [Hxb Hs Hxcb Hxr Hxsc Hxc Hxcs]
  · isplitl [Hxb]; · iexact Hxb
    isplitl [Hs]; · iexact Hs
    isplitl [Hxcb]; · iexact Hxcb
    isplitl [Hxr]; · iexact Hxr
    isplitl [Hxsc]; · iexact Hxsc
    isplitl [Hxc] <;> iassumption
  iintro ⟨Hxb, Hs, Hsr, Hxr, Hxsc, Hxcb, Hf⟩
  ihave Hw0 := (of_eq (wAt_fl EC E b W 0 0 (by decide) (by decide) (by decide))) $$ Hw0
  iapply (wWait_wp EC E b W 0 0 _ _) $$ [Hw0 Ho]
  · isplitl [Hw0] <;> iassumption
  iintro ⟨Hb, Ht, Hws0, Ho⟩
  ihave Hw := (w_up E b W 0 4 (by decide) (by decide)) $$ [Hw Ht]
  · isplitl [Hw] <;> iassumption
  iapply (sFirst_wp E b X A W 0 0 _) $$ [Hb Hsr Hwsb]
  · unfold sRes wsDone
    isplitl [Hb]; · iexact Hb
    isplitl [Hsr]; · iexact Hsr
    iapply (any_part (fun x _ => by omega)) $$ Hwsb
  iintro Hb
  iapply (sRows_wp E b X A W 0 0 _ 96 0 96 rfl _) $$ Hb
  iintro Hb
  unfold sRes
  icases Hb with ⟨Hb, Hsr, Hwsb⟩
  iapply (sLoad_wp E b W 0 0 _ 97 _) $$ Hb
  iintro Hb
  unfold G369
  iapply (sKeep_wp E b X A W 0 97 _) $$ [Hsr Hwsb]
  · isplitl [Hsr] <;> iassumption
  iintro ⟨Hsr, Hwsb⟩
  iapply (sRows_wp E b X A W 0 0 _ 94 97 191 rfl _) $$ [Hb Hsr Hwsb]
  · unfold sRes
    isplitl [Hb]; · iexact Hb
    isplitl [Hsr] <;> iassumption
  iintro Hb
  unfold sRes wsDone
  icases Hb with ⟨Hb, Hsr, Hwsb⟩
  ihave Hwsb := (part_own (fun x _ => by have := a0_lt x; omega)) $$ Hwsb
  iapply (qScale_wp E b X A W 0 0 _ _) $$ [Hwsc Hscb]
  · unfold wscDone
    isplitl [Hwsc]
    · iapply (any_part (fun x _ => by omega)) $$ Hwsc
    · iexact Hscb
  iintro ⟨Hwsc, Hscb⟩
  iapply (qRows_wp E b X A W 0 0 _ 65 0 65 rfl _) $$ [Hwsb Hc0]
  · isplitl [Hwsb]; · iexact Hwsb
    unfold wcbDone
    iapply (any_part (fun x _ => by omega)) $$ Hc0
  iintro ⟨Hwsb, Hc0⟩
  iapply (qLoad_wp E b X A W 0 65 _) $$ Hwsb
  iintro Hwsb
  unfold G370
  iapply (qKeep_wp E b X A W 0 0 _ 65 _) $$ Hc0
  iintro Hc0
  iapply (qRows_wp E b X A W 0 0 _ 30 66 96 rfl _) $$ [Hwsb Hc0]
  · isplitl [Hwsb] <;> iassumption
  unfold wcbDone
  iintro ⟨Hwsb, Hc0⟩
  ihave Hc0 := (part_own (fun x _ => by have := c1_lt x; omega)) $$ Hc0
  ihave Hc := rest_none $$ Hc
  ihave Hc := (rest_down (lo := 0) (hi := 0) (by decide) (by decide)) $$ Hc
  icases Hc with ⟨Hc, Hct⟩
  iapply (wcStart_wp EC E b X A W 0 0 _ _) $$ [Hct Hc0 Hcs0]
  · isplitl [Hct]; · iexact Hct
    isplitl [Hc0] <;> iassumption
  iintro Hc0
  ihave Hw := (own_gap_down (lo := 1) (hi := 4) (by decide) (by decide)) $$ Hw
  icases Hw with ⟨Hw, Ht⟩
  iapply (wStart_wp EC E b W 4 0 _ _) $$ [Ht Hb Hws0]
  · unfold wFree
    isplitl [Ht]; · iexact Ht
    isplitl [Hb]
    · iapply own_any $$ Hb
    · iexact Hws0
  iintro Hw0
  ihave Hy := rest_none $$ Hy
  iapply (trips_wp EC E b X A W 15 1 16 rfl _ _) $$ [Hw Hw0 Hw1 Hw2 Hw3 Hc Hc0 Hc1 Hc2 Hcs1 Hcs2 Hy Hy0 Hy1 Hy2 Hys0 Hys1 Hys2 Hscb Hwsc Hwsb Hsr Hxr Hxcb Ho]
  · unfold tripInv
    isplitl [Hw Hw0 Hw1 Hw2 Hw3]
    · isplitl [Hw]; · iexact Hw
      isplitl [Hw1]; · iexact Hw1
      isplitl [Hw2]; · iexact Hw2
      isplitl [Hw3]; · iexact Hw3
      iapply (of_eq (wAt_fl EC E b W 4 0 _ _ (by decide)).symm) $$ Hw0
    isplitl [Hc Hc0 Hc1 Hc2 Hcs1 Hcs2]
    · isplitl [Hc]; · iexact Hc
      isplitl [Hc1 Hcs1]
      · iapply (of_eq (wcAt_free EC E b X A W 1 1 (by decide) (by decide) rfl).symm)
        unfold wcFree
        isplitl [Hc1] <;> iassumption
      isplitl [Hc2 Hcs2]
      · iapply (of_eq (wcAt_free EC E b X A W 2 2 (by decide) (by decide) rfl).symm)
        unfold wcFree
        isplitl [Hc2] <;> iassumption
      iapply (of_eq (wcAt_fl EC E b X A W 0 0 _ _ (by decide)).symm) $$ Hc0
    isplitl [Hy Hy0 Hy1 Hy2 Hys0 Hys1 Hys2]
    · isplitl [Hy]; · iexact Hy
      isplitl [Hy0 Hys0]
      · iapply (of_eq (yAt_free EC E b X A W 0 0 (by decide) (by decide) rfl).symm)
        unfold yFree
        isplitl [Hy0] <;> iassumption
      isplitl [Hy1 Hys1]
      · iapply (of_eq (yAt_free EC E b X A W 1 1 (by decide) (by decide) rfl).symm)
        unfold yFree
        isplitl [Hy1] <;> iassumption
      iapply (of_eq (yAt_free EC E b X A W 2 2 (by decide) (by decide) rfl).symm)
      unfold yFree
      isplitl [Hy2] <;> iassumption
    isplitl [Hscb Hwsc Hwsb]
    · isplitl [Hscb]; · iexact Hscb
      isplitl [Hwsc]; · iexact Hwsc
      iapply own_any $$ Hwsb
    isplitl [Hsr Hxr Hxcb]
    · isplitl [Hsr]; · iexact Hsr
      isplitl [Hxr] <;> iassumption
    iexact Ho
  iintro H
  iapply (tail_wp EC E b X A W) $$ H
  unfold tailPost wFree wcFree yFree
  iintro ⟨⟨Hw, ⟨Hw0, Hws0⟩, ⟨Hw1, Hws1⟩, ⟨Hw2, Hws2⟩, ⟨Hw3, Hws3⟩⟩, ⟨Hc, ⟨Hc0, Hcs0⟩, ⟨Hc1, Hcs1⟩, ⟨Hc2, Hcs2⟩⟩, ⟨Hy, ⟨Hy0, Hys0⟩, ⟨Hy1, Hys1⟩, ⟨Hy2, Hys2⟩⟩, ⟨Hscb, Hwsc, Hwsb⟩, ⟨Hsr, Hxr, Hxcb⟩, Ho⟩
  unfold xcFl
  iapply (wt_wp EC E) $$ [Hf Ho]
  · isplitl [Hf] <;> iassumption
  iintro ⟨⟨Hxc, Hxcb'⟩, Hxcs, Ho⟩
  ihave Hw0 := (any_slots4 (m := b.wb) (d := E.d)).2 $$ [Hw0 Hw1 Hw2 Hw3]
  · isplitl [Hw0]; · iexact Hw0
    isplitl [Hw1]; · iexact Hw1
    isplitl [Hw2] <;> iassumption
  ihave Hc0 := (any_slots3 (m := b.wcb) (d := E.d)).2 $$ [Hc0 Hc1 Hc2]
  · isplitl [Hc0]; · iexact Hc0
    isplitl [Hc1] <;> iassumption
  ihave Hy0 := (any_slots3 (m := b.yb) (d := E.d)).2 $$ [Hy0 Hy1 Hy2]
  · isplitl [Hy0]; · iexact Hy0
    isplitl [Hy1] <;> iassumption
  ihave Hxcb := own_share.2 $$ [Hxcb Hxcb']
  · isplitl [Hxcb'] <;> iassumption
  unfold Ctx.wp
  rw [wp_ret]
  imodintro
  iapply Hk
  unfold bodyPost
  isplitl [Hx Ha Hw]
  · isplitl [Hx]; · iexact Hx
    isplitl [Ha] <;> iassumption
  isplitl [Hy Hs Hc Hwsc Hxc Hxsc]
  · isplitl [Hy]; · iexact Hy
    isplitl [Hs]; · iexact Hs
    isplitl [Hc]; · iexact Hc
    isplitl [Hwsc]; · iexact Hwsc
    isplitl [Hxc] <;> iassumption
  isplitl [Hxb Hxcb Hw0 Hwsb Hc0 Hy0 Hsr Hxr Hscb]
  · isplitl [Hxb]; · iapply own_any $$ Hxb
    isplitl [Hxcb]; · iapply own_any $$ Hxcb
    isplitl [Hw0]; · iexact Hw0
    isplitl [Hwsb]; · iexact Hwsb
    isplitl [Hc0]; · iexact Hc0
    isplitl [Hy0]; · iexact Hy0
    isplitl [Hsr]; · iapply own_any $$ Hsr
    isplitl [Hxr]; · iapply own_any $$ Hxr
    iexact Hscb
  isplitl [Hxs Hxcs Hws0 Hws1 Hws2 Hws3 Hcs0 Hcs1 Hcs2 Hys0 Hys1 Hys2]
  · isplitl [Hxs]; · iexact Hxs
    isplitl [Hxcs]; · iexact Hxcs
    isplitl [Hws0]; · iexact Hws0
    isplitl [Hws1]; · iexact Hws1
    isplitl [Hws2]; · iexact Hws2
    isplitl [Hws3]; · iexact Hws3
    isplitl [Hcs0]; · iexact Hcs0
    isplitl [Hcs1]; · iexact Hcs1
    isplitl [Hcs2]; · iexact Hcs2
    isplitl [Hys0]; · iexact Hys0
    isplitl [Hys1] <;> iassumption
  iexact Ho

end Cert.Fp8
-- ==== Proof.Launch.lean ====
module
public import proofs.«01_k».proof.Proof.Steps
public import Idealize.ShloMosaic.Lib.Memref
@[expose] public section
noncomputable section

/-! What a launch hands the body and takes back, in the body's own words. -/

namespace Cert.Fp8
open Idealize.ShloMosaic Idealize.ShloMosaic.TcCoe
open Idealize.SL Idealize.SL.RA Idealize.SL.Sem Idealize.SL.ProofMode
open Idealize.SL.BI (sProp Storable)
open scoped Idealize.SL.BI
open Idealize.SL.BI.BIBase Idealize.SL.BI.Laws

variable {nD : Nat} {τ : Topo} {sig : RefSig} {F : FTy → Type} [FloatOps F] {U : Type} [URA U]
local notation "𝕄" => MT nD τ sig Unit (Elt F) ℕ U ℕ
variable {sp : Space} {s : Shape} {e : EltTy}

/-- A memref owned whole, as the pipeline states it, is one owned at every index. -/
theorem owns_own {m : Memref sig .tc sp s e} {d : Dev nD} {q : PosShare TreeShare} {g : s.Idx → Elt F e} :
    (owns (tcT (τ := τ) d) m q g : sProp 𝕄) ⊢ own m d q Finset.univ g := by
  unfold owns own
  rw [show m.view.setOn Finset.univ = m.view.set from rfl]
  iintro ⟨%f, %hf, H⟩
  iexists f
  isplitr
  · ipureintro; intro x _; exact congrFun hf x
  · iexact H

/-- And the other way. -/
theorem own_owns {m : Memref sig .tc sp s e} {d : Dev nD} {q : PosShare TreeShare} {g : s.Idx → Elt F e} :
    (own m d q Finset.univ g : sProp 𝕄) ⊢ owns (tcT (τ := τ) d) m q g := by
  unfold owns own
  rw [show m.view.setOn Finset.univ = m.view.set from rfl]
  iintro ⟨%f, %hf, H⟩
  iexists f
  isplitr
  · ipureintro; exact funext fun x => hf x (Finset.mem_univ x)
  · iexact H

/-- A whole buffer at contents `f` is its memref owned at every index, reading as `f`. -/
theorem buf_own (r : Ref sig .tc) {d : Dev nD} {q : PosShare TreeShare} (f : Buf (Elt F) ((tcT (τ := τ) d).loc r)) :
    (((tcT (τ := τ) d).loc r ↦{q} f : sProp 𝕄)) ⊢ own (Memref.whole r) d q Finset.univ f := by
  refine Entails.trans ?_ owns_own
  unfold owns
  iintro H
  iexists f
  isplitr
  · ipureintro; rfl
  · rw [show (Memref.whole r).view.set = Finset.univ from View.set_whole _]; iexact H

/-- And the other way. -/
theorem own_buf (r : Ref sig .tc) {d : Dev nD} {q : PosShare TreeShare} (f : Buf (Elt F) ((tcT (τ := τ) d).loc r)) :
    (own (Memref.whole r) d q Finset.univ f : sProp 𝕄) ⊢ ((tcT (τ := τ) d).loc r ↦{q} f) := by
  refine own_owns.trans ?_
  unfold owns
  iintro ⟨%g, %hg, H⟩
  rw [show (Memref.whole r).view.set = Finset.univ from View.set_whole _, show g = f from hg]
  iexact H

end Cert.Fp8
-- ==== Proof.EqIdeal.lean ====
module
public import proofs.«01_k».proof.Proof.Body
public import proofs.«01_k».proof.KernelIdeal
public import Idealize.ShloMosaic.Lib.Tactic
public import Mathlib.Tactic.IntervalCases
@[expose] public section

/-! The printed body of the kernel is the generic one at its signature. -/

namespace Cert.KernelIdeal
open Idealize.ShloMosaic Idealize.SL.Sem
open Cert.Fp8
variable {F : FTy → Type} [FloatOps F] [Facts]
variable (b : Bufs sig)
local notation "PR" => Code nD τ sig Λ₀ F

/-- The first stretch of the printed body is the generic one. -/
theorem e366 (K : _ → PR) : (k0_part366 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem) >>= K = G366 b K := by sl_kernel_rfl
/-- The second. -/
theorem e367 (m) (K : _ → PR) : (k0_part367 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem m) >>= K = G367 b m K := by sl_kernel_rfl

/-- The part that ends the smoothing factors and runs the loop over the input's rows. -/
theorem e254 (m) (K : _ → PR) : (k0_part254 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem m) >>= K = xEnd b 23 (by decide) m
    (ld b.s (rc2 1 3072 0 0 (by decide) (by decide)) (numel2 _ _ (by decide) (by decide)) fun s =>
      xqSteps b (invS s) 32 0 (by decide) <|
      cp b.xcb b.xc b.xcsem.sem b.hxcb.wordExact b.hxc.wordExact ⟨Or.inl rfl, trivial⟩ <| dStep b 0 (by decide) (K diagV)) := by
  unfold k0_part254
  simp only [Scf.for_eq]
  sl_kernel_rfl

/-- The third stretch. -/
theorem e368 (m) (K : _ → PR) : (k0_part368 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem m) >>= K = G368 b m fun i l => K ⟨i, l⟩ := by
  unfold k0_part368
  simp only [bind_assoc, e254]
  sl_kernel_rfl

/-- The fourth. -/
theorem e369 (m w) (K : _ → PR) : (k0_part369 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem m w) >>= K = G369 b m w fun i l h => K ⟨i, l, h⟩ := by sl_kernel_rfl
/-- The part that runs the loop over the tiles. -/
theorem e364 (K : _ → PR) : (k0_part364 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem) >>= K = wStart b 2048 0 (by decide) (by decide) (trips b 15 1 (by decide) (by decide)
    (yWait b 6144 0 (by decide) (by decide) <| ld b.wscb (rc2 1 512 0 0 (by decide) (by decide)) (numel2 _ _ (by decide) (by decide)) fun sc =>
      mHalf b 0 (by decide) 0 (by decide) sc <|
      ld b.xcb (rc2 512 3072 512 0 (by decide) (by decide)) (numel2 _ _ (by decide) (by decide)) fun xc =>
      ld b.wcb (rc3 1 3072 512 0 0 0 (by decide) (by decide) (by decide)) (numel3 _ _ _ (by decide) (by decide) (by decide)) fun wc =>
      K ⟨sc, xc, shapeCast (T2 3072 512) wc (by decide)⟩)) := by
  unfold k0_part364
  simp only [bind_assoc]
  refine (Prog.bind_lift _ _).trans <| congrArg (Prog.op _) (funext fun _ => ?_)
  beta_reduce
  refine (for_trips (nD := nD) (τ := τ) (F := F) b k0_t2_loop _ _ (by decide) ?_ _).trans ?_
  · intro k K
    have h15 : k0_t2_loop.trips = 15 := by decide
    obtain ⟨k, hk⟩ := k
    rw [h15] at hk
    interval_cases k
    all_goals sl_kernel_rfl
  · sl_kernel_rfl

/-- The fifth stretch. -/
theorem e370 (i l h) (K : PUnit → PR) : (k0_part370 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem i l h) >>= K = G370 b i l h (K ⟨⟩) := by
  unfold k0_part370
  simp only [bind_assoc, e364]
  sl_kernel_rfl

/-- The printed body is the generic one. -/
theorem body_eq : (cc0_smoothquant_fp8_linear (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem : PR) = body b := by
  unfold cc0_smoothquant_fp8_linear
  rw [e366]
  simp only [e367, e368, e369, e370]
  rfl

end Cert.KernelIdeal
-- ==== Proof.LaunchIdeal.lean ====
module
public import proofs.«01_k».proof.Proof.Whole
public import proofs.«01_k».proof.Proof.Launch
public import proofs.«01_k».proof.Proof.EqIdeal
public import proofs.«01_k».proof.Proof.Gen.KernelIdeal.Frame
public import Idealize.ShloMosaic.Lib.Pipeline.FrameValue
public import Idealize.ShloMosaic.Lib.Pipeline.ValueKit
@[expose] public section
noncomputable section

/-! The launch of the kernel: its body's triple carried to every run of the program, with what each result holds. -/

namespace Cert.KernelIdeal.Run
open Idealize.ShloMosaic Idealize.ShloMosaic.TcCoe
open Idealize.SL Idealize.SL.RA Idealize.SL.Sem Idealize.SL.ProofMode Idealize.SL.BI
open scoped Idealize.SL.BI
open Idealize.SL.BI.BIBase Idealize.SL.BI.Laws
open Idealize.ShloMosaic.Pipeline (Dat Cfg Window BodyObligation UD ΦDRG)
open Cert.Fp8 Cert.KernelIdeal.Gen

variable {F : FTy → Type} [FloatOps F]
local notation "𝕄" => MT nD τ sig Unit (Elt F) ℕ (UD sig nD τ) ℕ
variable (m : (ℓ : Loc nD τ sig) → Buf (Elt F) ℓ) (ρ : Dev nD → PrngReg)

/-- The buffers the body is called with. -/
def bufs (t : Fin cfg0.N) : Bufs sig where
  x := Memref.whole main_v0
  hx := Memref.isWhole_whole _
  wabs := win0_0.stage (cfg0.slots t 0)
  hwabs := K0.Facts₀.hstage0_0 0
  w := Memref.whole main_arg1
  hw := Memref.isWhole_whole _
  y := Memref.whole main_v2_0
  hy := Memref.isWhole_whole _
  s := win0_1.stage (cfg0.slots t 1)
  hs := K0.Facts₀.hstage0_1 0
  wc := Memref.whole main_v2_2
  hwc := Memref.isWhole_whole _
  wsc := win0_2.stage (cfg0.slots t 2)
  hwsc := K0.Facts₀.hstage0_2 0
  xc := Memref.whole main_v2_4
  hxc := Memref.isWhole_whole _
  xsc := win0_3.stage (cfg0.slots t 3)
  hxsc := K0.Facts₀.hstage0_3 0
  xb := Memref.whole cc0_scratch0
  hxb := Memref.isWhole_whole _
  xcb := Memref.whole cc0_scratch1
  hxcb := Memref.isWhole_whole _
  wb := Memref.whole cc0_scratch2
  hwb := Memref.isWhole_whole _
  wsb := Memref.whole cc0_scratch3
  hwsb := Memref.isWhole_whole _
  wcb := Memref.whole cc0_scratch4
  hwcb := Memref.isWhole_whole _
  yb := Memref.whole cc0_scratch5
  hyb := Memref.isWhole_whole _
  srep := Memref.whole cc0_scratch6
  hsrep := Memref.isWhole_whole _
  xsrep := Memref.whole cc0_scratch7
  hxsrep := Memref.isWhole_whole _
  wscb := Memref.whole cc0_scratch8
  hwscb := Memref.isWhole_whole _
  xsem := cc0_scratch9
  xcsem := cc0_scratch10
  wsem := cc0_scratch11
  wcsem := cc0_scratch12
  ysem := cc0_scratch13

/-- What the pipeline runs at a point is the generic body. -/
theorem bodyAt_eq (t : Fin cfg0.N) : (bodyAt0 t : Code nD τ sig Λ₀ F) = body (bufs t) := body_eq (bufs t)

/-- The kernel's own semaphores. -/
def osem : Fin 12 → SemLoc sig :=
  ![.dma cc0_scratch9.sem, .dma cc0_scratch10.sem,
    .dma (semAt cc0_scratch11 0 (by decide)), .dma (semAt cc0_scratch11 1 (by decide)), .dma (semAt cc0_scratch11 2 (by decide)), .dma (semAt cc0_scratch11 3 (by decide)),
    .dma (semAt cc0_scratch12 0 (by decide)), .dma (semAt cc0_scratch12 1 (by decide)), .dma (semAt cc0_scratch12 2 (by decide)),
    .dma (semAt cc0_scratch13 0 (by decide)), .dma (semAt cc0_scratch13 1 (by decide)), .dma (semAt cc0_scratch13 2 (by decide))]

/-- They are scoped, distinct, and none of the pipeline's. -/
theorem osem_facts : Pipeline.OwnSemFacts spec0 osem := by decide +kernel

/-- The activations, the weights' column maxima and the weights as the kernel finds them. -/
abbrev X (c : Dev nD) : FVec F (T2 1024 3072) .bf16 := V m c main_v0
@[inherit_doc X] abbrev A (c : Dev nD) : FVec F (T2 1 3072) .f32 := V m c main_v1
@[inherit_doc X] abbrev W (c : Dev nD) : FVec F (T2 3072 8192) .bf16 := V m c main_arg1

/-- The buffers the body reads where they lie, -/
def H : Finset (Ref sig .tc) := {main_v0, main_arg1}
/-- and those it writes there. -/
def R : Finset (Ref sig .tc) := {main_v2_0, main_v2_2, main_v2_4}

/-- The buffers' contents after the run: the product and the codes written. -/
def G (c : Dev nD) : (b : Ref sig .tc) → Buf (Elt F) ((c : Thread nD τ).loc b) :=
  Function.update (Function.update (Function.update (V m c) main_v2_0 (ySpec (X m c) (A m c) (W m c)))
    main_v2_2 (wcSpec (X m c) (A m c) (W m c))) main_v2_4 (xcSpec (X m c) (A m c))

theorem G_y (c : Dev nD) : G m c main_v2_0 = ySpec (X m c) (A m c) (W m c) := by
  unfold G
  rw [Function.update_of_ne (by decide), Function.update_of_ne (by decide), Function.update_self]
theorem G_wc (c : Dev nD) : G m c main_v2_2 = wcSpec (X m c) (A m c) (W m c) := by
  unfold G
  rw [Function.update_of_ne (by decide), Function.update_self]
theorem G_xc (c : Dev nD) : G m c main_v2_4 = xcSpec (X m c) (A m c) := by
  unfold G
  rw [Function.update_self]

/-- What the pipeline knows of the run at each point. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => sSpec (X m c) (A m c)
    | ⟨2, _⟩ => wscSpec (X m c) (A m c) (W m c)
    | ⟨3, _⟩ => xscSpec (X m c) (A m c)
  Φ t := if t = 0 then ΦDRG osem spec0 H R (V m) (V m) c else ΦDRG osem spec0 H R (V m) (G m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = sSpec (X m c) (A m c) := by dsimp only [dats]
theorem after0_2 (c : Dev nD) (t : Fin cfg0.N) : (dats m 0 c).after 2 t = wscSpec (X m c) (A m c) (W m c) := by dsimp only [dats]
theorem after0_3 (c : Dev nD) (t : Fin cfg0.N) : (dats m 0 c).after 3 t = xscSpec (X m c) (A m c) := by dsimp only [dats]

/-- The one input window holds its block. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- The block of the weights' column maxima is all of them. -/
theorem iblk_eq (c : Dev nD) (t : Fin cfg0.N) : (iblk m c 0 t : FVec F (T2 1 3072) .f32) = A m c := by
  rw [fin_N0 t]
  refine funext fun y => ?_
  show V m c main_v1 _ = V m c main_v1 _
  congr 1
  exact funext fun a => Fin.ext (by fin_cases a <;> simp [t0_0] <;> rfl)

/-! ### The body at a point -/

section
variable (c : Dev nD)

/-- The own semaphores at zero, one by one. -/
theorem sems_eq : (Pipeline.ownSems0 (Ix := Unit) (Name := ℕ) (U := UD sig nD τ) (Lvl := ℕ) (Val := Elt F) (τ := τ) osem c : sProp 𝕄)
    = iprop(semVal ((c : Thread nD τ), (SemLoc.dma cc0_scratch9.sem : SemLoc sig)) 0
      ∗ semVal ((c : Thread nD τ), (SemLoc.dma cc0_scratch10.sem : SemLoc sig)) 0
      ∗ semVal ((c : Thread nD τ), (SemLoc.dma (semAt cc0_scratch11 0 (by decide)) : SemLoc sig)) 0
      ∗ semVal ((c : Thread nD τ), (SemLoc.dma (semAt cc0_scratch11 1 (by decide)) : SemLoc sig)) 0
      ∗ semVal ((c : Thread nD τ), (SemLoc.dma (semAt cc0_scratch11 2 (by decide)) : SemLoc sig)) 0
      ∗ semVal ((c : Thread nD τ), (SemLoc.dma (semAt cc0_scratch11 3 (by decide)) : SemLoc sig)) 0
      ∗ semVal ((c : Thread nD τ), (SemLoc.dma (semAt cc0_scratch12 0 (by decide)) : SemLoc sig)) 0
      ∗ semVal ((c : Thread nD τ), (SemLoc.dma (semAt cc0_scratch12 1 (by decide)) : SemLoc sig)) 0
      ∗ semVal ((c : Thread nD τ), (SemLoc.dma (semAt cc0_scratch12 2 (by decide)) : SemLoc sig)) 0
      ∗ semVal ((c : Thread nD τ), (SemLoc.dma (semAt cc0_scratch13 0 (by decide)) : SemLoc sig)) 0
      ∗ semVal ((c : Thread nD τ), (SemLoc.dma (semAt cc0_scratch13 1 (by decide)) : SemLoc sig)) 0
      ∗ semVal ((c : Thread nD τ), (SemLoc.dma (semAt cc0_scratch13 2 (by decide)) : SemLoc sig)) 0) := by
  rw [Pipeline.ownSems0_eq_of_list c osem [0, 1, 2, 3, 4, 5, 6, 7, 8, 9, 10, 11] (by decide) (by decide)]; rfl

/-- The buffers read, one by one. -/
theorem H_eq (f : (b : Ref sig .tc) → Buf (Elt F) ((c : Thread nD τ).loc b)) :
    (bigSep H fun b => (((c : Thread nD τ).loc b) ↦{fullShare} f b : sProp 𝕄))
      = iprop((((c : Thread nD τ).loc main_v0) ↦{fullShare} f main_v0) ∗ (((c : Thread nD τ).loc main_arg1) ↦{fullShare} f main_arg1)) := by
  unfold H
  rw [bigSep_insert (by decide), bigSep_singleton]; rfl

/-- The buffers written, one by one. -/
theorem R_eq (f : (b : Ref sig .tc) → Buf (Elt F) ((c : Thread nD τ).loc b)) :
    (Pipeline.routed R c f : sProp 𝕄)
      = iprop((((c : Thread nD τ).loc main_v2_0) ↦{fullShare} f main_v2_0) ∗ (((c : Thread nD τ).loc main_v2_2) ↦{fullShare} f main_v2_2)
        ∗ (((c : Thread nD τ).loc main_v2_4) ↦{fullShare} f main_v2_4)) := by
  unfold Pipeline.routed R
  rw [bigSep_insert (by decide), bigSep_insert (by decide), bigSep_singleton]; rfl

/-- A whole buffer at some contents is its memref owned at some contents. -/
theorem buf_any (r : Ref sig .tc) : (iprop(∃ f : Buf (Elt F) ((c : Thread nD τ).loc r), ((c : Thread nD τ).loc r) ↦{fullShare} f) : sProp 𝕄)
    ⊢ any (Memref.whole r) c Finset.univ := by
  iintro ⟨%f, H⟩
  iapply own_any
  iapply (buf_own r f) $$ H

/-- And the other way. -/
theorem any_buf (r : Ref sig .tc) : (any (Memref.whole r) c Finset.univ : sProp 𝕄)
    ⊢ iprop(∃ f : Buf (Elt F) ((c : Thread nD τ).loc r), ((c : Thread nD τ).loc r) ↦{fullShare} f) := by
  unfold any
  iintro ⟨%g, H⟩
  iexists g
  iapply (own_buf r g) $$ H

/-- What the body runs at. -/
abbrev ctx (Q : PUnit.{1} → sProp 𝕄) : Ctx nD τ sig Λ₀ F (UD sig nD τ) := ⟨defs₀, Variants.none, c, Q⟩

variable (t : Fin cfg0.N)

/-- What the launch hands the body is what the body starts from, apart from the generator register. -/
theorem pre_of (Q) (d1 d2 d3) :
    iprop(ΦDRG osem spec0 H R (V m) (V m) c ∗ (dats m 0 c).owesAt () t.castSucc
      ∗ owns (c : Thread nD τ) (st0_0 t) fullShare (iblk m c 0 t) ∗ owns (c : Thread nD τ) (st0_1 t) fullShare d1
      ∗ owns (c : Thread nD τ) (st0_2 t) fullShare d2 ∗ owns (c : Thread nD τ) (st0_3 t) fullShare d3)
    ⊢ iprop(bodyPre (ctx c Q) (bufs t) (X m c) (A m c) (W m c) ∗ (∃ r, prngReg c r)) := by
  rw [Pipeline.ΦDRG_eq, scopedRest0_eq, sems_eq, H_eq, R_eq]
  unfold bodyPre
  dsimp only [sem0, ow, bufs, ctx]
  iintro ⟨⟨⟨S0, S1, S2, S3, S4, S5, S6, S7, S8⟩, Hr, ⟨M0, M1, M2, M3, M4, M5, M6, M7, M8, M9, M10, M11⟩, ⟨Hx, Hw⟩, Hy, Hwc, Hxc⟩, Ho, Ha, Hs, Hwsc, Hxsc⟩
  isplitr [Hr]
  · isplitl [Hx Ha Hw]
    · isplitl [Hx]
      · iapply (buf_own main_v0 (V m c main_v0)) $$ Hx
      isplitl [Ha]
      · rw [← iblk_eq m c t]
        iapply owns_own $$ Ha
      · iapply (buf_own main_arg1 (V m c main_arg1)) $$ Hw
    isplitl [Hy Hwc Hxc Hs Hwsc Hxsc]
    · isplitl [Hy]
      · iapply own_any
        iapply (buf_own main_v2_0 (V m c main_v2_0)) $$ Hy
      isplitl [Hs]
      · iapply own_any
        iapply owns_own $$ Hs
      isplitl [Hwc]
      · iapply own_any
        iapply (buf_own main_v2_2 (V m c main_v2_2)) $$ Hwc
      isplitl [Hwsc]
      · iapply own_any
        iapply owns_own $$ Hwsc
      isplitl [Hxc]
      · iapply own_any
        iapply (buf_own main_v2_4 (V m c main_v2_4)) $$ Hxc
      · iapply own_any
        iapply owns_own $$ Hxsc
    isplitl [S0 S1 S2 S3 S4 S5 S6 S7 S8]
    · isplitl [S0]; · iapply (buf_any c cc0_scratch0) $$ S0
      isplitl [S1]; · iapply (buf_any c cc0_scratch1) $$ S1
      isplitl [S2]; · iapply (buf_any c cc0_scratch2) $$ S2
      isplitl [S3]; · iapply (buf_any c cc0_scratch3) $$ S3
      isplitl [S4]; · iapply (buf_any c cc0_scratch4) $$ S4
      isplitl [S5]; · iapply (buf_any c cc0_scratch5) $$ S5
      isplitl [S6]; · iapply (buf_any c cc0_scratch6) $$ S6
      isplitl [S7]; · iapply (buf_any c cc0_scratch7) $$ S7
      iapply (buf_any c cc0_scratch8) $$ S8
    isplitr [Ho]
    · isplitl [M0]; · iexact M0
      isplitl [M1]; · iexact M1
      isplitl [M2]; · iexact M2
      isplitl [M3]; · iexact M3
      isplitl [M4]; · iexact M4
      isplitl [M5]; · iexact M5
      isplitl [M6]; · iexact M6
      isplitl [M7]; · iexact M7
      isplitl [M8]; · iexact M8
      isplitl [M9]; · iexact M9
      isplitl [M10]; · iexact M10
      iexact M11
    · icases Ho with ⟨%B, -, Ho⟩
      iexists B
      iexact Ho
  · iexact Hr

/-- What the body ends with is what the launch takes back. -/
theorem of_post (Q) :
    iprop(bodyPost (ctx c Q) (bufs t) (X m c) (A m c) (W m c) ∗ (∃ r, prngReg c r))
    ⊢ iprop(ΦDRG osem spec0 H R (V m) (G m) c ∗ (dats m 0 c).owesAt () t.succ
      ∗ owns (c : Thread nD τ) (st0_0 t) fullShare (iblk m c 0 t) ∗ owns (c : Thread nD τ) (st0_1 t) fullShare (sSpec (X m c) (A m c))
      ∗ owns (c : Thread nD τ) (st0_2 t) fullShare (wscSpec (X m c) (A m c) (W m c)) ∗ owns (c : Thread nD τ) (st0_3 t) fullShare (xscSpec (X m c) (A m c))) := by
  rw [Pipeline.ΦDRG_eq, scopedRest0_eq, sems_eq, H_eq, R_eq, G_y, G_wc, G_xc]
  unfold bodyPost
  dsimp only [sem0, ow, bufs, ctx]
  iintro ⟨⟨⟨Hx, Ha, Hw⟩, ⟨Hy, Hs, Hwc, Hwsc, Hxc, Hxsc⟩, ⟨S0, S1, S2, S3, S4, S5, S6, S7, S8⟩, ⟨M0, M1, M2, M3, M4, M5, M6, M7, M8, M9, M10, M11⟩, Ho⟩, Hr⟩
  isplitl [S0 S1 S2 S3 S4 S5 S6 S7 S8 Hr M0 M1 M2 M3 M4 M5 M6 M7 M8 M9 M10 M11 Hx Hw Hy Hwc Hxc]
  · isplitl [S0 S1 S2 S3 S4 S5 S6 S7 S8]
    · isplitl [S0]; · iapply (any_buf c cc0_scratch0) $$ S0
      isplitl [S1]; · iapply (any_buf c cc0_scratch1) $$ S1
      isplitl [S2]; · iapply (any_buf c cc0_scratch2) $$ S2
      isplitl [S3]; · iapply (any_buf c cc0_scratch3) $$ S3
      isplitl [S4]; · iapply (any_buf c cc0_scratch4) $$ S4
      isplitl [S5]; · iapply (any_buf c cc0_scratch5) $$ S5
      isplitl [S6]; · iapply (any_buf c cc0_scratch6) $$ S6
      isplitl [S7]; · iapply (any_buf c cc0_scratch7) $$ S7
      iapply (any_buf c cc0_scratch8) $$ S8
    isplitl [Hr]; · iexact Hr
    isplitl [M0 M1 M2 M3 M4 M5 M6 M7 M8 M9 M10 M11]
    · isplitl [M0]; · iexact M0
      isplitl [M1]; · iexact M1
      isplitl [M2]; · iexact M2
      isplitl [M3]; · iexact M3
      isplitl [M4]; · iexact M4
      isplitl [M5]; · iexact M5
      isplitl [M6]; · iexact M6
      isplitl [M7]; · iexact M7
      isplitl [M8]; · iexact M8
      isplitl [M9]; · iexact M9
      isplitl [M10]; · iexact M10
      iexact M11
    isplitl [Hx Hw]
    · isplitl [Hx]
      · iapply (own_buf main_v0 (V m c main_v0)) $$ Hx
      · iapply (own_buf main_arg1 (V m c main_arg1)) $$ Hw
    isplitl [Hy]; · iapply (own_buf main_v2_0 (ySpec (X m c) (A m c) (W m c))) $$ Hy
    isplitl [Hwc]; · iapply (own_buf main_v2_2 (wcSpec (X m c) (A m c) (W m c))) $$ Hwc
    iapply (own_buf main_v2_4 (xcSpec (X m c) (A m c))) $$ Hxc
  isplitl [Ho]
  · icases Ho with ⟨%B, Ho⟩
    iexists B
    isplitr
    · ipureintro; exact fun _ _ => Or.inl trivial
    · iexact Ho
  isplitl [Ha]
  · rw [iblk_eq m c t]
    iapply own_owns $$ Ha
  isplitl [Hs]; · iapply own_owns $$ Hs
  isplitl [Hwsc]; · iapply own_owns $$ Hwsc
  iapply own_owns $$ Hxsc

/-- What the pipeline hands the body at a point, -/
def preAt : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it takes back. -/
def postAt : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem Φ_cast : (dats m 0 c).Φ t.castSucc = ΦDRG osem spec0 H R (V m) (V m) c := by
  rw [fin_N0 t]; dsimp only [dats]; exact if_pos rfl
theorem Φ_succ : (dats m 0 c).Φ t.succ = ΦDRG osem spec0 H R (V m) (G m) c := by
  dsimp only [dats]; exact if_neg (Fin.succ_ne_zero t)

/-- The body's triple as the library states one. -/
theorem wp_def (Q : PUnit.{1} → sProp 𝕄) (p : Code nD τ sig Λ₀ F) :
    wp frame (wpE (defs₀ (F := F)) Variants.none (c : Thread nD τ) none) Set.univ p Q = (ctx c Q).wp p := rfl

/-- The body at its one point. -/
theorem sound_body : preAt m c t ⊢ wp frame (wpE (defs₀ (F := F)) Variants.none c none) Set.univ (bodyAt0 t) (fun _ => postAt m c t) := by
  unfold preAt
  rw [Φ_cast, bodyAt_eq, wp_def]
  simp only [before0_0]
  iintro ⟨HΦ, Ho, ⟨%d0, H0⟩, ⟨%d1, H1⟩, ⟨%d2, H2⟩, ⟨%d3, H3⟩⟩
  ihave Hp := (pre_of m c t (fun _ => postAt m c t) _ _ _) $$ [HΦ Ho H0 H1 H2 H3]
  · isplitl [HΦ]; · iexact HΦ
    isplitl [Ho]; · iexact Ho
    isplitl [H0]; · iexact H0
    isplitl [H1]; · iexact H1
    isplitl [H2]; · iexact H2
    iexact H3
  icases Hp with ⟨Hp, Hr⟩
  iapply (body_wp countersEmb (ctx c fun _ => postAt m c t) (bufs t) (X m c) (A m c) (W m c)) $$ Hp
  iintro Hq
  unfold postAt
  rw [Φ_succ, after0_0, after0_1, after0_2, after0_3]
  iapply (of_post m c t (fun _ => postAt m c t))
  isplitl [Hq]; · iexact Hq
  iexact Hr

end

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The host's operations before the kernel. -/
theorem hmain : Pipeline.HMain (Ix := Unit) (Name := ℕ) (U := UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
set_option maxHeartbeats 800000 in
/-- The launch. -/
theorem run : θ_run defs (onTc (τ := τ) (main (F := F))) (s₀ m ρ)
    (fun r => Pipeline.FramePostRG cfgs (dats m) 0 R (V m) (G m) r ∧ r.2.sem = fun _ => 0) :=
  Pipeline.θ_run_frame_dmaRG (Q' := _) cfgs (dats m) (0 : Fin 1) launch0 osem defs₀ Variants.none osem_facts H R (by decide) (by decide) m ρ main
    (hbody := fun c => (body_obligation m c).loose) (hshare := fun c => (dats m 0 c).share_full fun _ => rfl)
    (howed := fun _ _ => rfl) (V := V m) (hmain := hmain m) (hA := A_eq m) (G := G m)
    (hin := fun c => by rw [show (dats m 0 c).Φ 0 = ΦDRG osem spec0 H R (V m) (V m) c from by dsimp only [dats]; exact if_pos rfl])
    (hout := fun c => by rw [show (dats m 0 c).Φ (Fin.last cfg0.N) = ΦDRG osem spec0 H R (V m) (G m) c from by dsimp only [dats]; exact if_neg (by decide)])

/-! ### What the results hold -/

/-- A window that is its whole array holds at the end what the body left in it. -/
theorem arr1 (c : Dev nD) : (dats m 0 c).arrAt 1 cfg0.N = sSpec (X m c) (A m c) := by
  refine (dats m 0 c).arrAt_eq_of_covers 1 _ (by decide +kernel) fun t hf y => ?_
  rw [after0_1, fin_N0 t]
  refine congrArg (sSpec (X m c) (A m c)) (funext fun a => Fin.ext ?_)
  fin_cases a <;> simp [t0_0] <;> rfl
@[inherit_doc arr1] theorem arr2 (c : Dev nD) : (dats m 0 c).arrAt 2 cfg0.N = wscSpec (X m c) (A m c) (W m c) := by
  refine (dats m 0 c).arrAt_eq_of_covers 2 _ (by decide +kernel) fun t hf y => ?_
  rw [after0_2, fin_N0 t]
  refine congrArg (wscSpec (X m c) (A m c) (W m c)) (funext fun a => Fin.ext ?_)
  fin_cases a <;> simp [t0_0] <;> rfl
@[inherit_doc arr1] theorem arr3 (c : Dev nD) : (dats m 0 c).arrAt 3 cfg0.N = xscSpec (X m c) (A m c) := by
  refine (dats m 0 c).arrAt_eq_of_covers 3 _ (by decide +kernel) fun t hf y => ?_
  rw [after0_3, fin_N0 t]
  refine congrArg (xscSpec (X m c) (A m c)) (funext fun a => Fin.ext ?_)
  fin_cases a <;> simp [t0_0] <;> rfl

/-- Every run ends with the six results at their values, the arguments as they were, and no semaphore raised. -/
theorem values : θ_run defs (onTc (τ := τ) (main (F := F))) ⟨m, fun _ => 0, ρ⟩ (fun r => (∀ c : Dev nD,
      r.2.mem ((c.tc : Thread nD τ).loc main_v2_0) = ySpec (X m c) (A m c) (W m c)
      ∧ r.2.mem ((c.tc : Thread nD τ).loc main_v2_1) = sSpec (X m c) (A m c)
      ∧ r.2.mem ((c.tc : Thread nD τ).loc main_v2_2) = wcSpec (X m c) (A m c) (W m c)
      ∧ r.2.mem ((c.tc : Thread nD τ).loc main_v2_3) = wscSpec (X m c) (A m c) (W m c)
      ∧ r.2.mem ((c.tc : Thread nD τ).loc main_v2_4) = xcSpec (X m c) (A m c)
      ∧ r.2.mem ((c.tc : Thread nD τ).loc main_v2_5) = xscSpec (X m c) (A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨(h.1.written c (by decide)).trans (G_y m c), ((h.1.1 c).1 1).trans (arr1 m c), (h.1.written c (by decide)).trans (G_wc m c),
      ((h.1.1 c).1 2).trans (arr2 m c), (h.1.written c (by decide)).trans (G_xc m c), ((h.1.1 c).1 3).trans (arr3 m c),
      ((h.1.1 c).2 main_arg0 (by decide)).trans (V_main_arg0 m c), ((h.1.1 c).2 main_arg1 (by decide)).trans (V_main_arg1 m c),
      ((h.1.1 c).2 main_arg2 (by decide)).trans (V_main_arg2 m c)⟩, h.2⟩) (run m ρ)

/-- Every run leaves the arguments as they were and no semaphore raised. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2.2.2.2.2.2, h.2⟩) (values m ρ)

end Cert.KernelIdeal.Run
-- ==== Proof.EqKernel.lean ====
module
public import proofs.«01_k».proof.Proof.Body
public import proofs.«01_k».proof.Kernel
public import Idealize.ShloMosaic.Lib.Tactic
public import Mathlib.Tactic.IntervalCases
@[expose] public section

/-! The printed body of the kernel is the generic one at its signature. -/

namespace Cert.Kernel
open Idealize.ShloMosaic Idealize.SL.Sem
open Cert.Fp8
variable {F : FTy → Type} [FloatOps F] [Facts]
variable (b : Bufs sig)
local notation "PR" => Code nD τ sig Λ₀ F

/-- The first stretch of the printed body is the generic one. -/
theorem e366 (K : _ → PR) : (k0_part366 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem) >>= K = G366 b K := by sl_kernel_rfl
/-- The second. -/
theorem e367 (m) (K : _ → PR) : (k0_part367 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem m) >>= K = G367 b m K := by sl_kernel_rfl

/-- The part that ends the smoothing factors and runs the loop over the input's rows. -/
theorem e254 (m) (K : _ → PR) : (k0_part254 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem m) >>= K = xEnd b 23 (by decide) m
    (ld b.s (rc2 1 3072 0 0 (by decide) (by decide)) (numel2 _ _ (by decide) (by decide)) fun s =>
      xqSteps b (invS s) 32 0 (by decide) <|
      cp b.xcb b.xc b.xcsem.sem b.hxcb.wordExact b.hxc.wordExact ⟨Or.inl rfl, trivial⟩ <| dStep b 0 (by decide) (K diagV)) := by
  unfold k0_part254
  simp only [Scf.for_eq]
  sl_kernel_rfl

/-- The third stretch. -/
theorem e368 (m) (K : _ → PR) : (k0_part368 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem m) >>= K = G368 b m fun i l => K ⟨i, l⟩ := by
  unfold k0_part368
  simp only [bind_assoc, e254]
  sl_kernel_rfl

/-- The fourth. -/
theorem e369 (m w) (K : _ → PR) : (k0_part369 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem m w) >>= K = G369 b m w fun i l h => K ⟨i, l, h⟩ := by sl_kernel_rfl
/-- The part that runs the loop over the tiles. -/
theorem e364 (K : _ → PR) : (k0_part364 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem) >>= K = wStart b 2048 0 (by decide) (by decide) (trips b 15 1 (by decide) (by decide)
    (yWait b 6144 0 (by decide) (by decide) <| ld b.wscb (rc2 1 512 0 0 (by decide) (by decide)) (numel2 _ _ (by decide) (by decide)) fun sc =>
      mHalf b 0 (by decide) 0 (by decide) sc <|
      ld b.xcb (rc2 512 3072 512 0 (by decide) (by decide)) (numel2 _ _ (by decide) (by decide)) fun xc =>
      ld b.wcb (rc3 1 3072 512 0 0 0 (by decide) (by decide) (by decide)) (numel3 _ _ _ (by decide) (by decide) (by decide)) fun wc =>
      K ⟨sc, xc, shapeCast (T2 3072 512) wc (by decide)⟩)) := by
  unfold k0_part364
  simp only [bind_assoc]
  refine (Prog.bind_lift _ _).trans <| congrArg (Prog.op _) (funext fun _ => ?_)
  beta_reduce
  refine (for_trips (nD := nD) (τ := τ) (F := F) b k0_t2_loop _ _ (by decide) ?_ _).trans ?_
  · intro k K
    have h15 : k0_t2_loop.trips = 15 := by decide
    obtain ⟨k, hk⟩ := k
    rw [h15] at hk
    interval_cases k
    all_goals sl_kernel_rfl
  · sl_kernel_rfl

/-- The fifth stretch. -/
theorem e370 (i l h) (K : PUnit → PR) : (k0_part370 (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem i l h) >>= K = G370 b i l h (K ⟨⟩) := by
  unfold k0_part370
  simp only [bind_assoc, e364]
  sl_kernel_rfl

/-- The printed body is the generic one. -/
theorem body_eq : (cc0_smoothquant_fp8_linear (F := F) b.x b.hx b.wabs b.hwabs b.w b.hw b.y b.hy b.s b.hs b.wc b.hwc b.wsc b.hwsc b.xc b.hxc b.xsc b.hxsc b.xb b.hxb b.xcb b.hxcb b.wb b.hwb b.wsb b.hwsb b.wcb b.hwcb b.yb b.hyb b.srep b.hsrep b.xsrep b.hxsrep b.wscb b.hwscb b.xsem b.xcsem b.wsem b.wcsem b.ysem : PR) = body b := by
  unfold cc0_smoothquant_fp8_linear
  rw [e366]
  simp only [e367, e368, e369, e370]
  rfl

end Cert.Kernel
-- ==== Proof.LaunchKernel.lean ====
module
public import proofs.«01_k».proof.Proof.Whole
public import proofs.«01_k».proof.Proof.Launch
public import proofs.«01_k».proof.Proof.EqKernel
public import proofs.«01_k».proof.Proof.Gen.Kernel.Frame
public import Idealize.ShloMosaic.Lib.Pipeline.FrameValue
public import Idealize.ShloMosaic.Lib.Pipeline.ValueKit
@[expose] public section
noncomputable section

/-! The launch of the kernel: its body's triple carried to every run of the program, with what each result holds. -/

namespace Cert.Kernel.Run
open Idealize.ShloMosaic Idealize.ShloMosaic.TcCoe
open Idealize.SL Idealize.SL.RA Idealize.SL.Sem Idealize.SL.ProofMode Idealize.SL.BI
open scoped Idealize.SL.BI
open Idealize.SL.BI.BIBase Idealize.SL.BI.Laws
open Idealize.ShloMosaic.Pipeline (Dat Cfg Window BodyObligation UD ΦDRG)
open Cert.Fp8 Cert.Kernel.Gen

variable {F : FTy → Type} [FloatOps F]
local notation "𝕄" => MT nD τ sig Unit (Elt F) ℕ (UD sig nD τ) ℕ
variable (m : (ℓ : Loc nD τ sig) → Buf (Elt F) ℓ) (ρ : Dev nD → PrngReg)

/-- The buffers the body is called with. -/
def bufs (t : Fin cfg0.N) : Bufs sig where
  x := Memref.whole main_v0
  hx := Memref.isWhole_whole _
  wabs := win0_0.stage (cfg0.slots t 0)
  hwabs := K0.Facts₀.hstage0_0 0
  w := Memref.whole main_arg1
  hw := Memref.isWhole_whole _
  y := Memref.whole main_v2_0
  hy := Memref.isWhole_whole _
  s := win0_1.stage (cfg0.slots t 1)
  hs := K0.Facts₀.hstage0_1 0
  wc := Memref.whole main_v2_2
  hwc := Memref.isWhole_whole _
  wsc := win0_2.stage (cfg0.slots t 2)
  hwsc := K0.Facts₀.hstage0_2 0
  xc := Memref.whole main_v2_4
  hxc := Memref.isWhole_whole _
  xsc := win0_3.stage (cfg0.slots t 3)
  hxsc := K0.Facts₀.hstage0_3 0
  xb := Memref.whole cc0_scratch0
  hxb := Memref.isWhole_whole _
  xcb := Memref.whole cc0_scratch1
  hxcb := Memref.isWhole_whole _
  wb := Memref.whole cc0_scratch2
  hwb := Memref.isWhole_whole _
  wsb := Memref.whole cc0_scratch3
  hwsb := Memref.isWhole_whole _
  wcb := Memref.whole cc0_scratch4
  hwcb := Memref.isWhole_whole _
  yb := Memref.whole cc0_scratch5
  hyb := Memref.isWhole_whole _
  srep := Memref.whole cc0_scratch6
  hsrep := Memref.isWhole_whole _
  xsrep := Memref.whole cc0_scratch7
  hxsrep := Memref.isWhole_whole _
  wscb := Memref.whole cc0_scratch8
  hwscb := Memref.isWhole_whole _
  xsem := cc0_scratch9
  xcsem := cc0_scratch10
  wsem := cc0_scratch11
  wcsem := cc0_scratch12
  ysem := cc0_scratch13

/-- What the pipeline runs at a point is the generic body. -/
theorem bodyAt_eq (t : Fin cfg0.N) : (bodyAt0 t : Code nD τ sig Λ₀ F) = body (bufs t) := body_eq (bufs t)

/-- The kernel's own semaphores. -/
def osem : Fin 12 → SemLoc sig :=
  ![.dma cc0_scratch9.sem, .dma cc0_scratch10.sem,
    .dma (semAt cc0_scratch11 0 (by decide)), .dma (semAt cc0_scratch11 1 (by decide)), .dma (semAt cc0_scratch11 2 (by decide)), .dma (semAt cc0_scratch11 3 (by decide)),
    .dma (semAt cc0_scratch12 0 (by decide)), .dma (semAt cc0_scratch12 1 (by decide)), .dma (semAt cc0_scratch12 2 (by decide)),
    .dma (semAt cc0_scratch13 0 (by decide)), .dma (semAt cc0_scratch13 1 (by decide)), .dma (semAt cc0_scratch13 2 (by decide))]

/-- They are scoped, distinct, and none of the pipeline's. -/
theorem osem_facts : Pipeline.OwnSemFacts spec0 osem := by decide +kernel

/-- The activations, the weights' column maxima and the weights as the kernel finds them. -/
abbrev X (c : Dev nD) : FVec F (T2 1024 3072) .bf16 := V m c main_v0
@[inherit_doc X] abbrev A (c : Dev nD) : FVec F (T2 1 3072) .f32 := V m c main_v1
@[inherit_doc X] abbrev W (c : Dev nD) : FVec F (T2 3072 8192) .bf16 := V m c main_arg1

/-- The buffers the body reads where they lie, -/
def H : Finset (Ref sig .tc) := {main_v0, main_arg1}
/-- and those it writes there. -/
def R : Finset (Ref sig .tc) := {main_v2_0, main_v2_2, main_v2_4}

/-- The buffers' contents after the run: the product and the codes written. -/
def G (c : Dev nD) : (b : Ref sig .tc) → Buf (Elt F) ((c : Thread nD τ).loc b) :=
  Function.update (Function.update (Function.update (V m c) main_v2_0 (ySpec (X m c) (A m c) (W m c)))
    main_v2_2 (wcSpec (X m c) (A m c) (W m c))) main_v2_4 (xcSpec (X m c) (A m c))

theorem G_y (c : Dev nD) : G m c main_v2_0 = ySpec (X m c) (A m c) (W m c) := by
  unfold G
  rw [Function.update_of_ne (by decide), Function.update_of_ne (by decide), Function.update_self]
theorem G_wc (c : Dev nD) : G m c main_v2_2 = wcSpec (X m c) (A m c) (W m c) := by
  unfold G
  rw [Function.update_of_ne (by decide), Function.update_self]
theorem G_xc (c : Dev nD) : G m c main_v2_4 = xcSpec (X m c) (A m c) := by
  unfold G
  rw [Function.update_self]

/-- What the pipeline knows of the run at each point. -/
def dats (_ : Fin 1) (c : Dev nD) : Dat τ (Elt F) Unit ℕ (UD sig nD τ) ℕ cfg0 c where
  A w := V m c (Pipeline.arrRef spec0 w)
  after w t := match w with
    | ⟨0, _⟩ => iblk m c 0 t
    | ⟨1, _⟩ => sSpec (X m c) (A m c)
    | ⟨2, _⟩ => wscSpec (X m c) (A m c) (W m c)
    | ⟨3, _⟩ => xscSpec (X m c) (A m c)
  Φ t := if t = 0 then ΦDRG osem spec0 H R (V m) (V m) c else ΦDRG osem spec0 H R (V m) (G m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = sSpec (X m c) (A m c) := by dsimp only [dats]
theorem after0_2 (c : Dev nD) (t : Fin cfg0.N) : (dats m 0 c).after 2 t = wscSpec (X m c) (A m c) (W m c) := by dsimp only [dats]
theorem after0_3 (c : Dev nD) (t : Fin cfg0.N) : (dats m 0 c).after 3 t = xscSpec (X m c) (A m c) := by dsimp only [dats]

/-- The one input window holds its block. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

/-- The block of the weights' column maxima is all of them. -/
theorem iblk_eq (c : Dev nD) (t : Fin cfg0.N) : (iblk m c 0 t : FVec F (T2 1 3072) .f32) = A m c := by
  rw [fin_N0 t]
  refine funext fun y => ?_
  show V m c main_v1 _ = V m c main_v1 _
  congr 1
  exact funext fun a => Fin.ext (by fin_cases a <;> simp [t0_0] <;> rfl)

/-! ### The body at a point -/

section
variable (c : Dev nD)

/-- The own semaphores at zero, one by one. -/
theorem sems_eq : (Pipeline.ownSems0 (Ix := Unit) (Name := ℕ) (U := UD sig nD τ) (Lvl := ℕ) (Val := Elt F) (τ := τ) osem c : sProp 𝕄)
    = iprop(semVal ((c : Thread nD τ), (SemLoc.dma cc0_scratch9.sem : SemLoc sig)) 0
      ∗ semVal ((c : Thread nD τ), (SemLoc.dma cc0_scratch10.sem : SemLoc sig)) 0
      ∗ semVal ((c : Thread nD τ), (SemLoc.dma (semAt cc0_scratch11 0 (by decide)) : SemLoc sig)) 0
      ∗ semVal ((c : Thread nD τ), (SemLoc.dma (semAt cc0_scratch11 1 (by decide)) : SemLoc sig)) 0
      ∗ semVal ((c : Thread nD τ), (SemLoc.dma (semAt cc0_scratch11 2 (by decide)) : SemLoc sig)) 0
      ∗ semVal ((c : Thread nD τ), (SemLoc.dma (semAt cc0_scratch11 3 (by decide)) : SemLoc sig)) 0
      ∗ semVal ((c : Thread nD τ), (SemLoc.dma (semAt cc0_scratch12 0 (by decide)) : SemLoc sig)) 0
      ∗ semVal ((c : Thread nD τ), (SemLoc.dma (semAt cc0_scratch12 1 (by decide)) : SemLoc sig)) 0
      ∗ semVal ((c : Thread nD τ), (SemLoc.dma (semAt cc0_scratch12 2 (by decide)) : SemLoc sig)) 0
      ∗ semVal ((c : Thread nD τ), (SemLoc.dma (semAt cc0_scratch13 0 (by decide)) : SemLoc sig)) 0
      ∗ semVal ((c : Thread nD τ), (SemLoc.dma (semAt cc0_scratch13 1 (by decide)) : SemLoc sig)) 0
      ∗ semVal ((c : Thread nD τ), (SemLoc.dma (semAt cc0_scratch13 2 (by decide)) : SemLoc sig)) 0) := by
  rw [Pipeline.ownSems0_eq_of_list c osem [0, 1, 2, 3, 4, 5, 6, 7, 8, 9, 10, 11] (by decide) (by decide)]; rfl

/-- The buffers read, one by one. -/
theorem H_eq (f : (b : Ref sig .tc) → Buf (Elt F) ((c : Thread nD τ).loc b)) :
    (bigSep H fun b => (((c : Thread nD τ).loc b) ↦{fullShare} f b : sProp 𝕄))
      = iprop((((c : Thread nD τ).loc main_v0) ↦{fullShare} f main_v0) ∗ (((c : Thread nD τ).loc main_arg1) ↦{fullShare} f main_arg1)) := by
  unfold H
  rw [bigSep_insert (by decide), bigSep_singleton]; rfl

/-- The buffers written, one by one. -/
theorem R_eq (f : (b : Ref sig .tc) → Buf (Elt F) ((c : Thread nD τ).loc b)) :
    (Pipeline.routed R c f : sProp 𝕄)
      = iprop((((c : Thread nD τ).loc main_v2_0) ↦{fullShare} f main_v2_0) ∗ (((c : Thread nD τ).loc main_v2_2) ↦{fullShare} f main_v2_2)
        ∗ (((c : Thread nD τ).loc main_v2_4) ↦{fullShare} f main_v2_4)) := by
  unfold Pipeline.routed R
  rw [bigSep_insert (by decide), bigSep_insert (by decide), bigSep_singleton]; rfl

/-- A whole buffer at some contents is its memref owned at some contents. -/
theorem buf_any (r : Ref sig .tc) : (iprop(∃ f : Buf (Elt F) ((c : Thread nD τ).loc r), ((c : Thread nD τ).loc r) ↦{fullShare} f) : sProp 𝕄)
    ⊢ any (Memref.whole r) c Finset.univ := by
  iintro ⟨%f, H⟩
  iapply own_any
  iapply (buf_own r f) $$ H

/-- And the other way. -/
theorem any_buf (r : Ref sig .tc) : (any (Memref.whole r) c Finset.univ : sProp 𝕄)
    ⊢ iprop(∃ f : Buf (Elt F) ((c : Thread nD τ).loc r), ((c : Thread nD τ).loc r) ↦{fullShare} f) := by
  unfold any
  iintro ⟨%g, H⟩
  iexists g
  iapply (own_buf r g) $$ H

/-- What the body runs at. -/
abbrev ctx (Q : PUnit.{1} → sProp 𝕄) : Ctx nD τ sig Λ₀ F (UD sig nD τ) := ⟨defs₀, Variants.none, c, Q⟩

variable (t : Fin cfg0.N)

/-- What the launch hands the body is what the body starts from, apart from the generator register. -/
theorem pre_of (Q) (d1 d2 d3) :
    iprop(ΦDRG osem spec0 H R (V m) (V m) c ∗ (dats m 0 c).owesAt () t.castSucc
      ∗ owns (c : Thread nD τ) (st0_0 t) fullShare (iblk m c 0 t) ∗ owns (c : Thread nD τ) (st0_1 t) fullShare d1
      ∗ owns (c : Thread nD τ) (st0_2 t) fullShare d2 ∗ owns (c : Thread nD τ) (st0_3 t) fullShare d3)
    ⊢ iprop(bodyPre (ctx c Q) (bufs t) (X m c) (A m c) (W m c) ∗ (∃ r, prngReg c r)) := by
  rw [Pipeline.ΦDRG_eq, scopedRest0_eq, sems_eq, H_eq, R_eq]
  unfold bodyPre
  dsimp only [sem0, ow, bufs, ctx]
  iintro ⟨⟨⟨S0, S1, S2, S3, S4, S5, S6, S7, S8⟩, Hr, ⟨M0, M1, M2, M3, M4, M5, M6, M7, M8, M9, M10, M11⟩, ⟨Hx, Hw⟩, Hy, Hwc, Hxc⟩, Ho, Ha, Hs, Hwsc, Hxsc⟩
  isplitr [Hr]
  · isplitl [Hx Ha Hw]
    · isplitl [Hx]
      · iapply (buf_own main_v0 (V m c main_v0)) $$ Hx
      isplitl [Ha]
      · rw [← iblk_eq m c t]
        iapply owns_own $$ Ha
      · iapply (buf_own main_arg1 (V m c main_arg1)) $$ Hw
    isplitl [Hy Hwc Hxc Hs Hwsc Hxsc]
    · isplitl [Hy]
      · iapply own_any
        iapply (buf_own main_v2_0 (V m c main_v2_0)) $$ Hy
      isplitl [Hs]
      · iapply own_any
        iapply owns_own $$ Hs
      isplitl [Hwc]
      · iapply own_any
        iapply (buf_own main_v2_2 (V m c main_v2_2)) $$ Hwc
      isplitl [Hwsc]
      · iapply own_any
        iapply owns_own $$ Hwsc
      isplitl [Hxc]
      · iapply own_any
        iapply (buf_own main_v2_4 (V m c main_v2_4)) $$ Hxc
      · iapply own_any
        iapply owns_own $$ Hxsc
    isplitl [S0 S1 S2 S3 S4 S5 S6 S7 S8]
    · isplitl [S0]; · iapply (buf_any c cc0_scratch0) $$ S0
      isplitl [S1]; · iapply (buf_any c cc0_scratch1) $$ S1
      isplitl [S2]; · iapply (buf_any c cc0_scratch2) $$ S2
      isplitl [S3]; · iapply (buf_any c cc0_scratch3) $$ S3
      isplitl [S4]; · iapply (buf_any c cc0_scratch4) $$ S4
      isplitl [S5]; · iapply (buf_any c cc0_scratch5) $$ S5
      isplitl [S6]; · iapply (buf_any c cc0_scratch6) $$ S6
      isplitl [S7]; · iapply (buf_any c cc0_scratch7) $$ S7
      iapply (buf_any c cc0_scratch8) $$ S8
    isplitr [Ho]
    · isplitl [M0]; · iexact M0
      isplitl [M1]; · iexact M1
      isplitl [M2]; · iexact M2
      isplitl [M3]; · iexact M3
      isplitl [M4]; · iexact M4
      isplitl [M5]; · iexact M5
      isplitl [M6]; · iexact M6
      isplitl [M7]; · iexact M7
      isplitl [M8]; · iexact M8
      isplitl [M9]; · iexact M9
      isplitl [M10]; · iexact M10
      iexact M11
    · icases Ho with ⟨%B, -, Ho⟩
      iexists B
      iexact Ho
  · iexact Hr

/-- What the body ends with is what the launch takes back. -/
theorem of_post (Q) :
    iprop(bodyPost (ctx c Q) (bufs t) (X m c) (A m c) (W m c) ∗ (∃ r, prngReg c r))
    ⊢ iprop(ΦDRG osem spec0 H R (V m) (G m) c ∗ (dats m 0 c).owesAt () t.succ
      ∗ owns (c : Thread nD τ) (st0_0 t) fullShare (iblk m c 0 t) ∗ owns (c : Thread nD τ) (st0_1 t) fullShare (sSpec (X m c) (A m c))
      ∗ owns (c : Thread nD τ) (st0_2 t) fullShare (wscSpec (X m c) (A m c) (W m c)) ∗ owns (c : Thread nD τ) (st0_3 t) fullShare (xscSpec (X m c) (A m c))) := by
  rw [Pipeline.ΦDRG_eq, scopedRest0_eq, sems_eq, H_eq, R_eq, G_y, G_wc, G_xc]
  unfold bodyPost
  dsimp only [sem0, ow, bufs, ctx]
  iintro ⟨⟨⟨Hx, Ha, Hw⟩, ⟨Hy, Hs, Hwc, Hwsc, Hxc, Hxsc⟩, ⟨S0, S1, S2, S3, S4, S5, S6, S7, S8⟩, ⟨M0, M1, M2, M3, M4, M5, M6, M7, M8, M9, M10, M11⟩, Ho⟩, Hr⟩
  isplitl [S0 S1 S2 S3 S4 S5 S6 S7 S8 Hr M0 M1 M2 M3 M4 M5 M6 M7 M8 M9 M10 M11 Hx Hw Hy Hwc Hxc]
  · isplitl [S0 S1 S2 S3 S4 S5 S6 S7 S8]
    · isplitl [S0]; · iapply (any_buf c cc0_scratch0) $$ S0
      isplitl [S1]; · iapply (any_buf c cc0_scratch1) $$ S1
      isplitl [S2]; · iapply (any_buf c cc0_scratch2) $$ S2
      isplitl [S3]; · iapply (any_buf c cc0_scratch3) $$ S3
      isplitl [S4]; · iapply (any_buf c cc0_scratch4) $$ S4
      isplitl [S5]; · iapply (any_buf c cc0_scratch5) $$ S5
      isplitl [S6]; · iapply (any_buf c cc0_scratch6) $$ S6
      isplitl [S7]; · iapply (any_buf c cc0_scratch7) $$ S7
      iapply (any_buf c cc0_scratch8) $$ S8
    isplitl [Hr]; · iexact Hr
    isplitl [M0 M1 M2 M3 M4 M5 M6 M7 M8 M9 M10 M11]
    · isplitl [M0]; · iexact M0
      isplitl [M1]; · iexact M1
      isplitl [M2]; · iexact M2
      isplitl [M3]; · iexact M3
      isplitl [M4]; · iexact M4
      isplitl [M5]; · iexact M5
      isplitl [M6]; · iexact M6
      isplitl [M7]; · iexact M7
      isplitl [M8]; · iexact M8
      isplitl [M9]; · iexact M9
      isplitl [M10]; · iexact M10
      iexact M11
    isplitl [Hx Hw]
    · isplitl [Hx]
      · iapply (own_buf main_v0 (V m c main_v0)) $$ Hx
      · iapply (own_buf main_arg1 (V m c main_arg1)) $$ Hw
    isplitl [Hy]; · iapply (own_buf main_v2_0 (ySpec (X m c) (A m c) (W m c))) $$ Hy
    isplitl [Hwc]; · iapply (own_buf main_v2_2 (wcSpec (X m c) (A m c) (W m c))) $$ Hwc
    iapply (own_buf main_v2_4 (xcSpec (X m c) (A m c))) $$ Hxc
  isplitl [Ho]
  · icases Ho with ⟨%B, Ho⟩
    iexists B
    isplitr
    · ipureintro; exact fun _ _ => Or.inl trivial
    · iexact Ho
  isplitl [Ha]
  · rw [iblk_eq m c t]
    iapply own_owns $$ Ha
  isplitl [Hs]; · iapply own_owns $$ Hs
  isplitl [Hwsc]; · iapply own_owns $$ Hwsc
  iapply own_owns $$ Hxsc

/-- What the pipeline hands the body at a point, -/
def preAt : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it takes back. -/
def postAt : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem Φ_cast : (dats m 0 c).Φ t.castSucc = ΦDRG osem spec0 H R (V m) (V m) c := by
  rw [fin_N0 t]; dsimp only [dats]; exact if_pos rfl
theorem Φ_succ : (dats m 0 c).Φ t.succ = ΦDRG osem spec0 H R (V m) (G m) c := by
  dsimp only [dats]; exact if_neg (Fin.succ_ne_zero t)

/-- The body's triple as the library states one. -/
theorem wp_def (Q : PUnit.{1} → sProp 𝕄) (p : Code nD τ sig Λ₀ F) :
    wp frame (wpE (defs₀ (F := F)) Variants.none (c : Thread nD τ) none) Set.univ p Q = (ctx c Q).wp p := rfl

/-- The body at its one point. -/
theorem sound_body : preAt m c t ⊢ wp frame (wpE (defs₀ (F := F)) Variants.none c none) Set.univ (bodyAt0 t) (fun _ => postAt m c t) := by
  unfold preAt
  rw [Φ_cast, bodyAt_eq, wp_def]
  simp only [before0_0]
  iintro ⟨HΦ, Ho, ⟨%d0, H0⟩, ⟨%d1, H1⟩, ⟨%d2, H2⟩, ⟨%d3, H3⟩⟩
  ihave Hp := (pre_of m c t (fun _ => postAt m c t) _ _ _) $$ [HΦ Ho H0 H1 H2 H3]
  · isplitl [HΦ]; · iexact HΦ
    isplitl [Ho]; · iexact Ho
    isplitl [H0]; · iexact H0
    isplitl [H1]; · iexact H1
    isplitl [H2]; · iexact H2
    iexact H3
  icases Hp with ⟨Hp, Hr⟩
  iapply (body_wp countersEmb (ctx c fun _ => postAt m c t) (bufs t) (X m c) (A m c) (W m c)) $$ Hp
  iintro Hq
  unfold postAt
  rw [Φ_succ, after0_0, after0_1, after0_2, after0_3]
  iapply (of_post m c t (fun _ => postAt m c t))
  isplitl [Hq]; · iexact Hq
  iexact Hr

end

theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The host's operations before the kernel. -/
theorem hmain : Pipeline.HMain (Ix := Unit) (Name := ℕ) (U := UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
set_option maxHeartbeats 800000 in
/-- The launch. -/
theorem run : θ_run defs (onTc (τ := τ) (main (F := F))) (s₀ m ρ)
    (fun r => Pipeline.FramePostRG cfgs (dats m) 0 R (V m) (G m) r ∧ r.2.sem = fun _ => 0) :=
  Pipeline.θ_run_frame_dmaRG (Q' := _) cfgs (dats m) (0 : Fin 1) launch0 osem defs₀ Variants.none osem_facts H R (by decide) (by decide) m ρ main
    (hbody := fun c => (body_obligation m c).loose) (hshare := fun c => (dats m 0 c).share_full fun _ => rfl)
    (howed := fun _ _ => rfl) (V := V m) (hmain := hmain m) (hA := A_eq m) (G := G m)
    (hin := fun c => by rw [show (dats m 0 c).Φ 0 = ΦDRG osem spec0 H R (V m) (V m) c from by dsimp only [dats]; exact if_pos rfl])
    (hout := fun c => by rw [show (dats m 0 c).Φ (Fin.last cfg0.N) = ΦDRG osem spec0 H R (V m) (G m) c from by dsimp only [dats]; exact if_neg (by decide)])

/-! ### What the results hold -/

/-- A window that is its whole array holds at the end what the body left in it. -/
theorem arr1 (c : Dev nD) : (dats m 0 c).arrAt 1 cfg0.N = sSpec (X m c) (A m c) := by
  refine (dats m 0 c).arrAt_eq_of_covers 1 _ (by decide +kernel) fun t hf y => ?_
  rw [after0_1, fin_N0 t]
  refine congrArg (sSpec (X m c) (A m c)) (funext fun a => Fin.ext ?_)
  fin_cases a <;> simp [t0_0] <;> rfl
@[inherit_doc arr1] theorem arr2 (c : Dev nD) : (dats m 0 c).arrAt 2 cfg0.N = wscSpec (X m c) (A m c) (W m c) := by
  refine (dats m 0 c).arrAt_eq_of_covers 2 _ (by decide +kernel) fun t hf y => ?_
  rw [after0_2, fin_N0 t]
  refine congrArg (wscSpec (X m c) (A m c) (W m c)) (funext fun a => Fin.ext ?_)
  fin_cases a <;> simp [t0_0] <;> rfl
@[inherit_doc arr1] theorem arr3 (c : Dev nD) : (dats m 0 c).arrAt 3 cfg0.N = xscSpec (X m c) (A m c) := by
  refine (dats m 0 c).arrAt_eq_of_covers 3 _ (by decide +kernel) fun t hf y => ?_
  rw [after0_3, fin_N0 t]
  refine congrArg (xscSpec (X m c) (A m c)) (funext fun a => Fin.ext ?_)
  fin_cases a <;> simp [t0_0] <;> rfl

/-- Every run ends with the six results at their values, the arguments as they were, and no semaphore raised. -/
theorem values : θ_run defs (onTc (τ := τ) (main (F := F))) ⟨m, fun _ => 0, ρ⟩ (fun r => (∀ c : Dev nD,
      r.2.mem ((c.tc : Thread nD τ).loc main_v2_0) = ySpec (X m c) (A m c) (W m c)
      ∧ r.2.mem ((c.tc : Thread nD τ).loc main_v2_1) = sSpec (X m c) (A m c)
      ∧ r.2.mem ((c.tc : Thread nD τ).loc main_v2_2) = wcSpec (X m c) (A m c) (W m c)
      ∧ r.2.mem ((c.tc : Thread nD τ).loc main_v2_3) = wscSpec (X m c) (A m c) (W m c)
      ∧ r.2.mem ((c.tc : Thread nD τ).loc main_v2_4) = xcSpec (X m c) (A m c)
      ∧ r.2.mem ((c.tc : Thread nD τ).loc main_v2_5) = xscSpec (X m c) (A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c =>
    ⟨(h.1.written c (by decide)).trans (G_y m c), ((h.1.1 c).1 1).trans (arr1 m c), (h.1.written c (by decide)).trans (G_wc m c),
      ((h.1.1 c).1 2).trans (arr2 m c), (h.1.written c (by decide)).trans (G_xc m c), ((h.1.1 c).1 3).trans (arr3 m c),
      ((h.1.1 c).2 main_arg0 (by decide)).trans (V_main_arg0 m c), ((h.1.1 c).2 main_arg1 (by decide)).trans (V_main_arg1 m c),
      ((h.1.1 c).2 main_arg2 (by decide)).trans (V_main_arg2 m c)⟩, h.2⟩) (run m ρ)

/-- Every run leaves the arguments as they were and no semaphore raised. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => (h.1 c).2.2.2.2.2.2, h.2⟩) (values m ρ)

end Cert.Kernel.Run
-- ==== Proof.Scalars.lean ====
module

public import proofs.«01_k».proof.Proof.Body
public import Idealize.ShloMosaic.PureOps.Ideal.Laws
public import Idealize.ShloMosaic.Lib.IdealHost
public import Idealize.ShloMosaic.Lib.IndicatorCount
public import Mathlib.Analysis.SpecialFunctions.Pow.Real
public import Mathlib.Data.Nat.Find

@[expose] public section

noncomputable section

/-! The scalar mathematics over the extended reals: powers of two by their bits, the exponent found by binary search, the
smoothing factor, and the largest of a range. -/

namespace Cert.Fp8

open Idealize.ShloMosaic

/-! ### Selection -/

/-- A selection on a decided bit. -/
theorem sel {α : Type} (p : Prop) [Decidable p] (a b : α) : Scalar.select (BitVec.ofBool (decide p)) a b = if p then a else b := by
  by_cases h : p <;> simp [Scalar.select, h]

/-- Comparison from above. -/
theorem cmp_oge (a b : EReal) [Decidable (b ≤ a)] : Ideal.cmp .oge a b = BitVec.ofBool (decide (b ≤ a)) := by
  unfold Ideal.cmp; dsimp only; congr
/-- Comparison for equality. -/
theorem cmp_oeq (a b : EReal) [Decidable (a = b)] : Ideal.cmp .oeq a b = BitVec.ofBool (decide (a = b)) := by
  unfold Ideal.cmp; dsimp only; congr
theorem ori_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq] <;> rfl

/-! ### The word of a power of two -/

/-- The value of the word whose exponent field is `j`. -/
def val (j : ℕ) : EReal := Ideal.ofBits .f32 (BitVec.ofNat 32 (j * 2 ^ 23))

/-- The fields of the word whose exponent field is `j`. -/
theorem fields : ∀ j : Fin 256, ((BitVec.ofNat 32 (j.val * 2 ^ 23)).extractLsb' 31 1 == 1#1) = false
    ∧ ((BitVec.ofNat 32 (j.val * 2 ^ 23)).extractLsb' 23 8).toNat = j.val
    ∧ ((BitVec.ofNat 32 (j.val * 2 ^ 23)).extractLsb' 0 23).toNat = 0 := by decide +kernel

/-- The shift that makes it. -/
theorem shl_eq : ∀ j : Fin 256, IntOp.shli .vector (BitVec.ofNat 32 j.val) 23#32 = BitVec.ofNat 32 (j.val * 2 ^ 23) := by
  decide +kernel

theorem val_zero : val 0 = 0 := by
  unfold val
  exact Ideal.ofBits_zero_f32

theorem val_top : val 255 = ⊤ := by
  obtain ⟨h1, h2, h3⟩ := fields ⟨255, by decide⟩
  unfold val Ideal.ofBits Ideal.ieee
  dsimp only at h1 h2 h3 ⊢
  rw [h2, h3, h1]
  rfl

theorem val_mid {j : ℕ} (h1 : 1 ≤ j) (h2 : j ≤ 254) : val j = (((2 : ℝ) ^ ((j : ℤ) - 127) : ℝ) : EReal) := by
  obtain ⟨g1, g2, g3⟩ := fields ⟨j, by omega⟩
  unfold val Ideal.ofBits Ideal.ieee
  dsimp only at g1 g2 g3 ⊢
  rw [g2, g3, g1, if_neg (by omega), if_neg (by omega)]
  congr 1
  have : (2 : ℝ) ^ ((j : ℤ) - 127) = 2 ^ (23 : ℤ) * 2 ^ ((j : ℤ) - 127 - 23) := by
    rw [← zpow_add₀ two_ne_zero]; congr 1; ring
  rw [this]
  norm_num

theorem val_mono {i j : ℕ} (h1 : 1 ≤ i) (h : i ≤ j) (h2 : j ≤ 255) : val i ≤ val j := by
  rcases Nat.lt_or_ge j 255 with hj | hj
  · rw [val_mid h1 (by omega), val_mid (by omega) (by omega)]
    exact EReal.coe_le_coe_iff.2 (zpow_le_zpow_right₀ (by norm_num) (by omega))
  · obtain rfl : j = 255 := by omega
    rw [val_top]; exact le_top

/-! ### The exponent by binary search -/

open Classical in
/-- The largest exponent field whose power is at most `t`. -/
def kOf (t : EReal) : ℕ := Nat.findGreatest (fun j => val j ≤ t) 255

theorem kOf_le (t : EReal) : kOf t ≤ 255 := Nat.findGreatest_le _

theorem val_le_iff {t : EReal} {j : ℕ} (h1 : 1 ≤ j) (h2 : j ≤ 255) : val j ≤ t ↔ j ≤ kOf t := by
  classical
  constructor
  · exact fun h => Nat.le_findGreatest h2 h
  · intro h
    have hk : val (kOf t) ≤ t := by
      have : Nat.findGreatest (fun j => val j ≤ t) 255 ≠ 0 := by
        have : kOf t ≠ 0 := by omega
        exact this
      exact Nat.findGreatest_of_ne_zero rfl this
    exact (val_mono h1 h (kOf_le t)).trans hk

theorem kOf_top {t : EReal} : kOf t = 255 ↔ t = ⊤ := by
  rw [← top_le_iff, ← val_top, val_le_iff (by decide) le_rfl]
  have := kOf_le t
  omega

section
variable {S : Shape}

/-- One step of the search. -/
theorem expStep_eq (t : FVec Ideal S .f32) (e : IVec S 32) (i : S.Idx) (E B : ℕ) (he : e i = BitVec.ofNat 32 E)
    (hB : 0 < B) (h : E + B < 256) :
    expStep t (BitVec.ofNat 32 B) e i = BitVec.ofNat 32 (if E + B ≤ kOf (t i) then E + B else E) := by
  show Scalar.select (Ideal.cmp .oge (t i) (Ideal.ofBits .f32 (IntOp.shli .vector (e i + BitVec.ofNat 32 B) 23#32)))
    (e i + BitVec.ofNat 32 B) (e i) = _
  rw [he, ← BitVec.ofNat_add, shl_eq ⟨E + B, h⟩]
  classical
  have hv : Ideal.ofBits .f32 (BitVec.ofNat 32 ((E + B) * 2 ^ 23)) ≤ t i ↔ E + B ≤ kOf (t i) :=
    val_le_iff (by omega) (by omega)
  rw [cmp_oge, sel]
  by_cases hc : E + B ≤ kOf (t i)
  · rw [if_pos (hv.2 hc), if_pos hc]
  · rw [if_neg fun h => hc (hv.1 h), if_neg hc]

/-- The search finds the largest exponent field. -/
theorem expBits_eq (t : FVec Ideal S .f32) (i : S.Idx) : expBits t i = BitVec.ofNat 32 (kOf (t i)) := by
  have hk := kOf_le (t i)
  generalize hK : kOf (t i) = K at hk
  have step : ∀ (e : IVec S 32) (B : ℕ), 0 < B → (B = 128 ∨ B = 64 ∨ B = 32 ∨ B = 16 ∨ B = 8 ∨ B = 4 ∨ B = 2 ∨ B = 1) →
      e i = BitVec.ofNat 32 (K / (2 * B) * (2 * B)) →
      expStep t (BitVec.ofNat 32 B) e i = BitVec.ofNat 32 (K / B * B) := by
    intro e B hB hb he
    rw [expStep_eq t e i _ B he hB (by rcases hb with rfl | rfl | rfl | rfl | rfl | rfl | rfl | rfl <;> omega), hK]
    congr 1
    rcases hb with rfl | rfl | rfl | rfl | rfl | rfl | rfl | rfl <;> split <;> omega
  have h0 : ilit S 0#32 i = BitVec.ofNat 32 (K / (2 * 128) * (2 * 128)) := by
    rw [Nat.div_eq_of_lt (by omega)]; rfl
  have := step _ 1 (by decide) (by decide) <| step _ 2 (by decide) (by decide) <| step _ 4 (by decide) (by decide) <|
    step _ 8 (by decide) (by decide) <| step _ 16 (by decide) (by decide) <| step _ 32 (by decide) (by decide) <|
    step _ 64 (by decide) (by decide) <| step _ 128 (by decide) (by decide) h0
  rw [Nat.div_one, Nat.mul_one] at this
  exact this

open Classical in
/-- The exponent of the scale for a largest magnitude `a`. -/
def expE (a : EReal) : BitVec 32 :=
  if a = 0 then 0#32
  else if kOf (a * Ideal.ofBits .f32 0x3B124925#32) = 0 ∨ kOf (a * Ideal.ofBits .f32 0x3B124925#32) = 255 then 0#32
  else BitVec.ofNat 32 (kOf (a * Ideal.ofBits .f32 0x3B124925#32)) - 126#32

/-- The kernel's exponent. -/
theorem expo_eq (a : FVec Ideal S .f32) (i : S.Idx) : expo a i = expE (a i) := by
  show Scalar.select (Ideal.cmp .oeq (a i) (Ideal.ofBits .f32 0x00000000#32)) 0#32
    (Scalar.select (IntOp.ori
        (IntOp.cmpi .eq (expBits (mulf a (lit S 0x3B124925#32)) i) 0#32)
        (IntOp.cmpi .eq (expBits (mulf a (lit S 0x3B124925#32)) i) 255#32)) 0#32
      (expBits (mulf a (lit S 0x3B124925#32)) i - 126#32)) = _
  rw [expBits_eq, Ideal.ofBits_zero_f32]
  show Scalar.select (Ideal.cmp .oeq (a i) 0) 0#32
    (Scalar.select (IntOp.ori
        (IntOp.cmpi .eq (BitVec.ofNat 32 (kOf (a i * Ideal.ofBits .f32 0x3B124925#32))) 0#32)
        (IntOp.cmpi .eq (BitVec.ofNat 32 (kOf (a i * Ideal.ofBits .f32 0x3B124925#32))) 255#32)) 0#32
      (BitVec.ofNat 32 (kOf (a i * Ideal.ofBits .f32 0x3B124925#32)) - 126#32)) = _
  unfold expE
  have hk := kOf_le (a i * Ideal.ofBits .f32 0x3B124925#32)
  generalize kOf (a i * Ideal.ofBits .f32 0x3B124925#32) = K at hk
  have hw : ∀ K : Fin 256, (IntOp.ori (IntOp.cmpi .eq (BitVec.ofNat 32 K.val) 0#32) (IntOp.cmpi .eq (BitVec.ofNat 32 K.val) 255#32))
      = BitVec.ofBool (decide (K.val = 0 ∨ K.val = 255)) := by decide +kernel
  rw [hw ⟨K, by omega⟩]
  unfold Ideal.cmp Scalar.select
  by_cases ha : a i = 0
  · simp [ha]
  · by_cases hK : K = 0 ∨ K = 255
    · simp [ha, hK]
    · simp [ha, hK]

/-- Where it lies. -/
theorem expE_range (a : EReal) : -125 ≤ (expE a).toInt ∧ (expE a).toInt ≤ 128 := by
  unfold expE
  have hk := kOf_le (a * Ideal.ofBits .f32 0x3B124925#32)
  generalize kOf (a * Ideal.ofBits .f32 0x3B124925#32) = K at hk
  have hw : ∀ K : Fin 256, K.val ≠ 0 → -125 ≤ (BitVec.ofNat 32 K.val - 126#32).toInt ∧ (BitVec.ofNat 32 K.val - 126#32).toInt ≤ 129 ∧
      (K.val ≠ 255 → (BitVec.ofNat 32 K.val - 126#32).toInt ≤ 128) := by decide +kernel
  split
  · decide
  · split
    · decide
    · rename_i h
      have := hw ⟨K, by omega⟩ (fun h' => h (.inl h'))
      exact ⟨this.1, this.2.2 (fun h' => h (.inr h'))⟩

open Classical in
/-- Two to the power `n`, with the corners of the format. -/
def ldE (n : BitVec 32) : EReal :=
  if 128 ≤ n.toInt then ⊤ else if n.toInt ≤ -127 then 0 else (((2 : ℝ) ^ n.toInt : ℝ) : EReal)

/-- The kernel's power of two, on the range of the exponents. -/
theorem pow2_eq (n : IVec S 32) (i : S.Idx) (h1 : -128 ≤ (n i).toInt) (h2 : (n i).toInt ≤ 128) : pow2 (F := Ideal) n i = ldE (n i) := by
  show Ideal.ofBits .f32 (Scalar.select (IntOp.cmpi .sle (n i + 127#32) 0#32) 0#32
    (Scalar.select (IntOp.cmpi .sge (n i + 127#32) 255#32) 2139095040#32 (IntOp.shli .vector (n i + 127#32) 23#32))) = _
  generalize n i = m at h1 h2
  obtain ⟨K, hK, hm⟩ : ∃ K : ℕ, K ≤ 256 ∧ m = BitVec.ofNat 32 K - 128#32 := by
    refine ⟨(m.toInt + 128).toNat, by omega, ?_⟩
    apply BitVec.eq_of_toInt_eq
    have : (BitVec.ofNat 32 (m.toInt + 128).toNat).toInt = m.toInt + 128 := by
      rw [BitVec.toInt_ofNat', Int.toNat_of_nonneg (by omega)]
      exact Int.bmod_eq_of_le (by omega) (by omega)
    rw [BitVec.toInt_sub, this]
    have : (128#32).toInt = 128 := by decide
    rw [this, Int.add_sub_cancel]
    exact (Int.bmod_eq_of_le (by omega) (by omega)).symm
  subst hm
  have hw : ∀ K : Fin 257, (BitVec.ofNat 32 K.val - 128#32).toInt = (K.val : ℤ) - 128 ∧
      Scalar.select (IntOp.cmpi .sle (BitVec.ofNat 32 K.val - 128#32 + 127#32) 0#32) 0#32
    (Scalar.select (IntOp.cmpi .sge (BitVec.ofNat 32 K.val - 128#32 + 127#32) 255#32) 2139095040#32
      (IntOp.shli .vector (BitVec.ofNat 32 K.val - 128#32 + 127#32) 23#32)) = BitVec.ofNat 32 ((K.val - 1) * 2 ^ 23) := by
    decide +kernel
  obtain ⟨g1, g2⟩ := hw ⟨K, by omega⟩
  dsimp only at g1 g2
  rw [g2]
  unfold ldE
  rw [g1]
  show val (K - 1) = _
  rcases Nat.lt_or_ge K 2 with hlo | hlo
  · rw [Nat.sub_eq_zero_of_le (by omega), val_zero, if_neg (by omega), if_pos (by omega)]
  · rcases Nat.lt_or_ge K 256 with hhi | hhi
    · rw [if_neg (by omega), if_neg (by omega), val_mid (by omega) (by omega)]
      congr 2
      rw [Nat.cast_sub (by omega)]
      push_cast
      ring
    · obtain rfl : K = 256 := by omega
      rw [if_pos (by omega), val_top]

/-- The kernel's scale. -/
theorem scaleOf_eq (a : FVec Ideal S .f32) (i : S.Idx) : scaleOf a i = ldE (expE (a i)) := by
  have h := expE_range (a i)
  rw [← expo_eq] at h ⊢
  exact pow2_eq _ i (by omega) (by omega)

/-- The negated exponent. -/
theorem neg_range (a : EReal) : (0#32 - expE a).toInt = -(expE a).toInt := by
  have h := expE_range a
  rw [BitVec.toInt_sub]
  show Int.bmod (0 - _) _ = _
  rw [zero_sub]
  exact Int.bmod_eq_of_le (by omega) (by omega)

/-- The kernel's inverse scale. -/
theorem invOf_eq (a : FVec Ideal S .f32) (i : S.Idx) : invOf a i = ldE (0#32 - expE (a i)) := by
  have h := expE_range (a i)
  have g := neg_range (a i)
  have e : subi (ilit S 0#32) (expo a) i = 0#32 - expE (a i) := by rw [← expo_eq]; rfl
  have := pow2_eq (subi (ilit S 0#32) (expo a)) i (by rw [e]; omega) (by rw [e]; omega)
  rw [e] at this
  exact this

end

/-! ### The reference's exponent and power -/

/-- Two to an integer power. -/
theorem pow_two (n : ℤ) : Ideal.pow (Ideal.ofBits .f32 0x40000000#32) ((n : ℝ) : EReal) = (((2 : ℝ) ^ n : ℝ) : EReal) := by
  have h : Ideal.ofBits .f32 0x40000000#32 = ((2 : ℝ) : EReal) := by
    have := val_mid (j := 128) (by decide) (by decide)
    norm_num at this
    exact this
  rw [h, Ideal.pow_coe_coe]
  congr 1
  exact Real.rpow_intCast 2 n

/-- How many of the powers two to `-126 … 127` are at most `t`. -/
theorem count_eq (t : EReal) :
    ((Finset.univ : Finset (Fin 254)).filter fun j => Ideal.cmp .oge t
      (Ideal.pow (Ideal.ofBits .f32 0x40000000#32) (((BitVec.ofNat 32 j.val - 126#32).toInt : ℝ) : EReal)) = 1#1).card
      = min (kOf t) 254 := by
  have hw : ∀ j : Fin 254, (BitVec.ofNat 32 j.val - 126#32).toInt = (j.val : ℤ) - 126 := by decide +kernel
  have : ((Finset.univ : Finset (Fin 254)).filter fun j => Ideal.cmp .oge t
      (Ideal.pow (Ideal.ofBits .f32 0x40000000#32) (((BitVec.ofNat 32 j.val - 126#32).toInt : ℝ) : EReal)) = 1#1)
      = (Finset.univ : Finset (Fin 254)).filter fun j => j.val < min (kOf t) 254 := by
    apply Finset.filter_congr
    intro j _
    rw [pow_two, hw]
    have hv := val_le_iff (t := t) (j := j.val + 1) (by omega) (by omega)
    rw [val_mid (by omega) (by omega)] at hv
    have e : ((j.val + 1 : ℕ) : ℤ) - 127 = (j.val : ℤ) - 126 := by omega
    rw [e] at hv
    have h2 : j.val + 1 ≤ kOf t ↔ j.val < min (kOf t) 254 := by have := j.isLt; omega
    classical
    rw [← h2, ← hv, cmp_oge]
    by_cases hc : (((2 : ℝ) ^ ((j.val : ℤ) - 126) : ℝ) : EReal) ≤ t <;> simp [hc]
  rw [this, Fin.card_filter_val_lt]
  omega

/-- The reference's exponent from that count. -/
theorem expE_ref (a : EReal) (t : EReal) (ht : t = a * Ideal.ofBits .f32 0x3B124925#32) (n : BitVec 32)
    (hn : n = BitVec.ofNat 32 (min (kOf t) 254)) :
    Scalar.select (Ideal.cmp .oeq a (Ideal.ofBits .f32 0x00000000#32)) 0#32
      (Scalar.select (IntOp.ori (IntOp.cmpi .eq n 0#32) (Ideal.cmp .oeq t (Ideal.ofBits .f32 0x7F800000#32))) 0#32
        (n - 126#32)) = expE a := by
  have htop : Ideal.ofBits .f32 0x7F800000#32 = ⊤ := val_top
  rw [Ideal.ofBits_zero_f32, htop, hn]
  unfold expE
  rw [← ht]
  have h255 := kOf_top (t := t)
  have hk := kOf_le t
  generalize kOf t = K at h255 hk
  have hw : ∀ K : Fin 255, IntOp.cmpi .eq (BitVec.ofNat 32 K.val) 0#32 = BitVec.ofBool (decide (K.val = 0)) := by decide +kernel
  rw [hw ⟨min K 254, by omega⟩]
  classical
  dsimp only
  rw [cmp_oeq, cmp_oeq, ori_ofBool, sel, sel]
  by_cases ha : a = 0
  · rw [if_pos ha, if_pos ha]
  · rw [if_neg ha, if_neg ha]
    by_cases hK : K = 0 ∨ K = 255
    · rw [if_pos hK, if_pos]
      rcases hK with h | h
      · left; omega
      · right; exact h255.1 h
    · rw [if_neg hK, if_neg]
      · congr 2; omega
      · rintro (h | h)
        · exact hK (by omega)
        · exact hK (.inr (h255.2 h))

/-- The reference's power. -/
theorem ldE_ref (n : BitVec 32) :
    Scalar.select (IntOp.cmpi .sge n 128#32) (Ideal.ofBits .f32 0x7F800000#32)
      (Scalar.select (IntOp.cmpi .sle n 4294967169#32) (Ideal.ofBits .f32 0x00000000#32)
        (Ideal.pow (Ideal.ofBits .f32 0x40000000#32) ((n.toInt : ℝ) : EReal))) = ldE n := by
  have htop : Ideal.ofBits .f32 0x7F800000#32 = ⊤ := val_top
  rw [Ideal.ofBits_zero_f32, htop, pow_two]
  have h1 : IntOp.cmpi .sge n 128#32 = BitVec.ofBool (decide (128 ≤ n.toInt)) := rfl
  have h2 : IntOp.cmpi .sle n 4294967169#32 = BitVec.ofBool (decide (n.toInt ≤ -127)) := rfl
  rw [h1, h2]
  unfold ldE Scalar.select
  by_cases ha : 128 ≤ n.toInt
  · simp [ha]
  · by_cases hb : n.toInt ≤ -127
    · simp [ha, hb]
    · simp [ha, hb]

/-! ### The smoothing factor -/

/-- The least value kept under the root. -/
def cmin : EReal := Ideal.ofBits .f32 0x3727C5AC#32

theorem cmin_pos : ∃ r : ℝ, 0 < r ∧ cmin = (r : EReal) := by
  unfold cmin Ideal.ofBits Ideal.ieee
  dsimp only
  rw [if_neg (by decide), if_neg (by decide)]
  refine ⟨_, ?_, rfl⟩
  rw [if_neg (by decide)]
  positivity

/-- The smoothing factor of a column, from the two largest magnitudes. -/
def sE (a w : EReal) : EReal :=
  Ideal.div (Ideal.pow (max a cmin) (Ideal.ofBits .f32 0x3F000000#32)) (Ideal.pow (max w cmin) (Ideal.ofBits .f32 0x3F000000#32))

theorem half_eq : Ideal.ofBits .f32 0x3F000000#32 = ((1 / 2 : ℝ) : EReal) := by
  have := val_mid (j := 126) (by decide) (by decide)
  norm_num at this
  rw [show Ideal.ofBits .f32 0x3F000000#32 = val 126 from rfl, val_mid (by decide) (by decide)]
  norm_num

/-- A largest magnitude, clipped from below, is a positive real or `⊤`. -/
theorem max_cmin (a : EReal) : max a cmin = ⊤ ∨ ∃ r : ℝ, 0 < r ∧ max a cmin = (r : EReal) := by
  obtain ⟨c, hc, hc'⟩ := cmin_pos
  have hle : (c : EReal) ≤ max a cmin := hc' ▸ le_max_right _ _
  generalize max a cmin = m at hle
  induction m with
  | bot => exact absurd hle (not_le.2 (EReal.bot_lt_coe c))
  | top => exact .inl rfl
  | coe r => exact .inr ⟨r, lt_of_lt_of_le hc (EReal.coe_le_coe_iff.1 hle), rfl⟩

/-- The factor by powers is the factor by roots, the weights' magnitude not infinite. -/
theorem sE_eq (a w : EReal) (hw : w < ⊤) : Ideal.sqrt (max a cmin) * Ideal.rsqrt (max w cmin) = sE a w := by
  unfold sE
  obtain ⟨c, hc, hc'⟩ := cmin_pos
  have hw' : max w cmin ≠ ⊤ := by
    rw [hc']
    exact (max_lt hw (EReal.coe_lt_top c)).ne
  obtain ⟨v, hv, hv'⟩ := (max_cmin w).resolve_left hw'
  rw [hv', half_eq]
  have hs : Real.sqrt v ≠ 0 := (Real.sqrt_pos.2 hv).ne'
  have hp : Real.rpow v (1 / 2) = Real.sqrt v := (Real.sqrt_eq_rpow v).symm
  rw [Ideal.rsqrt_coe, if_neg (not_lt.2 hv.le), if_neg hv.ne', Ideal.pow_coe_coe, hp, Ideal.div_coe hs, one_div]
  rw [one_div]
  congr 1
  rcases max_cmin a with h | ⟨r, hr, h⟩
  · rw [h, Ideal.sqrt_top, Ideal.pow_top, if_pos]
    exact EReal.coe_pos.2 (by norm_num)
  · rw [h, Ideal.sqrt_coe, if_neg (not_lt.2 hr.le), Ideal.pow_coe_coe]
    congr 1
    have h2 := Real.sqrt_eq_rpow r
    rw [one_div] at h2
    exact h2

/-- It is positive. -/
theorem sE_pos (a w : EReal) (hw : w < ⊤) : 0 < sE a w := by
  rw [← sE_eq a w hw]
  obtain ⟨c, hc, hc'⟩ := cmin_pos
  have hw' : max w cmin ≠ ⊤ := by
    rw [hc']
    exact (max_lt hw (EReal.coe_lt_top c)).ne
  obtain ⟨v, hv, hv'⟩ := (max_cmin w).resolve_left hw'
  rw [hv', Ideal.rsqrt_coe, if_neg (not_lt.2 hv.le), if_neg hv.ne']
  have h2 : (0 : EReal) < (((Real.sqrt v)⁻¹ : ℝ) : EReal) := EReal.coe_pos.2 (inv_pos.2 (Real.sqrt_pos.2 hv))
  refine EReal.mul_pos ?_ h2
  rcases max_cmin a with h | ⟨r, hr, h⟩
  · rw [h, Ideal.sqrt_top]; exact EReal.zero_lt_top
  · rw [h, Ideal.sqrt_coe, if_neg (not_lt.2 hr.le)]
    exact EReal.coe_pos.2 (Real.sqrt_pos.2 hr)

/-- Dividing by a positive value is multiplying by its reciprocal. -/
theorem mul_recip (x s : EReal) (hs : 0 < s) : x * Ideal.div (Ideal.ofBits .f32 0x3F800000#32) s = Ideal.div x s := by
  unfold Ideal.div
  rw [if_neg hs.ne', if_neg hs.ne', Ideal.ofBits_one_f32, one_mul]

/-! ### Largest of a range -/

/-- The largest of the first `n` values. -/
def rmax (n : ℕ) (f : ℕ → EReal) : EReal := (Finset.range n).sup f

theorem rmax_le {n : ℕ} {f : ℕ → EReal} {z : EReal} : rmax n f ≤ z ↔ ∀ k < n, f k ≤ z := by
  unfold rmax
  rw [Finset.sup_le_iff]
  simp only [Finset.mem_range]

/-- The value with the same upper bounds is the largest. -/
theorem eq_rmax {n : ℕ} {f : ℕ → EReal} {m : EReal} (h : ∀ z, m ≤ z ↔ ∀ k < n, f k ≤ z) : m = rmax n f :=
  eq_of_forall_ge_iff fun z => (h z).trans rmax_le.symm

/-- Minus infinity, the value a maximum starts from. -/
theorem neg_inf : Ideal.ofBits .f32 0xFF800000#32 = ⊥ := by
  unfold Ideal.ofBits Ideal.ieee
  dsimp only
  rw [if_pos (by decide), if_pos (by decide), if_pos (by decide)]

end Cert.Fp8
-- ==== Proof.Forms.lean ====
module

public import proofs.«01_k».proof.Proof.Spec
public import proofs.«01_k».proof.Proof.Scalars

@[expose] public section

noncomputable section

/-! What the linear layer computes over the extended reals, entry by entry, as functions of the three operands. -/

namespace Cert.Fp8

open Idealize.ShloMosaic

/-- The magnitude. -/
def mag (x : EReal) : EReal := max x (-x)

/-- Clip to the range of the fp8 type. -/
def clipE (v : EReal) : EReal := min (Ideal.ofBits .f32 0x43E00000#32) (max (Ideal.ofBits .f32 0xC3E00000#32) v)

section
variable (X : FVec Ideal (T2 1024 3072) .bf16) (A : FVec Ideal (T2 1 3072) .f32) (W : FVec Ideal (T2 3072 8192) .bf16)

/-- The smoothing factor of column `j`. -/
def sF (j : ℕ) : EReal := sE (rmax 1024 fun t => mag (X (ix2 t j))) (A (ix2 0 j))
/-- A scaled weight. -/
def wF (k n : ℕ) : EReal := W (ix2 k n) * sF X A k
/-- The exponent of output channel `n`. -/
def weF (n : ℕ) : BitVec 32 := expE (rmax 3072 fun k => mag (wF X A W k n))
/-- Its scale. -/
def wscF (n : ℕ) : EReal := ldE (weF X A W n)
/-- A code of the weights. -/
def wcF (k n : ℕ) : EReal := clipE (wF X A W k n * ldE (0#32 - weF X A W n))
/-- A scaled input. -/
def xF (t j : ℕ) : EReal := Ideal.div (X (ix2 t j)) (sF X A j)
/-- The exponent of token `t`. -/
def xeF (t : ℕ) : BitVec 32 := expE (rmax 3072 fun j => mag (xF X A t j))
/-- Its scale. -/
def xscF (t : ℕ) : EReal := ldE (xeF X A t)
/-- A code of the input. -/
def xcF (t j : ℕ) : EReal := clipE (xF X A t j * ldE (0#32 - xeF X A t))
/-- An entry of the result. -/
def yF (t n : ℕ) : EReal := (∑ k : Fin 3072, xcF X A t k * wcF X A W k n) * xscF X A t * wscF X A W n

end

/-- An entry of a two-axis array by its coordinates. -/
theorem at_ix2 {a b : ℕ} [NeZero a] [NeZero b] {α : Type} (g : (T2 a b).Idx → α) (x : (T2 a b).Idx) (i j : ℕ)
    (h : a0 x = i) (h' : a1 x = j) : g x = g (ix2 i j) := by
  subst h h'; rw [ix2_eta]

/-- A maximum over one axis on the host. -/
theorem host_max {s t u : Shape} {a : Fin s.rank} (x : FVec Ideal s .f32) (h' : s.ReducesTo [a] t) (h : s.Reduces [a] t)
    (hu : 0 < u.numel) (j : t.Idx) (n : ℕ) (hn : s.size a = n) (f : ℕ → EReal)
    (hf : ∀ k : Fin (s.size a), x (h.lift j k) = f k) :
    Host.reduce FloatOps.maximumf x (constant (F := Ideal) u .f32 0xFF800000#32) h' hu j = rmax n f := by
  subst hn
  rw [Host.reduce_eq_fold_single (FloatOps.maximumf (F := Ideal) (φ := .f32)) x _ h' h hu j]
  refine eq_rmax fun z => ?_
  refine (Finset.fold_max_le (f := x ∘ h.lift j) (b := Ideal.ofBits .f32 0xFF800000#32) z).trans ?_
  rw [neg_inf]
  constructor
  · intro g k hk
    have := g.2 ⟨k, hk⟩ (Finset.mem_univ _)
    rw [Function.comp_apply, hf] at this
    exact this
  · intro g
    refine ⟨bot_le, fun k _ => ?_⟩
    rw [Function.comp_apply, hf]
    exact g k k.isLt

/-- A maximum over one axis in a kernel. -/
theorem kernel_max {s t : Shape} {a : Fin s.rank} (x : FVec Ideal s .f32) (h : s.Reduces [a] t) (hφ hacc) (j : t.Idx) (n : ℕ)
    (hn : s.size a = n) (f : ℕ → EReal) (hf : ∀ k : Fin (s.size a), x (h.lift j k) = f k) :
    multiReduction .maximumf [a] t x 0xFF800000#32 h hφ hacc j = rmax n f := by
  subst hn
  rw [Ideal.multiReduction_maximumf_single]
  refine eq_rmax fun z => ?_
  refine (Finset.fold_max_le (f := x ∘ h.lift j) (b := Ideal.ofBits .f32 0xFF800000#32) z).trans ?_
  rw [neg_inf]
  constructor
  · intro g k hk
    have := g.2 ⟨k, hk⟩ (Finset.mem_univ _)
    rw [Function.comp_apply, hf] at this
    exact this
  · intro g
    refine ⟨bot_le, fun k _ => ?_⟩
    rw [Function.comp_apply, hf]
    exact g k k.isLt

/-- A count over one axis on the host. -/
theorem host_count {s t u : Shape} {a : Fin s.rank} (p : IVec s 1) (h' : s.ReducesTo [a] t) (h : s.Reduces [a] t)
    (hu : 0 < u.numel) (hw : 1 < 32) (j : t.Idx) (N : ℕ)
    (hN : ((Finset.univ : Finset (Fin (s.size a))).filter fun k => p (h.lift j k) = 1#1).card = N) :
    Host.reduce IntOp.addi (extui 32 p hw) (constantI u 32 0#32) h' hu j = BitVec.ofNat 32 N := by
  rw [Host.reduce_eq_fold_single IntOp.addi _ _ h' h hu j, ← hN]
  exact IndicatorCount.fold_addi_setWidth_eq_card (fun k => p (h.lift j k)) Finset.univ

end Cert.Fp8
-- ==== Proof.KMath.lean ====
module

public import proofs.«01_k».proof.Proof.Forms
public import Idealize.ShloMosaic.Lib.Pipeline.Value
public import Idealize.ShloMosaic.Lib.MatmulPlain

@[expose] public section

noncomputable section

/-! What the kernel's buffers hold over the extended reals, entry by entry, in the closed forms. -/

namespace Cert.Fp8

open Idealize.ShloMosaic

set_option maxRecDepth 65536

/-! ### Layout -/

section
variable {a b n : ℕ} {α : Type}

/-- The index `k` on one axis. -/
def k1 [NeZero n] (k : ℕ) : (T1 n).Idx := fun t => ⟨k % n, by fin_cases t; exact Nat.mod_lt _ (Nat.pos_of_ne_zero (NeZero.ne n))⟩

theorem cast_self {s : Shape} (x : s.Idx → α) (h : s.ShapeCasts s) (j : s.Idx) : shapeCast s x h j = x j := shapeCast_apply _ _ _ _ rfl

/-- A vector as a row. -/
theorem row_of [NeZero n] (x : (T1 n).Idx → α) (h : (T1 n).ShapeCasts (T2 1 n)) (y : (T2 1 n).Idx) :
    shapeCast (T2 1 n) x h y = x (k1 (a1 y)) := by
  refine shapeCast_apply _ _ _ _ ?_
  rw [Shape.rowMajor_val_one, Shape.rowMajor_val_two]
  show a1 y % n = a0 y * n + a1 y
  have := a0_lt y
  rw [Nat.mod_eq_of_lt (a1_lt y), show a0 y = 0 by omega, Nat.zero_mul, Nat.zero_add]

/-- A vector as a column. -/
theorem col_of [NeZero n] (x : (T1 n).Idx → α) (h : (T1 n).ShapeCasts (T2 n 1)) (y : (T2 n 1).Idx) :
    shapeCast (T2 n 1) x h y = x (k1 (a0 y)) := by
  refine shapeCast_apply _ _ _ _ ?_
  rw [Shape.rowMajor_val_one, Shape.rowMajor_val_two]
  show a0 y % n = a0 y * 1 + a1 y
  have := a1_lt y
  rw [Nat.mod_eq_of_lt (a0_lt y)]; omega

/-- A tile of one matrix as the matrix. -/
theorem of_tile [NeZero a] [NeZero b] (x : (T3 1 a b).Idx → α) (h : (T3 1 a b).ShapeCasts (T2 a b)) (y : (T2 a b).Idx) :
    shapeCast (T2 a b) x h y = x (ix3 0 (a0 y) (a1 y)) := by
  refine shapeCast_apply _ _ _ _ ?_
  rw [Shape.rowMajor_val_two, Shape.rowMajor_val_three]
  show ((0 % 1) * a + a0 y % a) * b + a1 y % b = a0 y * b + a1 y
  rw [Nat.mod_eq_of_lt (a0_lt y), Nat.mod_eq_of_lt (a1_lt y), Nat.zero_mod, Nat.zero_mul, Nat.zero_add]

/-- A matrix as a tile of one. -/
theorem to_tile [NeZero a] [NeZero b] (x : (T2 a b).Idx → α) (h : (T2 a b).ShapeCasts (T3 1 a b)) (z : (T3 1 a b).Idx) :
    shapeCast (T3 1 a b) x h z = x (ix2 (c1 z) (c2 z)) := by
  refine shapeCast_apply _ _ _ _ ?_
  rw [Shape.rowMajor_val_two, Shape.rowMajor_val_three]
  show c1 z % a * b + c2 z % b = (c0 z * a + c1 z) * b + c2 z
  have := c0_lt z
  rw [Nat.mod_eq_of_lt (c1_lt z), Nat.mod_eq_of_lt (c2_lt z), show c0 z = 0 by omega, Nat.zero_mul, Nat.zero_add]

/-- A row down the rows. -/
theorem bc_row [NeZero a] [NeZero b] (hb : b ≠ 1) (x : (T2 1 b).Idx → α) (h : (T2 1 b).Broadcasts (T2 a b)) (y : (T2 a b).Idx) :
    broadcastTo (T2 a b) x h y = x (ix2 0 (a1 y)) := by
  refine broadcastTo_apply _ _ _ _ fun t => ?_
  fin_cases t
  · rfl
  · show a1 y % b = if b = 1 then 0 else a1 y
    rw [if_neg hb, Nat.mod_eq_of_lt (a1_lt y)]

/-- A column along the lanes. -/
theorem bc_col [NeZero a] [NeZero b] (ha : a ≠ 1) (x : (T2 a 1).Idx → α) (h : (T2 a 1).Broadcasts (T2 a b)) (y : (T2 a b).Idx) :
    broadcastTo (T2 a b) x h y = x (ix2 (a0 y) 0) := by
  refine broadcastTo_apply _ _ _ _ fun t => ?_
  fin_cases t
  · show a0 y % a = if a = 1 then 0 else a0 y
    rw [if_neg ha, Nat.mod_eq_of_lt (a0_lt y)]
  · rfl

/-- Two entries of a matrix at equal coordinates. -/
theorem at2 [NeZero a] [NeZero b] (g : (T2 a b).Idx → α) {i j i' j' : ℕ} (h : i = i') (h' : j = j') : g (ix2 i j) = g (ix2 i' j') := by
  rw [h, h']

end

/-! ### Values at an index -/

theorem clip_at {S : Shape} (p q : BitVec 32) (v : FVec Ideal S .f32) (i : S.Idx) :
    truncf .fp8e4m3 (minimumf (lit S p) (maximumf (lit S q) v)) lt8_32 i = min (Ideal.ofBits .f32 p) (max (Ideal.ofBits .f32 q) (v i)) := rfl

theorem toFp8_at {S : Shape} (v : FVec Ideal S .f32) (i : S.Idx) : toFp8 v i = clipE (v i) := clip_at _ _ v i

theorem svalForm {S : Shape} (p q : BitVec 32) (x u : FVec Ideal S .f32) (i : S.Idx) :
    mulf (sqrt (maximumf x (lit S p))) (rsqrt (maximumf u (lit S q))) i
      = Ideal.sqrt (max (x i) (Ideal.ofBits .f32 p)) * Ideal.rsqrt (max (u i) (Ideal.ofBits .f32 q)) := rfl

theorem sval_at (m : FVec Ideal (T2 16 128) .bf16) (u : FVec Ideal (T2 1 128) .f32) (y : (T2 1 128).Idx) (hu : u y < ⊤) :
    sval m u y = sE (rmax 16 fun r => m (ix2 r (a1 y))) (u y) := by
  unfold sval
  rw [svalForm, row_of, cast_self, ← sE_eq _ _ hu]
  refine congrArg (fun q => Ideal.sqrt (max q cmin) * Ideal.rsqrt (max (u y) cmin))
    (kernel_max _ _ _ _ (k1 (a1 y)) 16 rfl (fun r => m (ix2 r (a1 y))) fun k => ?_)
  refine congrArg m (ext2 ?_ rfl)
  exact (Nat.mod_eq_of_lt k.isLt).symm

theorem srepVal_at (s : FVec Ideal (T2 1 128) .f32) (y : (T2 128 128).Idx) : srepVal s y = s (ix2 0 (a0 y)) := by
  unfold srepVal
  rw [cast_self, transpose_apply _ _ _ y (ix2 (a1 y) (a0 y)) ?_, bc_row (by decide), cast_self]
  · refine at2 s rfl ?_
    rw [a1_ix2, Nat.mod_eq_of_lt (a0_lt y)]
  · intro t
    fin_cases t
    · exact Nat.mod_eq_of_lt (a0_lt y)
    · exact Nat.mod_eq_of_lt (a1_lt y)

theorem invForm {S : Shape} (p : BitVec 32) (x : FVec Ideal S .f32) (i : S.Idx) :
    divf (lit S p) x i = Ideal.div (Ideal.ofBits .f32 p) (x i) := rfl

theorem invS_at (s : FVec Ideal (T2 1 3072) .f32) (y : (T2 1 3072).Idx) : invS s y = Ideal.div (Ideal.ofBits .f32 0x3F800000#32) (s y) := by
  unfold invS
  rw [invForm, cast_self]

theorem mul_at {S : Shape} (x y : FVec Ideal S .f32) (i : S.Idx) : mulf x y i = x i * y i := rfl
theorem abs_at {S : Shape} {φ : FTy} (x : FVec Ideal S φ) (i : S.Idx) : absf x i = mag (x i) := rfl
theorem ext_at {S : Shape} (x : FVec Ideal S .bf16) (i : S.Idx) : extf .f32 x lt16_32 i = x i := rfl
theorem trunc_at {S : Shape} (x : FVec Ideal S .f32) (i : S.Idx) : truncf .bf16 x lt16_32 i = x i := rfl

theorem xsVal_at (v : FVec Ideal (T2 32 3072) .bf16) (iv : FVec Ideal (T2 1 3072) .f32) (y : (T2 32 3072).Idx) :
    xsVal v iv y = v y * iv (ix2 0 (a1 y)) := by
  unfold xsVal
  rw [mul_at, ext_at, bc_row (by decide)]

theorem xaVal_at (v : FVec Ideal (T2 32 3072) .bf16) (iv : FVec Ideal (T2 1 3072) .f32) (y : (T2 32 1).Idx) :
    xaVal v iv y = rmax 3072 fun j => mag (v (ix2 (a0 y) j) * iv (ix2 0 j)) := by
  unfold xaVal
  rw [col_of]
  refine kernel_max _ _ _ _ (k1 (a0 y)) 3072 rfl _ fun k => ?_
  rw [abs_at, xsVal_at]
  congr 2
  refine congrArg v (ext2 rfl ?_)
  exact (Nat.mod_eq_of_lt k.isLt).symm

theorem xcVal_at (v : FVec Ideal (T2 32 3072) .bf16) (iv : FVec Ideal (T2 1 3072) .f32) (y : (T2 32 3072).Idx) :
    xcVal v iv y = clipE (v y * iv (ix2 0 (a1 y)) * ldE (0#32 - expE (rmax 3072 fun j => mag (v (ix2 (a0 y) j) * iv (ix2 0 j))))) := by
  unfold xcVal
  rw [cast_self, toFp8_at, mul_at, xsVal_at, bc_col (by decide), invOf_eq, xaVal_at, a0_ix2, Nat.mod_eq_of_lt (a0_lt y)]

theorem xsrepVal_at (v : FVec Ideal (T2 32 3072) .bf16) (iv : FVec Ideal (T2 1 3072) .f32) (y : (T2 32 128).Idx) :
    xsrepVal v iv y = ldE (expE (rmax 3072 fun j => mag (v (ix2 (a0 y) j) * iv (ix2 0 j)))) := by
  unfold xsrepVal
  rw [cast_self, bc_col (by decide), cast_self, scaleOf_eq, xaVal_at, a0_ix2, Nat.mod_eq_of_lt (a0_lt y)]

/-- The diagonal's condition. -/
theorem diagV_at (y : (T2 128 128).Idx) : diagV y = BitVec.ofBool (BitVec.ofNat 32 (a0 y) == BitVec.ofNat 32 (a1 y)) := by
  show IntOp.cmpi .eq (BitVec.ofNat 32 (0 * 128 + a0 y)) (BitVec.ofNat 32 (0 * 128 + a1 y)) = _
  rw [Nat.zero_mul, Nat.zero_add, Nat.zero_add]
  rfl

theorem selForm {S : Shape} (m : IVec S 1) (v : FVec Ideal S .f32) (p : BitVec 32) (i : S.Idx) :
    select m v (lit S p) i = Scalar.select (m i) (v i) (Ideal.ofBits .f32 p) := rfl

theorem diagVal_at (v : FVec Ideal (T2 128 128) .f32) (y : (T2 1 128).Idx) : diagVal v y = v (ix2 (a1 y) (a1 y)) := by
  unfold diagVal
  rw [row_of]
  refine (Ideal.multiReduction_add_single _ _ _ _ _ _).trans ?_
  have hc := a1_lt y
  generalize a1 y = q at hc
  refine (Finset.sum_eq_single (⟨q, hc⟩ : Fin 128) ?_ fun h => absurd (Finset.mem_univ _) h).trans ?_
  · intro k _ hk
    rw [selForm, diagV_at]
    have hne : ¬ BitVec.ofNat 32 k.val = BitVec.ofNat 32 (q % 128) := by
      intro e
      have := congrArg BitVec.toNat e
      rw [BitVec.toNat_ofNat, BitVec.toNat_ofNat] at this
      have hk' := k.isLt
      change k.val < 128 at hk'
      apply hk
      apply Fin.ext
      show k.val = q
      omega
    have : (BitVec.ofNat 32 k.val == BitVec.ofNat 32 (q % 128)) = false := by simpa using hne
    refine (congrArg (fun b => Scalar.select (BitVec.ofBool b) _ _) this).trans ?_
    exact Ideal.ofBits_zero_f32
  · rw [selForm, diagV_at]
    have : (BitVec.ofNat 32 q == BitVec.ofNat 32 (q % 128)) = true := by rw [Nat.mod_eq_of_lt hc]; exact beq_self_eq_true _
    refine (congrArg (fun b => Scalar.select (BitVec.ofBool b) _ _) this).trans ?_
    refine congrArg v (ext2 ?_ rfl)
    exact (Nat.mod_eq_of_lt hc).symm

theorem wsVal_at (w : FVec Ideal (T2 16 512) .f32) (s : FVec Ideal (T2 16 128) .f32) (y : (T2 16 512).Idx) :
    wsVal w s y = w y * s (ix2 (a0 y) (a1 y % 128)) := by
  unfold wsVal
  rw [mul_at]
  congr 1
  refine concatenate_replicate_apply (t := T2 16 512) (s₁ := T2 16 128) 1 4 s cat16 rfl y _ ?_ ?_
  · exact Nat.mod_mod _ _
  · intro t ht
    fin_cases t
    · exact Nat.mod_eq_of_lt (a0_lt y)
    · exact absurd rfl ht

theorem max_at {S : Shape} {φ : FTy} (x y : FVec Ideal S φ) (i : S.Idx) : maximumf x y i = max (x i) (y i) := rfl

theorem wbVal_at (ws : FVec Ideal (T2 16 512) .f32) (y : (T2 8 512).Idx) :
    wbVal ws y = max (mag (ws (ix2 (a0 y) (a1 y)))) (mag (ws (ix2 (8 + a0 y) (a1 y)))) := by
  unfold wbVal
  have h0 := a0_lt y
  have h1 := a1_lt y
  rw [max_at, abs_at, abs_at, extractStridedSlice_apply _ _ _ y (ix2 (a0 y) (a1 y)) ?_,
    extractStridedSlice_apply _ _ _ y (ix2 (8 + a0 y) (a1 y)) ?_]
  · intro t
    fin_cases t
    · show (8 + a0 y) % 16 = 8 + a0 y; omega
    · show a1 y % 512 = 0 + a1 y; omega
  · intro t
    fin_cases t
    · show a0 y % 16 = 0 + a0 y; omega
    · show a1 y % 512 = 0 + a1 y; omega

theorem waVal_at (m : FVec Ideal (T2 8 512) .f32) (y : (T2 1 512).Idx) : waVal m y = rmax 8 fun r => m (ix2 r (a1 y)) := by
  unfold waVal
  rw [row_of]
  refine kernel_max _ _ _ _ (k1 (a1 y)) 8 rfl _ fun k => ?_
  refine congrArg m (ext2 ?_ rfl)
  exact (Nat.mod_eq_of_lt k.isLt).symm

theorem wcForm {S : Shape} (p q : BitVec 32) (v : FVec Ideal S .f32) (i : S.Idx) :
    truncf .fp8e4m3 (minimumf (lit S p) (maximumf (lit S q) v)) lt8_32 i = min (Ideal.ofBits .f32 p) (max (Ideal.ofBits .f32 q) (v i)) := rfl

theorem wq_at (ws : FVec Ideal (T2 32 512) .f32) (inv : FVec Ideal (T2 1 512) .f32) (z : (T3 1 32 512).Idx) :
    wqHi (lit (T2 32 512) 0x43E00000#32) (wqLo ws inv) z = clipE (ws (ix2 (c1 z) (c2 z)) * inv (ix2 0 (c2 z))) := by
  unfold wqHi wqLo
  rw [to_tile, clip_at, mul_at, bc_row (by decide), a1_ix2, Nat.mod_eq_of_lt (c2_lt z)]
  rfl

theorem cat_xs (xs : FVec Ideal (T2 512 128) .f32) (y : (T2 512 512).Idx) :
    concatenate (T2 512 512) 1 [⟨T2 512 128, xs⟩, ⟨T2 512 128, xs⟩, ⟨T2 512 128, xs⟩, ⟨T2 512 128, xs⟩] cat512 y
      = xs (ix2 (a0 y) (a1 y % 128)) := by
  refine concatenate_replicate_apply (t := T2 512 512) (s₁ := T2 512 128) 1 4 xs cat512 rfl y _ ?_ ?_
  · exact Nat.mod_mod _ _
  · intro t ht
    fin_cases t
    · exact Nat.mod_eq_of_lt (a0_lt y)
    · exact absurd rfl ht

/-- The product at an entry. -/
theorem dot_at (xc : FVec Ideal (T2 512 3072) .fp8e4m3) (w : FVec Ideal (T2 3072 512) .fp8e4m3) (y : (T2 512 512).Idx) :
    matmul dotD none xc w (constant (T2 512 512) .f32 0x00000000#32) y = ∑ k : Fin 3072, xc (ix2 (a0 y) k) * w (ix2 k (a1 y)) := by
  have h := Ideal.matmul_plain_apply none xc w (constant (T2 512 512) .f32 0x00000000#32) (y 0) (y 1)
  have hy : (ValueIdx.ix2 (y 0) (y 1) : (T2 512 512).Idx) = y := ext2 rfl rfl
  rw [hy] at h
  refine h.trans ?_
  have h0 : (constant (F := Ideal) (T2 512 512) .f32 0x00000000#32) y = 0 := Ideal.ofBits_zero_f32
  rw [h0, zero_add]
  refine Finset.sum_congr rfl fun k _ => ?_
  congr 1
  · exact congrArg xc (ext2 (Nat.mod_eq_of_lt (a0_lt y)).symm (Nat.mod_eq_of_lt k.isLt).symm)
  · exact congrArg w (ext2 (Nat.mod_eq_of_lt k.isLt).symm (Nat.mod_eq_of_lt (a1_lt y)).symm)

theorem yVal_at (sc : FVec Ideal (T2 1 512) .f32) (xc : FVec Ideal (T2 512 3072) .fp8e4m3) (wc : FVec Ideal (T3 1 3072 512) .fp8e4m3)
    (xs : FVec Ideal (T2 512 128) .f32) (z : (T3 1 512 512).Idx) :
    yVal sc xc wc xs z = (∑ k : Fin 3072, xc (ix2 (c1 z) k) * wc (ix3 0 k (c2 z))) * xs (ix2 (c1 z) (c2 z % 128)) * sc (ix2 0 (c2 z)) := by
  unfold yVal
  rw [to_tile, trunc_at, mul_at, mul_at, dot_at, cat_xs, bc_row (by decide), a0_ix2, a1_ix2, Nat.mod_eq_of_lt (c1_lt z), Nat.mod_eq_of_lt (c2_lt z)]
  congr 2
  refine Finset.sum_congr rfl fun k _ => ?_
  rw [of_tile, a0_ix2, a1_ix2, Nat.mod_eq_of_lt k.isLt, Nat.mod_eq_of_lt (c2_lt z)]

end Cert.Fp8
-- ==== Proof.KForms.lean ====
module

public import proofs.«01_k».proof.Proof.KMath

@[expose] public section

noncomputable section

/-! What every result of the kernel holds, in the closed forms. -/

namespace Cert.Fp8

open Idealize.ShloMosaic

set_option maxRecDepth 65536

variable (X : FVec Ideal (T2 1024 3072) .bf16) (A : FVec Ideal (T2 1 3072) .f32) (W : FVec Ideal (T2 3072 8192) .bf16)

/-! ### The smoothing factors -/

theorem xAcc_zero (c : ℕ) : xAcc X c 0 = absf (blk2 16 128 (16 * 0) (128 * c) X) := rfl
theorem xAcc_succ (c r : ℕ) : xAcc X c (r + 1) = maximumf (xAcc X c r) (absf (blk2 16 128 (16 * (r + 1)) (128 * c) X)) := rfl

/-- What bounds the accumulated magnitudes. -/
theorem xAcc_le (c r : ℕ) (y : (T2 16 128).Idx) (z : EReal) :
    xAcc X c r y ≤ z ↔ ∀ i ≤ r, mag (X (ix2 (16 * i + a0 y) (128 * c + a1 y))) ≤ z := by
  induction r with
  | zero =>
    rw [xAcc_zero, abs_at]
    constructor
    · intro h i hi
      obtain rfl : i = 0 := by omega
      exact h
    · exact fun h => h 0 le_rfl
  | succ r ih =>
    rw [xAcc_succ, max_at, max_le_iff, ih, abs_at]
    constructor
    · rintro ⟨h, h'⟩ i hi
      rcases Nat.lt_or_ge i (r + 1) with g | g
      · exact h i (by omega)
      · obtain rfl : i = r + 1 := by omega
        exact h'
    · exact fun h => ⟨fun i hi => h i (by omega), h (r + 1) le_rfl⟩

/-- The largest over the row classes is the largest over the rows. -/
theorem xAcc_rmax (c j : ℕ) : (rmax 16 fun r => xAcc X c 63 (ix2 r j)) = rmax 1024 fun t => mag (X (ix2 t (128 * c + j % 128))) := by
  refine eq_rmax fun z => ?_
  rw [rmax_le]
  constructor
  · intro h t ht
    have := (xAcc_le X c 63 _ z).1 (h (t % 16) (by omega)) (t / 16) (by omega)
    rw [a0_ix2, a1_ix2, show 16 * (t / 16) + t % 16 % 16 = t by omega] at this
    exact this
  · intro h r hr
    refine (xAcc_le X c 63 _ z).2 fun i hi => ?_
    rw [a0_ix2, a1_ix2]
    exact h _ (by omega)

variable (hA : ∀ x, A x < ⊤)
include hA

theorem sF_pos (j : ℕ) : 0 < sF X A j := sE_pos _ _ (hA _)

theorem sBlk_at (c : ℕ) (y : (T2 1 128).Idx) : sBlk X A c y = sF X A (128 * c + a1 y) := by
  have e : blk2 1 128 0 (128 * c) A y = A (ix2 0 (128 * c + a1 y)) := by
    refine congrArg A (ext2 ?_ rfl)
    rw [a0_ix2, a0_ix2]; omega
  unfold sBlk
  rw [sval_at _ _ _ (hA _), e, xAcc_rmax, Nat.mod_eq_of_lt (a1_lt y)]
  rfl

theorem sSpec_at (x : (T2 1 3072).Idx) : sSpec X A x = sF X A (a1 x) := by
  unfold sSpec glue2
  beta_reduce
  rw [sBlk_at X A hA, a1_ix2]
  congr 1; omega

theorem srepSpec_at (x : (T2 3072 128).Idx) : srepSpec X A x = sF X A (a0 x) := by
  unfold srepSpec glue2
  beta_reduce
  rw [srepVal_at, sBlk_at X A hA, a1_ix2, a0_ix2]
  congr 1; omega

theorem ivSpec_at (x : (T2 1 3072).Idx) : ivSpec X A x = Ideal.div (Ideal.ofBits .f32 0x3F800000#32) (sF X A (a1 x)) := by
  unfold ivSpec
  have h := a1_lt x
  rw [invS_at]
  unfold blk2
  rw [sSpec_at X A hA, a1_ix2, Nat.zero_add, Nat.mod_eq_of_lt h]

/-! ### The input's codes and scales -/

/-- The scaled input. -/
theorem xs_at (t i j : ℕ) (ht : t < 32) (hi : i < 32) (hj : j < 3072) :
    blk2 32 3072 (32 * t) 0 X (ix2 i j) * ivSpec X A (ix2 0 j) = xF X A (32 * t + i) j := by
  rw [ivSpec_at X A hA, a1_ix2, Nat.mod_eq_of_lt hj, mul_recip _ _ (sF_pos X A hA j)]
  unfold xF
  refine congrArg (fun x => Ideal.div (X x) _) (ext2 ?_ ?_)
  · rw [a0_ix2, a0_ix2, a0_ix2]; omega
  · rw [a1_ix2, a1_ix2, a1_ix2]; omega

theorem xe_at (t i : ℕ) (ht : t < 32) (hi : i < 32) :
    expE (rmax 3072 fun j => mag (blk2 32 3072 (32 * t) 0 X (ix2 i j) * ivSpec X A (ix2 0 j))) = xeF X A (32 * t + i) := by
  unfold xeF
  refine congrArg expE (eq_rmax fun z => rmax_le.trans ?_)
  exact forall_congr' fun j => forall_congr' fun hj => by rw [xs_at X A hA t i j ht hi hj]

theorem xcSpec_at (x : (T2 1024 3072).Idx) : xcSpec X A x = xcF X A (a0 x) (a1 x) := by
  have h0 := a0_lt x; have h1 := a1_lt x
  have e0 : a0 (ix2 (a0 x % 32) (a1 x % 3072) : (T2 32 3072).Idx) = a0 x % 32 := by rw [a0_ix2]; omega
  have e1 : a1 (ix2 (a0 x % 32) (a1 x % 3072) : (T2 32 3072).Idx) = a1 x := by rw [a1_ix2]; omega
  unfold xcSpec glue2
  beta_reduce
  rw [xcVal_at, e0, e1, xe_at X A hA _ _ (by omega) (by omega), Nat.mod_eq_of_lt h1, xs_at X A hA _ _ _ (by omega) (by omega) h1]
  unfold xcF
  rw [show 32 * (a0 x / 32) + a0 x % 32 = a0 x by omega]

theorem xsrepSpec_at (x : (T2 1024 128).Idx) : xsrepSpec X A x = xscF X A (a0 x) := by
  have h0 := a0_lt x
  have e0 : a0 (ix2 (a0 x % 32) (a1 x % 128) : (T2 32 128).Idx) = a0 x % 32 := by rw [a0_ix2]; omega
  unfold xsrepSpec glue2
  beta_reduce
  rw [xsrepVal_at, e0, xe_at X A hA _ _ (by omega) (by omega)]
  unfold xscF
  rw [show 32 * (a0 x / 32) + a0 x % 32 = a0 x by omega]

theorem xscSpec_at (x : (T2 4 256).Idx) : xscSpec X A x = xscF X A (256 * a0 x + a1 x) := by
  have h0 := a0_lt x; have h1 := a1_lt x
  unfold xscSpec glue2
  beta_reduce
  rw [diagVal_at]
  unfold blk2
  rw [xsrepSpec_at X A hA, a0_ix2, a0_ix2, a1_ix2]
  congr 1; omega

/-! ### The weights' codes and scales -/

theorem wsBlk_at (i r : ℕ) (hr : r < 192) (y : (T2 16 512).Idx) : wsBlk X A W i r y = wF X A W (16 * r + a0 y) (512 * i + a1 y) := by
  have h0 := a0_lt y; have h1 := a1_lt y
  unfold wsBlk wext
  rw [wsVal_at, ext_at, of_tile]
  unfold blk2 wRow wF
  rw [srepSpec_at X A hA, a0_ix2, a0_ix2, c1_ix3, c2_ix3, Nat.mod_eq_of_lt h0, Nat.mod_eq_of_lt h1, Nat.mod_eq_of_lt (by omega : 16 * r + a0 y < 3072)]

theorem wsSpec_at (i : ℕ) (x : (T2 3072 512).Idx) : wsSpec X A W i x = wF X A W (a0 x) (512 * i + a1 x) := by
  have h0 := a0_lt x; have h1 := a1_lt x
  unfold wsSpec glue2
  beta_reduce
  rw [cast_self, wsBlk_at X A W hA _ _ (by omega), a0_ix2, a1_ix2]
  congr 1 <;> omega

omit hA in
theorem wAcc_zero (i : ℕ) : wAcc X A W i 0 = wbVal (wsBlk X A W i 0) := rfl
omit hA in
theorem wAcc_succ (i r : ℕ) : wAcc X A W i (r + 1) = maximumf (wAcc X A W i r) (wbVal (wsBlk X A W i (r + 1))) := rfl

theorem wb_le (i r : ℕ) (hr : r < 192) (y : (T2 8 512).Idx) (z : EReal) :
    wbVal (wsBlk X A W i r) y ≤ z ↔ mag (wF X A W (16 * r + a0 y) (512 * i + a1 y)) ≤ z ∧ mag (wF X A W (16 * r + (8 + a0 y)) (512 * i + a1 y)) ≤ z := by
  have h0 := a0_lt y; have h1 := a1_lt y
  rw [wbVal_at, max_le_iff, wsBlk_at X A W hA _ _ hr, wsBlk_at X A W hA _ _ hr, a0_ix2, a0_ix2, a1_ix2, a1_ix2, Nat.mod_eq_of_lt h1,
    Nat.mod_eq_of_lt (by omega : a0 y < 16), Nat.mod_eq_of_lt (by omega : 8 + a0 y < 16)]

theorem wAcc_le (i r : ℕ) (hr : r < 192) (y : (T2 8 512).Idx) (z : EReal) :
    wAcc X A W i r y ≤ z ↔ ∀ k ≤ r, mag (wF X A W (16 * k + a0 y) (512 * i + a1 y)) ≤ z
      ∧ mag (wF X A W (16 * k + (8 + a0 y)) (512 * i + a1 y)) ≤ z := by
  induction r with
  | zero =>
    rw [wAcc_zero, wb_le X A W hA _ _ hr]
    constructor
    · intro h k hk
      obtain rfl : k = 0 := by omega
      exact h
    · exact fun h => h 0 le_rfl
  | succ r ih =>
    rw [wAcc_succ, max_at, max_le_iff, ih (by omega), wb_le X A W hA _ _ hr]
    constructor
    · rintro ⟨h, h'⟩ k hk
      rcases Nat.lt_or_ge k (r + 1) with g | g
      · exact h k (by omega)
      · obtain rfl : k = r + 1 := by omega
        exact h'
    · exact fun h => ⟨fun k hk => h k (by omega), h (r + 1) le_rfl⟩

theorem wa_at (i : ℕ) (y : (T2 1 512).Idx) : wa X A W i y = rmax 3072 fun k => mag (wF X A W k (512 * i + a1 y)) := by
  have h1 := a1_lt y
  unfold wa
  rw [waVal_at]
  refine eq_rmax fun z => ?_
  rw [rmax_le]
  constructor
  · intro h k hk
    have := (wAcc_le X A W hA i 191 (by omega) _ z).1 (h (k % 8) (by omega)) (k / 16) (by omega)
    rw [a0_ix2, a1_ix2, Nat.mod_eq_of_lt h1] at this
    rcases Nat.lt_or_ge (k % 16) 8 with g | g
    · rw [show k = 16 * (k / 16) + k % 8 % 8 by omega]
      exact this.1
    · rw [show k = 16 * (k / 16) + (8 + k % 8 % 8) by omega]
      exact this.2
  · intro h r hr
    refine (wAcc_le X A W hA i 191 (by omega) _ z).2 fun k hk => ?_
    rw [a0_ix2, a1_ix2, Nat.mod_eq_of_lt h1]
    exact ⟨h _ (by omega), h _ (by omega)⟩

theorem we_at (i : ℕ) (y : (T2 1 512).Idx) : expE (wa X A W i y) = weF X A W (512 * i + a1 y) := by
  rw [wa_at X A W hA]; rfl

theorem wscSpec_at (x : (T2 1 8192).Idx) : wscSpec X A W x = wscF X A W (a1 x) := by
  have h1 := a1_lt x
  unfold wscSpec glue2 wscF
  beta_reduce
  rw [scaleOf_eq, we_at X A W hA, a1_ix2]
  congr 2; omega

theorem wscbSpec_at (i : ℕ) (x : (T2 3 512).Idx) : wscbSpec X A W i x = wscF X A W (512 * i + a1 x) := by
  have h1 := a1_lt x
  unfold wscbSpec wscF
  rw [cast_self, scaleOf_eq, we_at X A W hA, a1_ix2, Nat.mod_eq_of_lt h1]

theorem wcbSpec_at (i : ℕ) (x : (T3 3 3072 512).Idx) : wcbSpec X A W i x = wcF X A W (c1 x) (512 * i + c2 x) := by
  have h1 := c1_lt x; have h2 := c2_lt x
  unfold wcbSpec wLo
  rw [wq_at]
  unfold blk2
  rw [wsSpec_at X A W hA, invOf_eq, we_at X A W hA]
  simp only [a0_ix2, a1_ix2, c1_ix3, c2_ix3]
  unfold wcF
  rw [Nat.mod_eq_of_lt h2, Nat.mod_eq_of_lt h2, show (32 * (c1 x / 32) + c1 x % 32 % 32 % 32) % 3072 = c1 x by omega,
    show (0 + c2 x) % 512 = c2 x by omega]

theorem wcSpec_at (x : (T2 3072 8192).Idx) : wcSpec X A W x = wcF X A W (a0 x) (a1 x) := by
  have h0 := a0_lt x; have h1 := a1_lt x
  unfold wcSpec
  rw [wcbSpec_at X A W hA, c1_ix3, c2_ix3]
  congr 1 <;> omega

/-! ### The result -/

theorem xc_blk (h r k : ℕ) (hh : h < 2) (hr : r < 512) (hk : k < 3072) :
    blk2 512 3072 (512 * h) 0 (xcSpec X A) (ix2 r k) = xcF X A (512 * h + r) k := by
  unfold blk2
  rw [xcSpec_at X A hA]
  simp only [a0_ix2, a1_ix2]
  rw [show (512 * h + r % 512) % 1024 = 512 * h + r by omega, show (0 + k % 3072) % 3072 = k by omega]

theorem xs_blk (h r j : ℕ) (hh : h < 2) (hr : r < 512) :
    blk2 512 128 (512 * h) 0 (xsrepSpec X A) (ix2 r j) = xscF X A (512 * h + r) := by
  unfold blk2
  rw [xsrepSpec_at X A hA]
  simp only [a0_ix2]
  rw [show (512 * h + r % 512) % 1024 = 512 * h + r by omega]

theorem wc_tile (i k n : ℕ) (hk : k < 3072) (hn : n < 512) :
    wcbSpec X A W i (ix3 0 (c1 (ix3 0 k n : (T3 1 3072 512).Idx)) (c2 (ix3 0 k n : (T3 1 3072 512).Idx))) = wcF X A W k (512 * i + n) := by
  rw [wcbSpec_at X A W hA]
  simp only [c1_ix3, c2_ix3]
  rw [Nat.mod_mod, Nat.mod_mod, Nat.mod_eq_of_lt hk, Nat.mod_eq_of_lt hn]

theorem wsc_tile (i n : ℕ) (hn : n < 512) :
    wscbSpec X A W i (ix2 0 (a1 (ix2 0 n : (T2 1 512).Idx))) = wscF X A W (512 * i + n) := by
  rw [wscbSpec_at X A W hA]
  simp only [a1_ix2]
  rw [Nat.mod_mod, Nat.mod_eq_of_lt hn]

theorem ybSpec_at (i : ℕ) (x : (T3 3 1024 512).Idx) : ybSpec X A W i x = yF X A W (c1 x) (512 * i + c2 x) := by
  have h1 := c1_lt x
  have h2 := c2_lt x
  have e1 : c1 (ix3 0 (c1 x % 512) (c2 x) : (T3 1 512 512).Idx) = c1 x % 512 := by rw [c1_ix3]; omega
  have e2 : c2 (ix3 0 (c1 x % 512) (c2 x) : (T3 1 512 512).Idx) = c2 x := by rw [c2_ix3]; omega
  have e3 : 512 * (c1 x / 512) + c1 x % 512 = c1 x := by omega
  unfold ybSpec
  rw [yVal_at, e1, e2, xs_blk X A hA _ _ _ (by omega) (by omega), wsc_tile X A W hA _ _ h2, e3]
  unfold yF
  refine congrArg (fun s => s * xscF X A (c1 x) * wscF X A W (512 * i + c2 x)) (Finset.sum_congr rfl fun k _ => ?_)
  rw [xc_blk X A hA _ _ _ (by omega) (by omega) k.isLt, wc_tile X A W hA _ _ _ k.isLt h2, e3]

theorem ySpec_at (x : (T2 1024 8192).Idx) : ySpec X A W x = yF X A W (a0 x) (a1 x) := by
  have h0 := a0_lt x; have h1 := a1_lt x
  unfold ySpec
  rw [ybSpec_at X A W hA, c1_ix3, c2_ix3]
  congr 1 <;> omega

end Cert.Fp8
-- ==== Proof.Closed.lean ====
module

public import proofs.«01_k».proof.Proof.Forms

@[expose] public section

noncomputable section

/-! The six results as arrays of the closed forms. -/

namespace Cert.Fp8

open Idealize.ShloMosaic

variable (X : FVec Ideal (T2 1024 3072) .bf16) (A : FVec Ideal (T2 1 3072) .f32) (W : FVec Ideal (T2 3072 8192) .bf16)

/-- The product. -/
def yC : FVec Ideal (T2 1024 8192) .bf16 := fun x => yF X A W (a0 x) (a1 x)
/-- The smoothing factors. -/
def sC : FVec Ideal (T2 1 3072) .f32 := fun x => sF X A (a1 x)
/-- The weights' codes. -/
def wcC : FVec Ideal (T2 3072 8192) .fp8e4m3 := fun x => wcF X A W (a0 x) (a1 x)
/-- The weights' scales. -/
def wscC : FVec Ideal (T2 1 8192) .f32 := fun x => wscF X A W (a1 x)
/-- The input's codes. -/
def xcC : FVec Ideal (T2 1024 3072) .fp8e4m3 := fun x => xcF X A (a0 x) (a1 x)
/-- The input's scales. -/
def xscC : FVec Ideal (T2 4 256) .f32 := fun x => xscF X A (256 * a0 x + a1 x)

end Cert.Fp8
-- ==== Proof.KValues.lean ====
module

public import proofs.«01_k».proof.Proof.LaunchIdeal
public import proofs.«01_k».proof.Proof.KForms
public import proofs.«01_k».proof.Proof.Closed
public import Idealize.ShloMosaic.Lib.StableHlo.RunRead
public import Idealize.ShloMosaic.Lib.StableHlo.ReadAt

@[expose] public section

noncomputable section

/-! What every run of the kernel leaves in its results, in closed form. -/

namespace Cert.KernelIdeal.Run

open Cert.KernelIdeal Cert.KernelIdeal.Gen Idealize.ShloMosaic Idealize.ShloMosaic.TcCoe Idealize.SL.Sem
open Cert.Fp8

variable (m : (ℓ : Loc nD τ sig) → Buf (Elt Ideal) ℓ) (ρ : Dev nD → PrngReg)

set_option maxRecDepth 65536

/-- The input as a matrix. -/
theorem X_eq (c : Dev nD) : X m c = shapeCast S1024x3072 (m ((c.tc : Thread nD τ).loc main_arg0) : FVec Ideal S4x256x3072 .bf16) shapeCasts_S4x256x3072_S1024x3072 := by
  show V m c main_v0 = _
  unfold V
  after_reads_simp
  rfl

/-- The weights' largest magnitudes as a row. -/
theorem A_eq' (c : Dev nD) : A m c = shapeCast S1x3072 (m ((c.tc : Thread nD τ).loc main_arg2) : FVec Ideal S3072 .f32) shapeCasts_S3072_S1x3072 := by
  show V m c main_v1 = _
  unfold V
  after_reads_simp
  rfl

/-- The weights. -/
theorem W_eq (c : Dev nD) : W m c = (m ((c.tc : Thread nD τ).loc main_arg1) : FVec Ideal S3072x8192 .bf16) := V_main_arg1 m c

/-- Every run ends with the six results at their closed forms and the arguments as they were. -/
theorem forms (hA : ∀ c x, A m c x < (⊤ : EReal)) : θ_run defs (onTc (τ := τ) (main (F := Ideal))) ⟨m, fun _ => 0, ρ⟩ fun r => ∀ c : Dev nD,
      r.2.mem ((c.tc : Thread nD τ).loc main_v2_0) = yC (X m c) (A m c) (W m c)
      ∧ r.2.mem ((c.tc : Thread nD τ).loc main_v2_1) = sC (X m c) (A m c)
      ∧ r.2.mem ((c.tc : Thread nD τ).loc main_v2_2) = wcC (X m c) (A m c) (W m c)
      ∧ r.2.mem ((c.tc : Thread nD τ).loc main_v2_3) = wscC (X m c) (A m c) (W m c)
      ∧ r.2.mem ((c.tc : Thread nD τ).loc main_v2_4) = xcC (X m c) (A m c)
      ∧ r.2.mem ((c.tc : Thread nD τ).loc main_v2_5) = xscC (X m c) (A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2, h3, h4, h5, h6⟩ := h.1 c
    exact ⟨h0.trans (funext fun x => ySpec_at _ _ _ (hA c) x), h1.trans (funext fun x => sSpec_at _ _ (hA c) x),
      h2.trans (funext fun x => wcSpec_at _ _ _ (hA c) x), h3.trans (funext fun x => wscSpec_at _ _ _ (hA c) x),
      h4.trans (funext fun x => xcSpec_at _ _ (hA c) x), h5.trans (funext fun x => xscSpec_at _ _ (hA c) x), h6⟩) (values m ρ)

end Cert.KernelIdeal.Run
-- ==== Proof.RefBlk.lean ====
module

public import proofs.«01_k».proof.Proof.Gen.ReferenceIdeal.Value
public import Idealize.ShloMosaic.Lib.Pipeline.ValueKit

@[expose] public section

noncomputable section

/-! Every window of the reference's call takes its whole array. -/

namespace Cert.ReferenceIdeal.Run

open Cert.ReferenceIdeal Cert.ReferenceIdeal.Gen Idealize.ShloMosaic Idealize.ShloMosaic.TcCoe Idealize.SL.Sem

set_option maxRecDepth 65536
set_option maxHeartbeats 0

theorem t_zero (t : Fin cfg0.N) : t.val = 0 := by
  have h : cfg0.N = 1 := by decide +kernel
  have := t.isLt
  omega

theorem at0 : ∀ (t : Fin grid0.N) (a : Fin 2), win0_0.index t a = 0 := by decide +kernel

theorem at1 : ∀ (t : Fin grid0.N) (a : Fin 2), win0_1.index t a = 0 := by decide +kernel

theorem at2 : ∀ (t : Fin grid0.N) (a : Fin 2), win0_2.index t a = 0 := by decide +kernel

theorem at3 : ∀ (t : Fin grid0.N) (a : Fin 2), win0_3.index t a = 0 := by decide +kernel

theorem at4 : ∀ (t : Fin grid0.N) (a : Fin 2), win0_4.index t a = 0 := by decide +kernel

theorem at5 : ∀ (t : Fin grid0.N) (a : Fin 2), win0_5.index t a = 0 := by decide +kernel

theorem at6 : ∀ (t : Fin grid0.N) (a : Fin 2), win0_6.index t a = 0 := by decide +kernel

theorem rd0 (f : FVec Ideal S1024x3072 .f32) (t : Fin cfg0.N) (y : S1024x3072.Idx) :
    (View.read (Elt Ideal) ((cfg0.win 0).blk t).view f : FVec Ideal S1024x3072 .f32) y = f y := by
  show f (((cfg0.win 0).blk t).view.emb y) = f y
  refine congrArg f (funext fun a => Fin.ext ?_)
  blk_simp
  exact (congrArg (fun z => z * win0_0.size a + (y a).val) (at0 t a)).trans (by rw [Nat.zero_mul, Nat.zero_add])

theorem rd1 (f : FVec Ideal S3072x8192 .f32) (t : Fin cfg0.N) (y : S3072x8192.Idx) :
    (View.read (Elt Ideal) ((cfg0.win 1).blk t).view f : FVec Ideal S3072x8192 .f32) y = f y := by
  show f (((cfg0.win 1).blk t).view.emb y) = f y
  refine congrArg f (funext fun a => Fin.ext ?_)
  blk_simp
  exact (congrArg (fun z => z * win0_1.size a + (y a).val) (at1 t a)).trans (by rw [Nat.zero_mul, Nat.zero_add])

theorem rd2 (f : FVec Ideal S1024x1 .f32) (t : Fin cfg0.N) (y : S1024x1.Idx) :
    (View.read (Elt Ideal) ((cfg0.win 2).blk t).view f : FVec Ideal S1024x1 .f32) y = f y := by
  show f (((cfg0.win 2).blk t).view.emb y) = f y
  refine congrArg f (funext fun a => Fin.ext ?_)
  blk_simp
  exact (congrArg (fun z => z * win0_2.size a + (y a).val) (at2 t a)).trans (by rw [Nat.zero_mul, Nat.zero_add])

theorem rd3 (f : FVec Ideal S1x8192 .f32) (t : Fin cfg0.N) (y : S1x8192.Idx) :
    (View.read (Elt Ideal) ((cfg0.win 3).blk t).view f : FVec Ideal S1x8192 .f32) y = f y := by
  show f (((cfg0.win 3).blk t).view.emb y) = f y
  refine congrArg f (funext fun a => Fin.ext ?_)
  blk_simp
  exact (congrArg (fun z => z * win0_3.size a + (y a).val) (at3 t a)).trans (by rw [Nat.zero_mul, Nat.zero_add])

end Cert.ReferenceIdeal.Run
-- ==== Proof.RefHost.lean ====
module

public import proofs.«01_k».proof.Proof.Gen.ReferenceIdeal.Frame
public import Idealize.ShloMosaic.Lib.StableHlo.ReadAt
public import proofs.«01_k».proof.Proof.Forms

@[expose] public section

noncomputable section

/-! What the reference's host operations leave, entry by entry. -/

namespace Cert.ReferenceIdeal.Run

open Cert.ReferenceIdeal Cert.ReferenceIdeal.Gen Idealize.ShloMosaic Idealize.ShloMosaic.TcCoe Idealize.SL.Sem
open Cert.Fp8

variable (m : (ℓ : Loc nD τ sig) → Buf (Elt Ideal) ℓ) (c : Dev nD)

/-- The index `k` on one axis. -/
def i1 {n : ℕ} (k : ℕ) (h : k < n) : (⟨1, ![n]⟩ : Shape).Idx := fun t => ⟨k, by fin_cases t; exact h⟩
/-- The index `(i, j)` on two axes. -/
def i2 {a b : ℕ} (i j : ℕ) (h : i < a) (h' : j < b) : (⟨2, ![a, b]⟩ : Shape).Idx :=
  fun t => ⟨(![i, j] : Fin 2 → ℕ) t, by fin_cases t; exacts [h, h']⟩

/-- The input as a matrix. -/
def X : FVec Ideal (T2 1024 3072) .bf16 := shapeCast S1024x3072 (m (c, Proc.devRef .tc main_arg0) : FVec Ideal S4x256x3072 .bf16)
  shapeCasts_S4x256x3072_S1024x3072
/-- The weights' largest magnitudes as a row. -/
def A : FVec Ideal (T2 1 3072) .f32 := shapeCast S1x3072 (m (c, Proc.devRef .tc main_arg2) : FVec Ideal S3072 .f32) shapeCasts_S3072_S1x3072
/-- The weights. -/
def W : FVec Ideal (T2 3072 8192) .bf16 := (m (c, Proc.devRef .tc main_arg1) : FVec Ideal S3072x8192 .bf16)

/-- The row's entries. -/
theorem A_at (j : ℕ) (hj : j < 3072) (i : S3072.Idx) (hi : (i 0).val = j) :
    A m c (ix2 0 j) = (m (c, Proc.devRef .tc main_arg2) : FVec Ideal S3072 .f32) i := by
  unfold A
  refine shapeCast_apply _ _ _ i ?_
  rw [Shape.rowMajor_val_one, Shape.rowMajor_val_two, hi]
  show j = (0 % 1) * 3072 + j % 3072
  omega

set_option maxRecDepth 65536
set_option maxHeartbeats 0

/-- A quotient of two powers, entry by entry. -/
theorem sform (R B : FVec Ideal S3072 .f32) (p q : BitVec 32) (j : S3072.Idx) :
    Host.divf (Host.powf (maximumf R (broadcastInDim S3072 ![] bcast_S_S3072 (constant S_ FTy.f32 p)))
        (broadcastInDim S3072 ![] bcast_S_S3072 (constant S_ FTy.f32 q)))
      (Host.powf (maximumf B (broadcastInDim S3072 ![] bcast_S_S3072 (constant S_ FTy.f32 p)))
        (broadcastInDim S3072 ![] bcast_S_S3072 (constant S_ FTy.f32 q))) j
      = Ideal.div (Ideal.pow (max (R j) (Ideal.ofBits .f32 p)) (Ideal.ofBits .f32 q))
        (Ideal.pow (max (B j) (Ideal.ofBits .f32 p)) (Ideal.ofBits .f32 q)) := rfl

/-- The smoothing factors. -/
theorem v12_at (j : S3072.Idx) : (V m c main_v12 : FVec Ideal S3072 .f32) j = sF (X m c) (A m c) (j 0).val := by
  unfold V
  after_reads_simp
  have h := host_max (Host.absf (F := Ideal) (X m c : FVec Ideal S1024x3072 .f32)) reducesTo_S1024x3072_S3072_d0 (by decide) h_S_ j 1024 rfl
    (fun t => mag (X m c (ix2 t (j 0).val))) fun k => by
      show mag (X m c _) = _
      refine congrArg (fun x => mag (X m c x)) (ext2 ?_ ?_)
      · exact (Nat.mod_eq_of_lt k.isLt).symm
      · exact (Nat.mod_eq_of_lt (j 0).isLt).symm
  generalize hR : Host.reduce (FloatOps.maximumf (F := Ideal) (φ := .f32)) _ _ reducesTo_S1024x3072_S3072_d0 h_S_ = R
  have hRj : R j = rmax 1024 fun t => mag (X m c (ix2 t (j 0).val)) := by rw [← hR]; exact h
  unfold sF sE cmin
  rw [A_at m c _ (j 0).isLt j rfl, ← hRj]
  exact sform R _ _ _ j

/-- The scaled weights. -/
theorem v16_at (i : S3072x8192.Idx) :
    (V m c main_v16 : FVec Ideal S3072x8192 .f32) i = wF (X m c) (A m c) (W m c) (i 0).val (i 1).val := by
  have h : _ = sF (X m c) (A m c) (i 0).val := v12_at m c (i1 (i 0).val (i 0).isLt)
  unfold wF
  rw [← h]
  unfold V
  after_reads_simp
  generalize Host.divf (F := Ideal) (s := S3072) (φ := .f32) _ _ = s
  have e : W m c (ix2 (i 0).val (i 1).val) = (m (c, Proc.devRef .tc main_arg1) : FVec Ideal S3072x8192 .bf16) i :=
    (at_ix2 (a := 3072) (b := 8192) (W m c) i _ _ rfl rfl).symm
  rw [e]
  show _ * _ = _ * _
  congr 1
  rw [broadcastInDim_apply _ _ _ i (i2 (i 0).val 0 (i 0).isLt (by decide) : S3072x1.Idx) (by intro a; fin_cases a <;> rfl),
    broadcastInDim_apply _ _ _ _ (i1 (i 0).val (i 0).isLt : S3072.Idx) (by intro a; fin_cases a; rfl)]

/-- Their largest magnitudes by column. -/
theorem v18_at (n : S8192.Idx) :
    (V m c main_v18 : FVec Ideal S8192 .f32) n = rmax 3072 fun k => mag (wF (X m c) (A m c) (W m c) k (n 0).val) := by
  have h := host_max (Host.absf (F := Ideal) (V m c main_v16 : FVec Ideal S3072x8192 .f32)) reducesTo_S3072x8192_S8192_d0 (show S3072x8192.Reduces [0] S8192 by decide)
    h_S_ n 3072 rfl (fun k => mag (wF (X m c) (A m c) (W m c) k (n 0).val)) fun k => by
      show mag (V m c main_v16 _) = _
      rw [v16_at]
      rfl
  rw [← h]
  unfold V
  after_reads_simp

end Cert.ReferenceIdeal.Run
-- ==== Proof.RefExp.lean ====
module

public import proofs.«01_k».proof.Proof.RefHost

@[expose] public section

noncomputable section

/-! The reference's exponents, scales and codes, entry by entry. -/

namespace Cert.ReferenceIdeal.Run

open Cert.ReferenceIdeal Cert.ReferenceIdeal.Gen Idealize.ShloMosaic Idealize.ShloMosaic.TcCoe Idealize.SL.Sem
open Cert.Fp8

variable (m : (ℓ : Loc nD τ sig) → Buf (Elt Ideal) ℓ) (c : Dev nD)

set_option maxRecDepth 65536
set_option maxHeartbeats 0

section
variable {S : Shape} (hb : S_.BroadcastsInDim S (![] : Fin 0 → Fin S.rank))

/-- Two to the power `e`, as the reference has it. -/
def ldR (e : IVec S 32) : FVec Ideal S .f32 :=
  select (cmpi .sge e (broadcastInDim S ![] hb (constantI S_ 32 128#32))) (broadcastInDim S ![] hb (constant S_ .f32 2139095040#32))
    (select (cmpi .sle e (broadcastInDim S ![] hb (constantI S_ 32 4294967169#32))) (broadcastInDim S ![] hb (constant S_ .f32 0#32))
      (Host.powf (broadcastInDim S ![] hb (constant S_ .f32 1073741824#32)) (sitofp .f32 e)))

/-- Its entry, with the literals left open. -/
theorem ldForm (e : IVec S 32) (a b : BitVec 32) (p q r : BitVec 32) (i : S.Idx) :
    select (cmpi .sge e (broadcastInDim S ![] hb (constantI S_ 32 a))) (broadcastInDim S ![] hb (constant (F := Ideal) S_ .f32 p))
      (select (cmpi .sle e (broadcastInDim S ![] hb (constantI S_ 32 b))) (broadcastInDim S ![] hb (constant (F := Ideal) S_ .f32 q))
        (Host.powf (broadcastInDim S ![] hb (constant (F := Ideal) S_ .f32 r)) (sitofp .f32 e))) i
      = Scalar.select (IntOp.cmpi .sge (e i) a) (Ideal.ofBits .f32 p)
        (Scalar.select (IntOp.cmpi .sle (e i) b) (Ideal.ofBits .f32 q) (Ideal.pow (Ideal.ofBits .f32 r) (((e i).toInt : ℝ) : EReal))) := rfl

theorem ldR_at (e : IVec S 32) (i : S.Idx) : ldR hb e i = ldE (e i) := (ldForm hb e _ _ _ _ _ i).trans (ldE_ref (e i))

/-- The exponent for a largest magnitude, given how many powers of two are at most its quotient. -/
def expR (R : FVec Ideal S .f32) (n : IVec S 32) : IVec S 32 :=
  select (cmpf .oeq R (broadcastInDim S ![] hb (constant S_ .f32 0#32))) (broadcastInDim S ![] hb (constantI S_ 32 0#32))
    (select (ori (cmpi .eq n (broadcastInDim S ![] hb (constantI S_ 32 0#32)))
        (cmpf .oeq (mulf R (broadcastInDim S ![] hb (constant S_ .f32 991054117#32))) (broadcastInDim S ![] hb (constant S_ .f32 2139095040#32))))
      (broadcastInDim S ![] hb (constantI S_ 32 0#32)) (subi n (broadcastInDim S ![] hb (constantI S_ 32 126#32))))

/-- Its entry, with the literals left open. -/
theorem expForm (R : FVec Ideal S .f32) (n : IVec S 32) (p q r : BitVec 32) (a b d f : BitVec 32) (i : S.Idx) :
    select (cmpf .oeq R (broadcastInDim S ![] hb (constant S_ .f32 p))) (broadcastInDim S ![] hb (constantI S_ 32 a))
      (select (ori (cmpi .eq n (broadcastInDim S ![] hb (constantI S_ 32 b)))
          (cmpf .oeq (mulf R (broadcastInDim S ![] hb (constant S_ .f32 q))) (broadcastInDim S ![] hb (constant S_ .f32 r))))
        (broadcastInDim S ![] hb (constantI S_ 32 d)) (subi n (broadcastInDim S ![] hb (constantI S_ 32 f)))) i
      = Scalar.select (Ideal.cmp .oeq (R i) (Ideal.ofBits .f32 p)) a
        (Scalar.select (IntOp.ori (IntOp.cmpi .eq (n i) b) (Ideal.cmp .oeq (R i * Ideal.ofBits .f32 q) (Ideal.ofBits .f32 r))) d (n i - f)) := rfl

theorem expR_at (R : FVec Ideal S .f32) (n : IVec S 32) (i : S.Idx)
    (hn : n i = BitVec.ofNat 32 (min (kOf (R i * Ideal.ofBits .f32 0x3B124925#32)) 254)) : expR hb R n i = expE (R i) :=
  (expForm hb R n _ _ _ _ _ _ _ i).trans (expE_ref (R i) _ rfl (n i) hn)

end

/-- The powers of two that the reference counts. -/
def pows : FVec Ideal S254 .f32 :=
  Host.powf (broadcastInDim S254 ![] bcast_S_S254 (constant S_ .f32 1073741824#32))
    (sitofp .f32 (subi (iotaInDim S254 32 0) (broadcastInDim S254 ![] bcast_S_S254 (constantI S_ 32 126#32))))

theorem powForm (r a : BitVec 32) (i : S254.Idx) :
    Host.powf (F := Ideal) (broadcastInDim S254 ![] bcast_S_S254 (constant S_ .f32 r))
      (sitofp .f32 (subi (iotaInDim S254 32 0) (broadcastInDim S254 ![] bcast_S_S254 (constantI S_ 32 a)))) i
      = Ideal.pow (Ideal.ofBits .f32 r) (((BitVec.ofNat 32 (i 0).val - a).toInt : ℝ) : EReal) := rfl

theorem pows_at (i : S254.Idx) :
    pows i = Ideal.pow (Ideal.ofBits .f32 0x40000000#32) (((BitVec.ofNat 32 (i 0).val - 126#32).toInt : ℝ) : EReal) := powForm _ _ i

/-- How many of them are at most the quotient, for the weights' columns. -/
def cntW (R : FVec Ideal S8192 .f32) : IVec S8192 32 :=
  Host.reduce IntOp.addi (extui 32 (cmpf .oge (broadcastInDim S8192x254 ![0, 1] bcast_S8192x1_S8192x254_0_1
      (broadcastInDim S8192x1 ![0] bcast_S8192_S8192x1_0 (mulf R (broadcastInDim S8192 ![] bcast_S_S8192 (constant S_ .f32 991054117#32)))))
    (broadcastInDim S8192x254 ![0, 1] bcast_S1x254_S8192x254_0_1 (broadcastInDim S1x254 ![1] bcast_S254_S1x254_1 pows))) natLt_1_32)
    (constantI S_ 32 0#32) reducesTo_S8192x254_S8192_d1 h_S_

/-- The same for the input's rows. -/
def cntX (R : FVec Ideal S1024 .f32) : IVec S1024 32 :=
  Host.reduce IntOp.addi (extui 32 (cmpf .oge (broadcastInDim S1024x254 ![0, 1] bcast_S1024x1_S1024x254_0_1
      (broadcastInDim S1024x1 ![0] bcast_S1024_S1024x1_0 (mulf R (broadcastInDim S1024 ![] bcast_S_S1024 (constant S_ .f32 991054117#32)))))
    (broadcastInDim S1024x254 ![0, 1] bcast_S1x254_S1024x254_0_1 (broadcastInDim S1x254 ![1] bcast_S254_S1x254_1 pows))) natLt_1_32)
    (constantI S_ 32 0#32) reducesTo_S1024x254_S1024_d1 h_S_

theorem cmpf_at {S : Shape} (x y : FVec Ideal S .f32) (i : S.Idx) : cmpf .oge x y i = Ideal.cmp .oge (x i) (y i) := rfl

theorem mulLit {S : Shape} (hb : S_.BroadcastsInDim S (![] : Fin 0 → Fin S.rank)) (R : FVec Ideal S .f32) (p : BitVec 32) (i : S.Idx) :
    mulf R (broadcastInDim S ![] hb (constant S_ .f32 p)) i = R i * Ideal.ofBits .f32 p := rfl

theorem cntW_at (R : FVec Ideal S8192 .f32) (n : S8192.Idx) :
    cntW R n = BitVec.ofNat 32 (min (kOf (R n * Ideal.ofBits .f32 0x3B124925#32)) 254) := by
  rw [← count_eq]
  refine host_count _ reducesTo_S8192x254_S8192_d1 (show S8192x254.Reduces [1] S8192 by decide) h_S_ natLt_1_32 n _ ?_
  refine congrArg Finset.card (Finset.filter_congr fun k _ => ?_)
  rw [cmpf_at, broadcastInDim_apply _ _ _ _ (i2 (n 0).val 0 (n 0).isLt (by decide) : S8192x1.Idx) (by intro a; fin_cases a <;> rfl),
    broadcastInDim_apply _ _ _ _ n (by intro a; fin_cases a; rfl),
    broadcastInDim_apply _ _ _ _ (i2 0 k.val (by decide) k.isLt : S1x254.Idx) (by intro a; fin_cases a <;> rfl),
    broadcastInDim_apply _ _ _ _ (i1 k.val k.isLt : S254.Idx) (by intro a; fin_cases a; rfl), mulLit, pows_at]
  exact Iff.rfl

theorem cntX_at (R : FVec Ideal S1024 .f32) (n : S1024.Idx) :
    cntX R n = BitVec.ofNat 32 (min (kOf (R n * Ideal.ofBits .f32 0x3B124925#32)) 254) := by
  rw [← count_eq]
  refine host_count _ reducesTo_S1024x254_S1024_d1 (show S1024x254.Reduces [1] S1024 by decide) h_S_ natLt_1_32 n _ ?_
  refine congrArg Finset.card (Finset.filter_congr fun k _ => ?_)
  rw [cmpf_at, broadcastInDim_apply _ _ _ _ (i2 (n 0).val 0 (n 0).isLt (by decide) : S1024x1.Idx) (by intro a; fin_cases a <;> rfl),
    broadcastInDim_apply _ _ _ _ n (by intro a; fin_cases a; rfl),
    broadcastInDim_apply _ _ _ _ (i2 0 k.val (by decide) k.isLt : S1x254.Idx) (by intro a; fin_cases a <;> rfl),
    broadcastInDim_apply _ _ _ _ (i1 k.val k.isLt : S254.Idx) (by intro a; fin_cases a; rfl), mulLit, pows_at]
  exact Iff.rfl

/-- The weights' exponents, from the largest magnitudes. -/
theorem v44_eq : (V m c main_v44 : IVec S8192 32) = expR bcast_S_S8192 (V m c main_v18) (cntW (V m c main_v18)) := by
  unfold V
  after_reads_simp
  simp -implicitDefEqProofs only [StableHlo.TRef.toBuf, StableHlo.TRef.ofBuf, cast_cast, cast_eq, id]
  generalize hR : Host.reduce (FloatOps.maximumf (F := Ideal) (φ := .f32)) _ _ reducesTo_S3072x8192_S8192_d0 h_S_ = R
  rfl

theorem v44_at (n : S8192.Idx) : (V m c main_v44 : IVec S8192 32) n = weF (X m c) (A m c) (W m c) (n 0).val := by
  rw [v44_eq, expR_at _ _ _ _ (cntW_at _ n), v18_at]
  rfl

/-- The weights' scales, from the exponents. -/
theorem v67_eq : (V m c main_v67 : FVec Ideal S8192 .f32) = ldR bcast_S_S8192 (V m c main_v44) := by
  unfold V
  after_reads_simp
  simp -implicitDefEqProofs only [StableHlo.TRef.toBuf, StableHlo.TRef.ofBuf, cast_cast, cast_eq, id]
  generalize select (_ : IVec S8192 1) (_ : IVec S8192 32) _ = e
  rfl

theorem v67_at (n : S8192.Idx) : (V m c main_v67 : FVec Ideal S8192 .f32) n = wscF (X m c) (A m c) (W m c) (n 0).val := by
  rw [v67_eq, ldR_at, v44_at]
  rfl

theorem neg_at {S : Shape} (e : IVec S 32) (i : S.Idx) : negi e i = 0#32 - e i := by
  show -(e i) = _
  rw [BitVec.zero_sub]

/-- A product clipped, with the literals left open. -/
theorem clipForm {S : Shape} (hb : S_.BroadcastsInDim S (![] : Fin 0 → Fin S.rank)) (p q : BitVec 32) (v w : FVec Ideal S .f32) (i : S.Idx) :
    minimumf (broadcastInDim S ![] hb (constant S_ .f32 p)) (maximumf (broadcastInDim S ![] hb (constant S_ .f32 q)) (mulf v w)) i
      = min (Ideal.ofBits .f32 p) (max (Ideal.ofBits .f32 q) (v i * w i)) := rfl

/-- The weights' codes, from the scaled weights and the exponents. -/
theorem v58_eq : (V m c main_v58 : FVec Ideal S3072x8192 .f32) =
    minimumf (broadcastInDim S3072x8192 ![] bcast_S_S3072x8192 (constant S_ .f32 1138753536#32))
      (maximumf (broadcastInDim S3072x8192 ![] bcast_S_S3072x8192 (constant S_ .f32 3286237184#32))
        (mulf (V m c main_v16) (broadcastInDim S3072x8192 ![0, 1] bcast_S1x8192_S3072x8192_0_1
          (broadcastInDim S1x8192 ![1] bcast_S8192_S1x8192_1 (ldR bcast_S_S8192 (negi (V m c main_v44 : IVec S8192 32))))))) := by
  unfold V
  after_reads_simp
  simp -implicitDefEqProofs only [StableHlo.TRef.toBuf, StableHlo.TRef.ofBuf, cast_cast, cast_eq, id]
  generalize select (_ : IVec S8192 1) (_ : IVec S8192 32) _ = e
  generalize mulf (F := Ideal) (extf .f32 (m (c, Proc.tc.devRef main_arg1) : FVec Ideal S3072x8192 .bf16) bitsLt_bf16_f32) _ = v
  rfl

theorem v58_at (i : S3072x8192.Idx) :
    (V m c main_v58 : FVec Ideal S3072x8192 .f32) i = wcF (X m c) (A m c) (W m c) (i 0).val (i 1).val := by
  rw [v58_eq, clipForm, broadcastInDim_apply _ _ _ _ (i2 0 (i 1).val (by decide) (i 1).isLt : S1x8192.Idx) (by intro a; fin_cases a <;> rfl),
    broadcastInDim_apply _ _ _ _ (i1 (i 1).val (i 1).isLt : S8192.Idx) (by intro a; fin_cases a; rfl), ldR_at, neg_at, v44_at, v16_at]
  rfl

/-- The input as the reference has it. -/
theorem v1_at (i : S1024x3072.Idx) : (V m c main_v1 : FVec Ideal S1024x3072 .f32) i = X m c (ix2 (i 0).val (i 1).val) := by
  refine Eq.trans (b := (X m c : FVec Ideal S1024x3072 .bf16) i) ?_ (at_ix2 (a := 1024) (b := 3072) (X m c) i _ _ rfl rfl)
  unfold V
  after_reads_simp
  rfl

/-- The scaled input, from the input and the smoothing factors. -/
theorem v70_eq : (V m c main_v70 : FVec Ideal S1024x3072 .f32) =
    Host.divf (F := Ideal) (φ := .f32) (V m c main_v1 : FVec Ideal S1024x3072 .f32) (broadcastInDim S1024x3072 ![0, 1] bcast_S1x3072_S1024x3072_0_1
      (broadcastInDim S1x3072 ![1] bcast_S3072_S1x3072_1 (V m c main_v12 : FVec Ideal S3072 .f32))) := by
  unfold V
  after_reads_simp

theorem v70_at (i : S1024x3072.Idx) : (V m c main_v70 : FVec Ideal S1024x3072 .f32) i = xF (X m c) (A m c) (i 0).val (i 1).val := by
  rw [v70_eq]
  show Ideal.div _ _ = _
  rw [broadcastInDim_apply _ _ _ _ (i2 0 (i 1).val (by decide) (i 1).isLt : S1x3072.Idx) (by intro a; fin_cases a <;> rfl),
    broadcastInDim_apply _ _ _ _ (i1 (i 1).val (i 1).isLt : S3072.Idx) (by intro a; fin_cases a; rfl), v12_at, v1_at]
  rfl

/-- Its largest magnitudes by row. -/
theorem v72_at (t : S1024.Idx) :
    (V m c main_v72 : FVec Ideal S1024 .f32) t = rmax 3072 fun k => mag (xF (X m c) (A m c) (t 0).val k) := by
  have h := host_max (Host.absf (F := Ideal) (V m c main_v70 : FVec Ideal S1024x3072 .f32)) reducesTo_S1024x3072_S1024_d1 (show S1024x3072.Reduces [1] S1024 by decide)
    h_S_ t 3072 rfl (fun k => mag (xF (X m c) (A m c) (t 0).val k)) fun k => by
      show mag (V m c main_v70 _) = _
      rw [v70_at]
      rfl
  rw [← h]
  unfold V
  after_reads_simp

/-- The input's exponents, from the largest magnitudes. -/
theorem v98_eq : (V m c main_v98 : IVec S1024 32) = expR bcast_S_S1024 (V m c main_v72) (cntX (V m c main_v72)) := by
  unfold V
  after_reads_simp
  simp -implicitDefEqProofs only [StableHlo.TRef.toBuf, StableHlo.TRef.ofBuf, cast_cast, cast_eq, id]
  generalize hR : Host.reduce (FloatOps.maximumf (F := Ideal) (φ := .f32)) _ _ reducesTo_S1024x3072_S1024_d1 h_S_ = R
  rfl

theorem v98_at (t : S1024.Idx) : (V m c main_v98 : IVec S1024 32) t = xeF (X m c) (A m c) (t 0).val := by
  rw [v98_eq, expR_at _ _ _ _ (cntX_at _ t), v72_at]
  rfl

/-- The input's scales, from the exponents. -/
theorem v121_eq : (V m c main_v121 : FVec Ideal S1024 .f32) = ldR bcast_S_S1024 (V m c main_v98) := by
  unfold V
  after_reads_simp
  simp -implicitDefEqProofs only [StableHlo.TRef.toBuf, StableHlo.TRef.ofBuf, cast_cast, cast_eq, id]
  generalize select (_ : IVec S1024 1) (_ : IVec S1024 32) _ = e
  rfl

theorem v121_at (t : S1024.Idx) : (V m c main_v121 : FVec Ideal S1024 .f32) t = xscF (X m c) (A m c) (t 0).val := by
  rw [v121_eq, ldR_at, v98_at]
  rfl

/-- The input's codes, from the scaled input and the exponents. -/
theorem v112_eq : (V m c main_v112 : FVec Ideal S1024x3072 .f32) =
    minimumf (broadcastInDim S1024x3072 ![] bcast_S_S1024x3072 (constant S_ .f32 1138753536#32))
      (maximumf (broadcastInDim S1024x3072 ![] bcast_S_S1024x3072 (constant S_ .f32 3286237184#32))
        (mulf (V m c main_v70) (broadcastInDim S1024x3072 ![0, 1] bcast_S1024x1_S1024x3072_0_1
          (broadcastInDim S1024x1 ![0] bcast_S1024_S1024x1_0 (ldR bcast_S_S1024 (negi (V m c main_v98 : IVec S1024 32))))))) := by
  unfold V
  after_reads_simp
  simp -implicitDefEqProofs only [StableHlo.TRef.toBuf, StableHlo.TRef.ofBuf, cast_cast, cast_eq, id]
  generalize select (_ : IVec S1024 1) (_ : IVec S1024 32) _ = e
  generalize Host.divf (s := S1024x3072) (F := Ideal) (φ := .f32) _ _ = v
  rfl

theorem v112_at (i : S1024x3072.Idx) :
    (V m c main_v112 : FVec Ideal S1024x3072 .f32) i = xcF (X m c) (A m c) (i 0).val (i 1).val := by
  rw [v112_eq, clipForm, broadcastInDim_apply _ _ _ _ (i2 (i 0).val 0 (i 0).isLt (by decide) : S1024x1.Idx) (by intro a; fin_cases a <;> rfl),
    broadcastInDim_apply _ _ _ _ (i1 (i 0).val (i 0).isLt : S1024.Idx) (by intro a; fin_cases a; rfl), ldR_at, neg_at, v98_at, v70_at]
  rfl

end Cert.ReferenceIdeal.Run
-- ==== Proof.RefCall.lean ====
module

public import proofs.«01_k».proof.Proof.RefExp
public import proofs.«01_k».proof.Proof.KMath
public import proofs.«01_k».proof.Proof.Gen.ReferenceIdeal.Value
public import Idealize.ShloMosaic.Lib.Pipeline.ValueKit

@[expose] public section

noncomputable section

/-! What every result of the reference holds, in the closed forms. -/

namespace Cert.ReferenceIdeal.Run

open Cert.ReferenceIdeal Cert.ReferenceIdeal.Gen Idealize.ShloMosaic Idealize.ShloMosaic.TcCoe Idealize.SL.Sem
open Cert.Fp8

variable (m : (ℓ : Loc nD τ sig) → Buf (Elt Ideal) ℓ) (c : Dev nD)

set_option maxRecDepth 65536
set_option maxHeartbeats 0

/-! ### The last host buffers -/

theorem v122_at (i : S1x3072.Idx) : (V m c main_v122 : FVec Ideal S1x3072 .f32) i = sF (X m c) (A m c) (i 1).val := by
  have e : (V m c main_v122 : FVec Ideal S1x3072 .f32) = shapeCast S1x3072 (V m c main_v12 : FVec Ideal S3072 .f32) shapeCasts_S3072_S1x3072 := by
    unfold V
    after_reads_simp
    rfl
  rw [e, row_of (n := 3072), v12_at]
  exact congrArg (sF (X m c) (A m c)) (Nat.mod_eq_of_lt (i 1).isLt)

theorem v123_at (i : S1x8192.Idx) : (V m c main_v123 : FVec Ideal S1x8192 .f32) i = wscF (X m c) (A m c) (W m c) (i 1).val := by
  have e : (V m c main_v123 : FVec Ideal S1x8192 .f32) = shapeCast S1x8192 (V m c main_v67 : FVec Ideal S8192 .f32) shapeCasts_S8192_S1x8192 := by
    unfold V
    after_reads_simp
    simp -implicitDefEqProofs only [StableHlo.TRef.toBuf, StableHlo.TRef.ofBuf, cast_cast, cast_eq, id]
    generalize select (_ : IVec S8192 1) (_ : FVec Ideal S8192 .f32) _ = e
    rfl
  rw [e, row_of (n := 8192), v67_at]
  exact congrArg (wscF (X m c) (A m c) (W m c)) (Nat.mod_eq_of_lt (i 1).isLt)

theorem v124_at (i : S1024x1.Idx) : (V m c main_v124 : FVec Ideal S1024x1 .f32) i = xscF (X m c) (A m c) (i 0).val := by
  have e : (V m c main_v124 : FVec Ideal S1024x1 .f32) = shapeCast S1024x1 (V m c main_v121 : FVec Ideal S1024 .f32) shapeCasts_S1024_S1024x1 := by
    unfold V
    after_reads_simp
    simp -implicitDefEqProofs only [StableHlo.TRef.toBuf, StableHlo.TRef.ofBuf, cast_cast, cast_eq, id]
    generalize select (_ : IVec S1024 1) (_ : FVec Ideal S1024 .f32) _ = e
    rfl
  rw [e, col_of (n := 1024), v121_at]
  exact congrArg (xscF (X m c) (A m c)) (Nat.mod_eq_of_lt (i 0).isLt)

theorem v125_at (i : S4x256.Idx) : (V m c main_v125 : FVec Ideal S4x256 .f32) i = xscF (X m c) (A m c) (256 * (i 0).val + (i 1).val) := by
  have e : (V m c main_v125 : FVec Ideal S4x256 .f32) = shapeCast S4x256 (V m c main_v121 : FVec Ideal S1024 .f32) shapeCasts_S1024_S4x256 := by
    unfold V
    after_reads_simp
    simp -implicitDefEqProofs only [StableHlo.TRef.toBuf, StableHlo.TRef.ofBuf, cast_cast, cast_eq, id]
    generalize select (_ : IVec S1024 1) (_ : FVec Ideal S1024 .f32) _ = e
    rfl
  have h0 : (i 0).val < 4 := (i 0).isLt
  have h1 : (i 1).val < 256 := (i 1).isLt
  rw [e, shapeCast_apply _ _ _ (i1 (256 * (i 0).val + (i 1).val) (by omega) : S1024.Idx) ?_, v121_at]
  · rfl
  · rw [Shape.rowMajor_val_one, Shape.rowMajor_val_two]
    show 256 * (i 0).val + (i 1).val = (i 0).val * 256 + (i 1).val
    omega

/-! ### The call -/

/-- The product of the call at an entry. -/
theorem pay3_at (x0 : FVec Ideal S1024x3072 .f32) (x1 : FVec Ideal S3072x8192 .f32) (x2 : FVec Ideal S1024x1 .f32) (x3 : FVec Ideal S1x8192 .f32)
    (y : (T2 1024 8192).Idx) :
    ((k0_pay3 (F := Ideal) x0 x1 x2 x3 : FVec Ideal S1024x8192 .bf16) y : EReal) = (∑ k : Fin 3072, x0 (ix2 (a0 y) k : (T2 1024 3072).Idx) * x1 (ix2 k (a1 y) : (T2 3072 8192).Idx))
      * x2 (ix2 (a0 y) 0 : (T2 1024 1).Idx) * x3 (ix2 0 (a1 y) : (T2 1 8192).Idx) := by
  unfold k0_pay3
  rw [trunc_at, mul_at, mul_at, bc_row (a := 1024) (b := 8192) (by decide), bc_col (a := 1024) (b := 8192) (by decide), cast_self, cast_self]
  refine congrArg (fun s => s * x2 (ix2 (a0 y) 0 : (T2 1024 1).Idx) * x3 (ix2 0 (a1 y) : (T2 1 8192).Idx)) ?_
  have h := Ideal.matmul_plain_apply none (k0_pay1 x0) (k0_pay2 x1) (constant (T2 1024 8192) .f32 0x00000000#32) (y 0) (y 1)
  have hy : (ValueIdx.ix2 (y 0) (y 1) : (T2 1024 8192).Idx) = y := ext2 rfl rfl
  rw [hy] at h
  refine h.trans ?_
  have h0 : (constant (F := Ideal) (T2 1024 8192) .f32 0x00000000#32) y = 0 := Ideal.ofBits_zero_f32
  rw [h0, zero_add]
  refine Finset.sum_congr rfl fun k _ => ?_
  have e1 : ∀ z : (T2 1024 3072).Idx, ((k0_pay1 (F := Ideal) x0 : (T2 1024 3072).Idx → EReal) z : EReal) = x0 z := fun z => cast_self x0 shapeCasts_S1024x3072_S1024x3072 z
  have e2 : ∀ z : (T2 3072 8192).Idx, ((k0_pay2 (F := Ideal) x1 : (T2 3072 8192).Idx → EReal) z : EReal) = x1 z := fun z => cast_self x1 shapeCasts_S3072x8192_S3072x8192 z
  rw [e1, e2]
  congr 1
  · exact congrArg x0 (ext2 (A := 1024) (B := 3072) (Nat.mod_eq_of_lt (a0_lt y)).symm (Nat.mod_eq_of_lt k.isLt).symm)
  · exact congrArg x1 (ext2 (A := 3072) (B := 8192) (Nat.mod_eq_of_lt k.isLt).symm (Nat.mod_eq_of_lt (a1_lt y)).symm)

end Cert.ReferenceIdeal.Run
-- ==== Proof.RefOut.lean ====
module

public import proofs.«01_k».proof.Proof.RefBlk
public import proofs.«01_k».proof.Proof.RefCall

@[expose] public section

noncomputable section

/-! What the reference's call leaves in its three output arrays. -/

namespace Cert.ReferenceIdeal.Run

open Cert.ReferenceIdeal Cert.ReferenceIdeal.Gen Idealize.ShloMosaic Idealize.ShloMosaic.TcCoe Idealize.SL.Sem
open Cert.Fp8

variable (m : (ℓ : Loc nD τ sig) → Buf (Elt Ideal) ℓ) (c : Dev nD)

set_option maxRecDepth 65536
set_option maxHeartbeats 0

/-! ### What the body stores -/

theorem off_zero : (![0, 0] : Fin 2 → ℕ) = fun _ => 0 := by funext a; fin_cases a <;> rfl

theorem out4_at (x0 : FVec Ideal S1024x3072 .f32) (x1 : FVec Ideal S3072x8192 .f32) (x2 : FVec Ideal S1024x1 .f32) (x3 : FVec Ideal S1x8192 .f32) (y : (T2 1024 3072).Idx) :
    ((out0_4 (F := Ideal) x0 x1 x2 x3 : FVec Ideal S1024x3072 .fp8e4m3) y : EReal) = x0 y := by
  unfold out0_4
  rw [View.canon_cons_unit_zero off_zero, View.ld_unit_zero off_zero]
  exact cast_self x0 shapeCasts_S1024x3072_S1024x3072 y

theorem out5_at (x0 : FVec Ideal S1024x3072 .f32) (x1 : FVec Ideal S3072x8192 .f32) (x2 : FVec Ideal S1024x1 .f32) (x3 : FVec Ideal S1x8192 .f32) (y : (T2 3072 8192).Idx) :
    ((out0_5 (F := Ideal) x0 x1 x2 x3 : FVec Ideal S3072x8192 .fp8e4m3) y : EReal) = x1 y := by
  unfold out0_5
  rw [View.canon_cons_unit_zero off_zero, View.ld_unit_zero off_zero]
  exact cast_self x1 shapeCasts_S3072x8192_S3072x8192 y

theorem out6_at (x0 : FVec Ideal S1024x3072 .f32) (x1 : FVec Ideal S3072x8192 .f32) (x2 : FVec Ideal S1024x1 .f32) (x3 : FVec Ideal S1x8192 .f32) (y : (T2 1024 8192).Idx) :
    ((out0_6 (F := Ideal) x0 x1 x2 x3 : FVec Ideal S1024x8192 .bf16) y : EReal) = (∑ k : Fin 3072, x0 (ix2 (a0 y) k : (T2 1024 3072).Idx) * x1 (ix2 k (a1 y) : (T2 3072 8192).Idx))
      * x2 (ix2 (a0 y) 0 : (T2 1024 1).Idx) * x3 (ix2 0 (a1 y) : (T2 1 8192).Idx) := by
  unfold out0_6
  rw [View.canon_cons_unit_zero off_zero, View.ld_unit_zero off_zero, View.ld_unit_zero off_zero, View.ld_unit_zero off_zero, View.ld_unit_zero off_zero]
  exact pay3_at x0 x1 x2 x3 y

/-! ### The arrays, over any contents of the input arrays -/

/-- The block of window `w` at `t` of the arrays `g`. -/
def rg (g : (b : Ref sig .tc) → Buf (Elt Ideal) ((c : Thread nD τ).loc b)) (w : Fin cfg0.W) (t : Fin cfg0.N) :
    ((cfg0.win w).xblock (cfg0.grid.coords t)).Idx → Elt Ideal (cfg0.win w).elt :=
  ((cfg0.win w).blk t).view.read (Elt Ideal) (g (Pipeline.arrRef spec0 w))

variable (g : (b : Ref sig .tc) → Buf (Elt Ideal) ((c : Thread nD τ).loc b))

theorem rg0 (t : Fin cfg0.N) : (rg c g 0 t : FVec Ideal S1024x3072 .f32) = (g main_v112 : FVec Ideal S1024x3072 .f32) :=
  funext fun y => rd0 (g main_v112) t y

theorem rg1 (t : Fin cfg0.N) : (rg c g 1 t : FVec Ideal S3072x8192 .f32) = (g main_v58 : FVec Ideal S3072x8192 .f32) :=
  funext fun y => rd1 (g main_v58) t y

theorem rg2 (t : Fin cfg0.N) : (rg c g 2 t : FVec Ideal S1024x1 .f32) = (g main_v124 : FVec Ideal S1024x1 .f32) :=
  funext fun y => rd2 (g main_v124) t y

theorem rg3 (t : Fin cfg0.N) : (rg c g 3 t : FVec Ideal S1x8192 .f32) = (g main_v123 : FVec Ideal S1x8192 .f32) :=
  funext fun y => rd3 (g main_v123) t y

theorem arrg4 (h : ∀ t, (dats m 0 c).after 4 t = out0_4 (rg c g 0 t) (rg c g 1 t) (rg c g 2 t) (rg c g 3 t)) (f : FVec Ideal S1024x3072 .fp8e4m3)
    (hf : ∀ y, (out0_4 (F := Ideal) (g main_v112) (g main_v58) (g main_v124) (g main_v123) : FVec Ideal S1024x3072 .fp8e4m3) y = f y) : ((dats m 0 c).arrAt 4 cfg0.N : FVec Ideal S1024x3072 .fp8e4m3) = f := by
  refine (dats m 0 c).arrAt_eq_of_covers 4 _ (by decide +kernel) fun t _ y => ?_
  have e : ((cfg0.win 4).blk t).view.emb y = y := by
    refine funext fun a => Fin.ext ?_
    blk_simp
    exact (congrArg (fun z => z * win0_4.size a + (y a).val) (at4 t a)).trans (by rw [Nat.zero_mul, Nat.zero_add])
  rw [e]
  blk_simp
  rw [h, rg0, rg1, rg2, rg3]
  exact hf y

theorem arrg5 (h : ∀ t, (dats m 0 c).after 5 t = out0_5 (rg c g 0 t) (rg c g 1 t) (rg c g 2 t) (rg c g 3 t)) (f : FVec Ideal S3072x8192 .fp8e4m3)
    (hf : ∀ y, (out0_5 (F := Ideal) (g main_v112) (g main_v58) (g main_v124) (g main_v123) : FVec Ideal S3072x8192 .fp8e4m3) y = f y) : ((dats m 0 c).arrAt 5 cfg0.N : FVec Ideal S3072x8192 .fp8e4m3) = f := by
  refine (dats m 0 c).arrAt_eq_of_covers 5 _ (by decide +kernel) fun t _ y => ?_
  have e : ((cfg0.win 5).blk t).view.emb y = y := by
    refine funext fun a => Fin.ext ?_
    blk_simp
    exact (congrArg (fun z => z * win0_5.size a + (y a).val) (at5 t a)).trans (by rw [Nat.zero_mul, Nat.zero_add])
  rw [e]
  blk_simp
  rw [h, rg0, rg1, rg2, rg3]
  exact hf y

theorem arrg6 (h : ∀ t, (dats m 0 c).after 6 t = out0_6 (rg c g 0 t) (rg c g 1 t) (rg c g 2 t) (rg c g 3 t)) (f : FVec Ideal S1024x8192 .bf16)
    (hf : ∀ y, (out0_6 (F := Ideal) (g main_v112) (g main_v58) (g main_v124) (g main_v123) : FVec Ideal S1024x8192 .bf16) y = f y) : ((dats m 0 c).arrAt 6 cfg0.N : FVec Ideal S1024x8192 .bf16) = f := by
  refine (dats m 0 c).arrAt_eq_of_covers 6 _ (by decide +kernel) fun t _ y => ?_
  have e : ((cfg0.win 6).blk t).view.emb y = y := by
    refine funext fun a => Fin.ext ?_
    blk_simp
    exact (congrArg (fun z => z * win0_6.size a + (y a).val) (at6 t a)).trans (by rw [Nat.zero_mul, Nat.zero_add])
  rw [e]
  blk_simp
  rw [h, rg0, rg1, rg2, rg3]
  exact hf y

/-- The product over entries given in closed form. -/
theorem prod_at (x0 : FVec Ideal S1024x3072 .f32) (x1 : FVec Ideal S3072x8192 .f32) (x2 : FVec Ideal S1024x1 .f32) (x3 : FVec Ideal S1x8192 .f32)
    (x : FVec Ideal (T2 1024 3072) .bf16) (a : FVec Ideal (T2 1 3072) .f32) (w : FVec Ideal (T2 3072 8192) .bf16)
    (h0 : ∀ i : S1024x3072.Idx, x0 i = xcF x a (i 0).val (i 1).val) (h1 : ∀ i : S3072x8192.Idx, x1 i = wcF x a w (i 0).val (i 1).val)
    (h2 : ∀ i : S1024x1.Idx, x2 i = xscF x a (i 0).val) (h3 : ∀ i : S1x8192.Idx, x3 i = wscF x a w (i 1).val) (y : (T2 1024 8192).Idx) :
    ((out0_6 (F := Ideal) x0 x1 x2 x3 : FVec Ideal S1024x8192 .bf16) y : EReal) = yF x a w (a0 y) (a1 y) := by
  rw [out6_at, h2, h3]
  unfold yF
  have e0 : a0 y % 1024 = a0 y := Nat.mod_eq_of_lt (a0_lt y)
  have e1 : a1 y % 8192 = a1 y := Nat.mod_eq_of_lt (a1_lt y)
  have ek : ∀ k : Fin 3072, (k : ℕ) % 3072 = k := fun k => Nat.mod_eq_of_lt k.isLt
  have es : (∑ k : Fin 3072, x0 (ix2 (a0 y) k : (T2 1024 3072).Idx) * x1 (ix2 k (a1 y) : (T2 3072 8192).Idx)) = ∑ k : Fin 3072, xcF x a (a0 y) k * wcF x a w k (a1 y) := by
    refine Finset.sum_congr rfl fun k _ => ?_
    rw [h0, h1]
    exact congrArg₂ (· * ·) (congrArg₂ (xcF x a) e0 (ek k)) (congrArg₂ (wcF x a w) (ek k) e1)
  exact congrArg₂ (· * ·) (congrArg₂ (· * ·) es (congrArg (xscF x a) e0)) (congrArg (wscF x a w) e1)

end Cert.ReferenceIdeal.Run
-- ==== Proof.RefArr.lean ====
module

public import proofs.«01_k».proof.Proof.RefOut

@[expose] public section

noncomputable section

/-! The reference's outputs in closed form. -/

namespace Cert.ReferenceIdeal.Run

open Cert.ReferenceIdeal Cert.ReferenceIdeal.Gen Idealize.ShloMosaic Idealize.ShloMosaic.TcCoe Idealize.SL.Sem
open Cert.Fp8

variable (m : (ℓ : Loc nD τ sig) → Buf (Elt Ideal) ℓ) (c : Dev nD)

set_option maxRecDepth 65536
set_option maxHeartbeats 0

theorem iblk_rg (w : Fin cfg0.W) (t : Fin cfg0.N) : iblk m c w t = rg c (V m c) w t := by
  unfold iblk rg
  with_reducible rfl

theorem after4 (t : Fin cfg0.N) : (dats m 0 c).after 4 t = out0_4 (rg c (V m c) 0 t) (rg c (V m c) 1 t) (rg c (V m c) 2 t) (rg c (V m c) 3 t) := by
  have h := after0_4 m c t
  rw [iblk_rg, iblk_rg, iblk_rg, iblk_rg] at h
  exact h

theorem after5 (t : Fin cfg0.N) : (dats m 0 c).after 5 t = out0_5 (rg c (V m c) 0 t) (rg c (V m c) 1 t) (rg c (V m c) 2 t) (rg c (V m c) 3 t) := by
  have h := after0_5 m c t
  rw [iblk_rg, iblk_rg, iblk_rg, iblk_rg] at h
  exact h

theorem after6 (t : Fin cfg0.N) : (dats m 0 c).after 6 t = out0_6 (rg c (V m c) 0 t) (rg c (V m c) 1 t) (rg c (V m c) 2 t) (rg c (V m c) 3 t) := by
  have h := after0_6 m c t
  rw [iblk_rg, iblk_rg, iblk_rg, iblk_rg] at h
  exact h

/-- The input's codes. -/
theorem arr4 (y : (T2 1024 3072).Idx) : (((dats m 0 c).arrAt 4 cfg0.N : FVec Ideal S1024x3072 .fp8e4m3) y : EReal) = xcF (X m c) (A m c) (a0 y) (a1 y) :=
  congrFun (arrg4 m c (V m c) (after4 m c) (fun y : (T2 1024 3072).Idx => xcF (X m c) (A m c) (a0 y) (a1 y))
    fun y => (out4_at _ _ _ _ y).trans (v112_at m c y)) y

/-- The weights' codes. -/
theorem arr5 (y : (T2 3072 8192).Idx) : (((dats m 0 c).arrAt 5 cfg0.N : FVec Ideal S3072x8192 .fp8e4m3) y : EReal) = wcF (X m c) (A m c) (W m c) (a0 y) (a1 y) :=
  congrFun (arrg5 m c (V m c) (after5 m c) (fun y : (T2 3072 8192).Idx => wcF (X m c) (A m c) (W m c) (a0 y) (a1 y))
    fun y => (out5_at _ _ _ _ y).trans (v58_at m c y)) y

/-- The result. -/
theorem arr6 (y : (T2 1024 8192).Idx) : (((dats m 0 c).arrAt 6 cfg0.N : FVec Ideal S1024x8192 .bf16) y : EReal) = yF (X m c) (A m c) (W m c) (a0 y) (a1 y) :=
  congrFun (arrg6 m c (V m c) (after6 m c) (fun y : (T2 1024 8192).Idx => yF (X m c) (A m c) (W m c) (a0 y) (a1 y))
    fun y => prod_at _ _ _ _ (X m c) (A m c) (W m c) (v112_at m c) (v58_at m c) (v124_at m c) (v123_at m c) y) y

end Cert.ReferenceIdeal.Run
-- ==== Proof.RefValues.lean ====
module

public import proofs.«01_k».proof.Proof.RefArr
public import proofs.«01_k».proof.Proof.Closed

@[expose] public section

noncomputable section

/-! What every run of the reference leaves in its results. -/

namespace Cert.ReferenceIdeal.Run

open Cert.ReferenceIdeal Cert.ReferenceIdeal.Gen Idealize.ShloMosaic Idealize.ShloMosaic.TcCoe Idealize.SL.Sem
open Cert.Fp8

variable (m : (ℓ : Loc nD τ sig) → Buf (Elt Ideal) ℓ) (ρ : Dev nD → PrngReg)

set_option maxRecDepth 65536

/-- The array of window 3 is the buffer of the weights' scales. -/
theorem arr_wsc (c : Dev nD) (g : (b : Ref sig .tc) → Buf (Elt Ideal) ((c : Thread nD τ).loc b)) (x : Buf (Elt Ideal) ((c : Thread nD τ).loc main_v123))
    (h : x = g (Pipeline.arrRef spec0 3)) : x = g main_v123 := h

theorem buf_wsc (c : Dev nD) : (V m c main_v123 : FVec Ideal S1x8192 .f32) = wscC (X m c) (A m c) (W m c) := funext fun i => v123_at m c i
theorem buf_s (c : Dev nD) : (V m c main_v122 : FVec Ideal S1x3072 .f32) = sC (X m c) (A m c) := funext fun i => v122_at m c i
theorem buf_xsc (c : Dev nD) : (V m c main_v125 : FVec Ideal S4x256 .f32) = xscC (X m c) (A m c) := funext fun i => v125_at m c i
theorem buf_xc (c : Dev nD) : ((dats m 0 c).arrAt 4 cfg0.N : FVec Ideal S1024x3072 .fp8e4m3) = xcC (X m c) (A m c) := funext fun i => arr4 m c i
theorem buf_wc (c : Dev nD) : ((dats m 0 c).arrAt 5 cfg0.N : FVec Ideal S3072x8192 .fp8e4m3) = wcC (X m c) (A m c) (W m c) := funext fun i => arr5 m c i
theorem buf_y (c : Dev nD) : ((dats m 0 c).arrAt 6 cfg0.N : FVec Ideal S1024x8192 .bf16) = yC (X m c) (A m c) (W m c) := funext fun i => arr6 m c i

section
variable (r : PUnit × MemSt nD τ sig (Elt Ideal)) (h : Pipeline.FramePost cfgs (dats m) 0 (V m) r) (c : Dev nD)
include h

theorem end_y : r.2.mem ((c : Thread nD τ).loc main_v126_2) = yC (X m c) (A m c) (W m c) := (Value.post6 m r h c).trans (buf_y m c)
theorem end_wc : r.2.mem ((c : Thread nD τ).loc main_v126_1) = wcC (X m c) (A m c) (W m c) := (Value.post5 m r h c).trans (buf_wc m c)
theorem end_xc : r.2.mem ((c : Thread nD τ).loc main_v126_0) = xcC (X m c) (A m c) := (Value.post4 m r h c).trans (buf_xc m c)
theorem end_s : r.2.mem ((c : Thread nD τ).loc main_v122) = sC (X m c) (A m c) :=
  ((h c).2 main_v122 (Pipeline.mem_restRefs_of main_v122 (by decide) (by decide))).trans (buf_s m c)
theorem end_xsc : r.2.mem ((c : Thread nD τ).loc main_v125) = xscC (X m c) (A m c) :=
  ((h c).2 main_v125 (Pipeline.mem_restRefs_of main_v125 (by decide) (by decide))).trans (buf_xsc m c)
theorem end_wsc : r.2.mem ((c : Thread nD τ).loc main_v123) = wscC (X m c) (A m c) (W m c) :=
  (arr_wsc c (V m c) _ (((h c).1 3).trans (((dats m 0 c).arrAt_in 3 rfl _).trans (A_eq m c 3)))).trans (buf_wsc m c)

end

/-- Every run ends with the six results at their closed forms and the arguments as they were. -/
theorem values : θ_run defs (onTc (τ := τ) (main (F := Ideal))) ⟨m, fun _ => 0, ρ⟩ fun r => ∀ c : Dev nD,
      r.2.mem ((c.tc : Thread nD τ).loc main_v126_2) = yC (X m c) (A m c) (W m c)
      ∧ r.2.mem ((c.tc : Thread nD τ).loc main_v122) = sC (X m c) (A m c)
      ∧ r.2.mem ((c.tc : Thread nD τ).loc main_v126_1) = wcC (X m c) (A m c) (W m c)
      ∧ r.2.mem ((c.tc : Thread nD τ).loc main_v123) = wscC (X m c) (A m c) (W m c)
      ∧ r.2.mem ((c.tc : Thread nD τ).loc main_v126_0) = xcC (X m c) (A m c)
      ∧ r.2.mem ((c.tc : Thread nD τ).loc main_v125) = xscC (X m c) (A m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨end_y m r h c, end_s m r h c, end_wc m r h c, end_wsc m r h c, end_xc m r h c, end_xsc m r h c,
    Value.kept_main_arg0 m r h c, Value.kept_main_arg1 m r h c, Value.kept_main_arg2 m r h c⟩) (run_main m ρ)

end Cert.ReferenceIdeal.Run
-- ==== Proof.Agree.lean ====
module

public import proofs.«01_k».proof.Defs
public import proofs.«01_k».proof.Proof.KValues
public import proofs.«01_k».proof.Proof.RefValues

@[expose] public section

noncomputable section

/-! The kernel and the reference end with the same results. -/

namespace Cert.Agree

open Idealize.ShloMosaic Idealize.ShloMosaic.TcCoe Idealize.SL.Sem
open Cert.Fp8

/-- The precondition's side condition. -/
theorem pre_facts : Cert.Pre_absmax_not_infinite.Facts := ⟨by decide⟩

theorem lt_of_cmp {a b : EReal} (h : Ideal.cmp .olt a b = 1#1) : a < b := by
  by_contra hn
  unfold Ideal.cmp at h
  dsimp only at h
  simp [hn] at h

/-- Where the precondition holds, no largest magnitude is infinite. -/
theorem lt_top (a0 : FVec Ideal ⟨3, ![4, 256, 3072]⟩ .bf16) (a1 : FVec Ideal ⟨2, ![3072, 8192]⟩ .bf16) (a2 : FVec Ideal ⟨1, ![3072]⟩ .f32)
    (h : @Cert.Pre_absmax_not_infinite.fn pre_facts Ideal _ a0 a1 a2 = fun _ => 1#1) (i : Shape.Idx ⟨1, ![3072]⟩) : (a2 i : EReal) < ⊤ := by
  have h1 : Ideal.cmp .olt (a2 i) (Ideal.ofBits .f32 0x7F800000#32) = 1#1 := congrFun h i
  have htop : Ideal.ofBits .f32 0x7F800000#32 = ⊤ := val_top
  rw [htop] at h1
  exact lt_of_cmp h1

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem same_X (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Run.X m' c = Cert.KernelIdeal.Run.X m c := by
  rw [Cert.KernelIdeal.Run.X_eq, ← h]
  rfl

theorem same_A (c : Dev Cert.KernelIdeal.nD)
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Run.A m' c = Cert.KernelIdeal.Run.A m c := by
  rw [Cert.KernelIdeal.Run.A_eq', ← h]
  rfl

theorem same_W (c : Dev Cert.KernelIdeal.nD)
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Run.W m' c = Cert.KernelIdeal.Run.W m c := by
  rw [Cert.KernelIdeal.Run.W_eq, ← h]
  rfl

/-- No entry of the kernel's row of largest magnitudes is infinite. -/
theorem A_lt_top (hp : Cert.Pre_KernelIdeal_absmax_not_infinite (hPre_absmax_not_infinite := pre_facts) m) (c : Dev Cert.KernelIdeal.nD) (x) :
    Cert.KernelIdeal.Run.A m c x < (⊤ : EReal) := by
  rw [Cert.KernelIdeal.Run.A_eq']
  exact lt_top _ _ _ (hp c) _

end

/-- The kernel and the reference, run from memories with the same arguments, end with the same six results. -/
theorem algebraic : Cert.algebraic_KernelIdeal_ReferenceIdeal_pre_absmax_not_infinite (hKernelIdeal := Cert.KernelIdeal.Gen.facts)
    (hReferenceIdeal := Cert.ReferenceIdeal.Gen.facts) (hPre_absmax_not_infinite := pre_facts) := by
  intro m g m' g' hp hargs
  refine ⟨fun c => yC (Cert.KernelIdeal.Run.X m c) (Cert.KernelIdeal.Run.A m c) (Cert.KernelIdeal.Run.W m c),
    fun c => sC (Cert.KernelIdeal.Run.X m c) (Cert.KernelIdeal.Run.A m c),
    fun c => wcC (Cert.KernelIdeal.Run.X m c) (Cert.KernelIdeal.Run.A m c) (Cert.KernelIdeal.Run.W m c),
    fun c => wscC (Cert.KernelIdeal.Run.X m c) (Cert.KernelIdeal.Run.A m c) (Cert.KernelIdeal.Run.W m c),
    fun c => xcC (Cert.KernelIdeal.Run.X m c) (Cert.KernelIdeal.Run.A m c),
    fun c => xscC (Cert.KernelIdeal.Run.X m c) (Cert.KernelIdeal.Run.A m c),
    Cert.KernelIdeal.Run.forms m g fun c x => A_lt_top m hp c x, ?_⟩
  refine (θ_run Cert.ReferenceIdeal.defs _ _).mono (fun r h c => ?_) (Cert.ReferenceIdeal.Run.values m' g')
  have h1 := h c
  rw [same_X m m' c (hargs c).1, same_A m m' c (hargs c).2.2, same_W m m' c (hargs c).2.1] at h1
  exact h1

end Cert.Agree
-- ==== Proof.lean ====
module
public import proofs.«01_k».proof.Defs
public import proofs.«01_k».proof.Proof.LaunchIdeal
public import proofs.«01_k».proof.Proof.LaunchKernel
public import proofs.«01_k».proof.Proof.Gen.ReferenceIdeal.Frame
public import proofs.«01_k».proof.Proof.Agree
@[expose] public section

/-! The claim. -/

namespace Cert.Proof
open Idealize.ShloMosaic

/-- Every run of the kernel, of its ideal and of the reference ends with the arguments as they were and no semaphore raised,
    and the kernel's ideal and the reference end with the same six results. -/
theorem claim : Cert.Claim :=
  ⟨Cert.Kernel.Gen.facts, Cert.KernelIdeal.Gen.facts, Cert.ReferenceIdeal.Gen.facts, Cert.Agree.pre_facts,
    fun m ρ _ => Cert.Kernel.Run.quiet m ρ,
    fun m ρ _ => Cert.KernelIdeal.Run.quiet m ρ, fun m ρ _ => Cert.KernelIdeal.Run.quiet m ρ,
    fun m ρ _ => Cert.ReferenceIdeal.Gen.frame m ρ, fun m ρ _ => Cert.ReferenceIdeal.Gen.frame m ρ,
    trivial, Cert.Agree.algebraic⟩

end Cert.Proof
